-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v407) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S18x4352x46x96 : Shape := ⟨4, ![18, 4352, 46, 96]⟩
abbrev S18x4352x23x48 : Shape := ⟨4, ![18, 4352, 23, 48]⟩
abbrev S18x4352x11x24 : Shape := ⟨4, ![18, 4352, 11, 24]⟩
abbrev S18x4352x5x12 : Shape := ⟨4, ![18, 4352, 5, 12]⟩
abbrev S18x4352x4 : Shape := ⟨3, ![18, 4352, 4]⟩
abbrev S18x4352x2 : Shape := ⟨3, ![18, 4352, 2]⟩
abbrev S_ : Shape := ⟨0, ![]⟩

class Facts : Prop where
  bcast_S_S18x4352x4 : S_.BroadcastsInDim S18x4352x4 (![] : Fin 0 → Fin S18x4352x4.rank)

variable [Facts]

def fn {F : FTy → Type} [FloatOps F] (main_arg0 : IVec S18x4352x46x96 8) (main_arg1 : IVec S18x4352x23x48 8) (main_arg2 : IVec S18x4352x11x24 8) (main_arg3 : IVec S18x4352x5x12 8) (main_arg4 : FVec F S18x4352x4 .f32) (main_arg5 : FVec F S18x4352x2 .f32) : IVec S18x4352x4 1 :=
  let main_v0 : FVec F S18x4352x4 .f32 := Host.absf main_arg4
  let main_cst : FVec F S_ .f32 := constant S_ .f32 0x7F800000#32
  let main_v1 : FVec F S18x4352x4 .f32 := broadcastInDim S18x4352x4 ![] bcast_S_S18x4352x4 main_cst
  let main_v2 : IVec S18x4352x4 1 := cmpf .olt main_v0 main_v1
  main_v2
-- ==== Kernel.lean ====
abbrev S18x4352x46x96 : Shape := ⟨4, ![18, 4352, 46, 96]⟩
abbrev S18x4352x23x48 : Shape := ⟨4, ![18, 4352, 23, 48]⟩
abbrev S18x4352x11x24 : Shape := ⟨4, ![18, 4352, 11, 24]⟩
abbrev S18x4352x5x12 : Shape := ⟨4, ![18, 4352, 5, 12]⟩
abbrev S18x4352x4 : Shape := ⟨3, ![18, 4352, 4]⟩
abbrev S18x4352x2 : Shape := ⟨3, ![18, 4352, 2]⟩
abbrev S18x46x96x4352 : Shape := ⟨4, ![18, 46, 96, 4352]⟩
abbrev S18x23x48x4352 : Shape := ⟨4, ![18, 23, 48, 4352]⟩
abbrev S18x11x24x4352 : Shape := ⟨4, ![18, 11, 24, 4352]⟩
abbrev S18x5x12x4352 : Shape := ⟨4, ![18, 5, 12, 4352]⟩
abbrev S18x4x4352 : Shape := ⟨3, ![18, 4, 4352]⟩
abbrev S18x2x4352 : Shape := ⟨3, ![18, 2, 4352]⟩
abbrev S18x324x4352 : Shape := ⟨3, ![18, 324, 4352]⟩
abbrev S1x46x96x256 : Shape := ⟨4, ![1, 46, 96, 256]⟩
abbrev S1x23x48x256 : Shape := ⟨4, ![1, 23, 48, 256]⟩
abbrev S1x11x24x256 : Shape := ⟨4, ![1, 11, 24, 256]⟩
abbrev S1x5x12x256 : Shape := ⟨4, ![1, 5, 12, 256]⟩
abbrev S1x4x256 : Shape := ⟨3, ![1, 4, 256]⟩
abbrev S1x2x256 : Shape := ⟨3, ![1, 2, 256]⟩
abbrev S1x324x256 : Shape := ⟨3, ![1, 324, 256]⟩
abbrev S728x128 : Shape := ⟨2, ![728, 128]⟩
abbrev S648x128 : Shape := ⟨2, ![648, 128]⟩
abbrev S8x128 : Shape := ⟨2, ![8, 128]⟩
abbrev S2x256 : Shape := ⟨2, ![2, 256]⟩
abbrev S4x256 : Shape := ⟨2, ![4, 256]⟩
abbrev S2x128 : Shape := ⟨2, ![2, 128]⟩
abbrev S1x128 : Shape := ⟨2, ![1, 128]⟩
abbrev S4x128 : Shape := ⟨2, ![4, 128]⟩
abbrev S1x1x32x128 : Shape := ⟨4, ![1, 1, 32, 128]⟩
abbrev S32x128 : Shape := ⟨2, ![32, 128]⟩
abbrev S1x1x16x128 : Shape := ⟨4, ![1, 1, 16, 128]⟩
abbrev S16x128 : Shape := ⟨2, ![16, 128]⟩
abbrev S1x1x24x128 : Shape := ⟨4, ![1, 1, 24, 128]⟩
abbrev S24x128 : Shape := ⟨2, ![24, 128]⟩
abbrev S6x128 : Shape := ⟨2, ![6, 128]⟩
abbrev S1x1x12x128 : Shape := ⟨4, ![1, 1, 12, 128]⟩
abbrev S12x128 : Shape := ⟨2, ![12, 128]⟩
abbrev S3x128 : Shape := ⟨2, ![3, 128]⟩
abbrev S1x16x128 : Shape := ⟨3, ![1, 16, 128]⟩
abbrev S1x4x128 : Shape := ⟨3, ![1, 4, 128]⟩
abbrev S18x4352x324 : Shape := ⟨3, ![18, 4352, 324]⟩

abbrev nBuf : Space → Nat
  | .hbm => 14
  | .vmem => 16
  | .smem => 0
  | _ => 0

abbrev bufTy : (tb : Table) → Fin (tcTables nBuf tb) → BufTy
  | .hbm, ⟨0, _⟩ => ⟨S18x4352x46x96, .i8⟩
  | .hbm, ⟨1, _⟩ => ⟨S18x4352x23x48, .i8⟩
  | .hbm, ⟨2, _⟩ => ⟨S18x4352x11x24, .i8⟩
  | .hbm, ⟨3, _⟩ => ⟨S18x4352x5x12, .i8⟩
  | .hbm, ⟨4, _⟩ => ⟨S18x4352x4, .f32⟩
  | .hbm, ⟨5, _⟩ => ⟨S18x4352x2, .f32⟩
  | .hbm, ⟨6, _⟩ => ⟨S18x46x96x4352, .i8⟩
  | .hbm, ⟨7, _⟩ => ⟨S18x23x48x4352, .i8⟩
  | .hbm, ⟨8, _⟩ => ⟨S18x11x24x4352, .i8⟩
  | .hbm, ⟨9, _⟩ => ⟨S18x5x12x4352, .i8⟩
  | .hbm, ⟨10, _⟩ => ⟨S18x4x4352, .f32⟩
  | .hbm, ⟨11, _⟩ => ⟨S18x2x4352, .f32⟩
  | .hbm, ⟨12, _⟩ => ⟨S18x324x4352, .bf16⟩
  | .hbm, ⟨13, _⟩ => ⟨S18x4352x324, .bf16⟩
  | .local _ .vmem, ⟨0, _⟩ => ⟨S1x46x96x256, .i8⟩
  | .local _ .vmem, ⟨1, _⟩ => ⟨S1x46x96x256, .i8⟩
  | .local _ .vmem, ⟨2, _⟩ => ⟨S1x23x48x256, .i8⟩
  | .local _ .vmem, ⟨3, _⟩ => ⟨S1x23x48x256, .i8⟩
  | .local _ .vmem, ⟨4, _⟩ => ⟨S1x11x24x256, .i8⟩
  | .local _ .vmem, ⟨5, _⟩ => ⟨S1x11x24x256, .i8⟩
  | .local _ .vmem, ⟨6, _⟩ => ⟨S1x5x12x256, .i8⟩
  | .local _ .vmem, ⟨7, _⟩ => ⟨S1x5x12x256, .i8⟩
  | .local _ .vmem, ⟨8, _⟩ => ⟨S1x4x256, .f32⟩
  | .local _ .vmem, ⟨9, _⟩ => ⟨S1x4x256, .f32⟩
  | .local _ .vmem, ⟨10, _⟩ => ⟨S1x2x256, .f32⟩
  | .local _ .vmem, ⟨11, _⟩ => ⟨S1x2x256, .f32⟩
  | .local _ .vmem, ⟨12, _⟩ => ⟨S1x324x256, .bf16⟩
  | .local _ .vmem, ⟨13, _⟩ => ⟨S1x324x256, .bf16⟩
  | .local _ .vmem, ⟨14, _⟩ => ⟨S728x128, .i32⟩
  | .local _ .vmem, ⟨15, _⟩ => ⟨S648x128, .f32⟩
  | _, _ => ⟨S18x4352x46x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![18, 17], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x46x96x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x23x48x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x11x24x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x12x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x324x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S18x4352x46x96 : Shape := ⟨4, ![18, 4352, 46, 96]⟩
abbrev S18x4352x23x48 : Shape := ⟨4, ![18, 4352, 23, 48]⟩
abbrev S18x4352x11x24 : Shape := ⟨4, ![18, 4352, 11, 24]⟩
abbrev S18x4352x5x12 : Shape := ⟨4, ![18, 4352, 5, 12]⟩
abbrev S18x4352x4 : Shape := ⟨3, ![18, 4352, 4]⟩
abbrev S18x4352x2 : Shape := ⟨3, ![18, 4352, 2]⟩
abbrev S4352 : Shape := ⟨1, ![4352]⟩
abbrev S_ : Shape := ⟨0, ![]⟩
abbrev S18x4352x1 : Shape := ⟨3, ![18, 4352, 1]⟩
abbrev S18x4352 : Shape := ⟨2, ![18, 4352]⟩
abbrev S1x4352 : Shape := ⟨2, ![1, 4352]⟩
abbrev S18x4352x1x1 : Shape := ⟨4, ![18, 4352, 1, 1]⟩
abbrev S10 : Shape := ⟨1, ![10]⟩
abbrev S1x1x10 : Shape := ⟨3, ![1, 1, 10]⟩
abbrev S18x4352x10 : Shape := ⟨3, ![18, 4352, 10]⟩
abbrev S18x4352x10x1 : Shape := ⟨4, ![18, 4352, 10, 1]⟩
abbrev S18x4352x1x10 : Shape := ⟨4, ![18, 4352, 1, 10]⟩
abbrev S18x4352x10x10 : Shape := ⟨4, ![18, 4352, 10, 10]⟩
abbrev S18x4352x100 : Shape := ⟨3, ![18, 4352, 100]⟩
abbrev S18x4352x4416 : Shape := ⟨3, ![18, 4352, 4416]⟩
abbrev S18x4352x100x1 : Shape := ⟨4, ![18, 4352, 100, 1]⟩
abbrev S1 : Shape := ⟨1, ![1]⟩
abbrev S1x1x1x1 : Shape := ⟨4, ![1, 1, 1, 1]⟩
abbrev S18x4352x9x9 : Shape := ⟨4, ![18, 4352, 9, 9]⟩
abbrev S18x4352x81 : Shape := ⟨3, ![18, 4352, 81]⟩
abbrev S18x4352x1104 : Shape := ⟨3, ![18, 4352, 1104]⟩
abbrev S18x4352x264 : Shape := ⟨3, ![18, 4352, 264]⟩
abbrev S18x4352x60 : Shape := ⟨3, ![18, 4352, 60]⟩
abbrev S18x4352x324 : Shape := ⟨3, ![18, 4352, 324]⟩

abbrev nBuf : Space → Nat
  | .hbm => 673
  | .vmem => 0
  | .smem => 0
  | _ => 0

abbrev hbmTy0_0 (i : Nat) : BufTy := match i % 128 with
  | 0 => ⟨S18x4352x46x96, .i8⟩
  | 1 => ⟨S18x4352x23x48, .i8⟩
  | 2 => ⟨S18x4352x11x24, .i8⟩
  | 3 => ⟨S18x4352x5x12, .i8⟩
  | 4 => ⟨S18x4352x4, .f32⟩
  | 5 => ⟨S18x4352x2, .f32⟩
  | 6 => ⟨S4352, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S4352, .i32⟩
  | 14 => ⟨S4352, .i32⟩
  | 15 => ⟨S_, .i32⟩
  | 16 => ⟨S4352, .i32⟩
  | 17 => ⟨S4352, .i1⟩
  | 18 => ⟨S_, .i32⟩
  | 19 => ⟨S4352, .i32⟩
  | 20 => ⟨S4352, .i1⟩
  | 21 => ⟨S_, .i32⟩
  | 22 => ⟨S_, .i1⟩
  | 23 => ⟨S4352, .i1⟩
  | 24 => ⟨S4352, .i1⟩
  | 25 => ⟨S4352, .i1⟩
  | 26 => ⟨S4352, .i32⟩
  | 27 => ⟨S4352, .i32⟩
  | 28 => ⟨S4352, .i32⟩
  | 29 => ⟨S4352, .f32⟩
  | 30 => ⟨S_, .i32⟩
  | 31 => ⟨S_, .i32⟩
  | 32 => ⟨S4352, .i32⟩
  | 33 => ⟨S4352, .i32⟩
  | 34 => ⟨S4352, .i32⟩
  | 35 => ⟨S_, .i32⟩
  | 36 => ⟨S4352, .i32⟩
  | 37 => ⟨S4352, .i1⟩
  | 38 => ⟨S4352, .i32⟩
  | 39 => ⟨S4352, .i32⟩
  | 40 => ⟨S_, .i32⟩
  | 41 => ⟨S4352, .i32⟩
  | 42 => ⟨S4352, .i1⟩
  | 43 => ⟨S4352, .i1⟩
  | 44 => ⟨S_, .i32⟩
  | 45 => ⟨S4352, .i32⟩
  | 46 => ⟨S4352, .i32⟩
  | 47 => ⟨S4352, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S4352, .i32⟩
  | 55 => ⟨S4352, .i32⟩
  | 56 => ⟨S_, .i32⟩
  | 57 => ⟨S4352, .i32⟩
  | 58 => ⟨S4352, .i1⟩
  | 59 => ⟨S_, .i32⟩
  | 60 => ⟨S4352, .i32⟩
  | 61 => ⟨S4352, .i1⟩
  | 62 => ⟨S_, .i32⟩
  | 63 => ⟨S_, .i1⟩
  | 64 => ⟨S4352, .i1⟩
  | 65 => ⟨S4352, .i1⟩
  | 66 => ⟨S4352, .i1⟩
  | 67 => ⟨S4352, .i32⟩
  | 68 => ⟨S4352, .i32⟩
  | 69 => ⟨S4352, .i32⟩
  | 70 => ⟨S4352, .f32⟩
  | 71 => ⟨S18x4352x1, .f32⟩
  | 72 => ⟨S18x4352, .f32⟩
  | 73 => ⟨S18x4352x1, .f32⟩
  | 74 => ⟨S18x4352, .f32⟩
  | 75 => ⟨S1x4352, .f32⟩
  | 76 => ⟨S18x4352, .f32⟩
  | 77 => ⟨S18x4352, .f32⟩
  | 78 => ⟨S_, .f32⟩
  | 79 => ⟨S18x4352, .f32⟩
  | 80 => ⟨S18x4352, .f32⟩
  | 81 => ⟨S18x4352x1, .f32⟩
  | 82 => ⟨S18x4352, .f32⟩
  | 83 => ⟨S1x4352, .f32⟩
  | 84 => ⟨S18x4352, .f32⟩
  | 85 => ⟨S18x4352, .f32⟩
  | 86 => ⟨S_, .f32⟩
  | 87 => ⟨S18x4352, .f32⟩
  | 88 => ⟨S18x4352, .f32⟩
  | 89 => ⟨S18x4352, .f32⟩
  | 90 => ⟨S18x4352, .f32⟩
  | 91 => ⟨S18x4352, .i32⟩
  | 92 => ⟨S18x4352, .i32⟩
  | 93 => ⟨S18x4352, .f32⟩
  | 94 => ⟨S18x4352x1x1, .f32⟩
  | 95 => ⟨S18x4352, .f32⟩
  | 96 => ⟨S18x4352x1x1, .f32⟩
  | 97 => ⟨S10, .i32⟩
  | 98 => ⟨S_, .i32⟩
  | 99 => ⟨S10, .i32⟩
  | 100 => ⟨S10, .i32⟩
  | 101 => ⟨S18x4352x1, .i32⟩
  | 102 => ⟨S1x1x10, .i32⟩
  | 103 => ⟨S18x4352x10, .i32⟩
  | 104 => ⟨S18x4352x10, .i32⟩
  | 105 => ⟨S18x4352x10, .i32⟩
  | 106 => ⟨S18x4352x1, .i32⟩
  | 107 => ⟨S1x1x10, .i32⟩
  | 108 => ⟨S18x4352x10, .i32⟩
  | 109 => ⟨S18x4352x10, .i32⟩
  | 110 => ⟨S18x4352x10, .i32⟩
  | 111 => ⟨S_, .i32⟩
  | 112 => ⟨S18x4352x10, .i32⟩
  | 113 => ⟨S18x4352x10, .i1⟩
  | 114 => ⟨S_, .i32⟩
  | 115 => ⟨S18x4352x10, .i32⟩
  | 116 => ⟨S18x4352x10, .i1⟩
  | 117 => ⟨S18x4352x10, .i1⟩
  | 118 => ⟨S18x4352x10x1, .i1⟩
  | 119 => ⟨S_, .i32⟩
  | 120 => ⟨S18x4352x10, .i32⟩
  | 121 => ⟨S18x4352x10, .i1⟩
  | 122 => ⟨S_, .i32⟩
  | 123 => ⟨S18x4352x10, .i32⟩
  | 124 => ⟨S18x4352x10, .i1⟩
  | 125 => ⟨S18x4352x10, .i1⟩
  | 126 => ⟨S18x4352x1x10, .i1⟩
  | 127 => ⟨S18x4352x10x10, .i1⟩
  | _ => ⟨S18x4352x46x96, .i8⟩

abbrev hbmTy0_1 (i : Nat) : BufTy := match i % 128 with
  | 0 => ⟨S18x4352x10x10, .i1⟩
  | 1 => ⟨S18x4352x10x10, .i1⟩
  | 2 => ⟨S_, .i32⟩
  | 3 => ⟨S_, .i32⟩
  | 4 => ⟨S_, .i32⟩
  | 5 => ⟨S18x4352x10, .i32⟩
  | 6 => ⟨S18x4352x10, .i32⟩
  | 7 => ⟨S_, .i32⟩
  | 8 => ⟨S18x4352x10, .i32⟩
  | 9 => ⟨S18x4352x10, .i32⟩
  | 10 => ⟨S_, .i32⟩
  | 11 => ⟨S_, .i32⟩
  | 12 => ⟨S_, .i32⟩
  | 13 => ⟨S18x4352x10, .i32⟩
  | 14 => ⟨S18x4352x10, .i32⟩
  | 15 => ⟨S_, .i32⟩
  | 16 => ⟨S18x4352x10, .i32⟩
  | 17 => ⟨S18x4352x10, .i32⟩
  | 18 => ⟨S18x4352x10x1, .i32⟩
  | 19 => ⟨S_, .i32⟩
  | 20 => ⟨S18x4352x10x1, .i32⟩
  | 21 => ⟨S18x4352x10x1, .i32⟩
  | 22 => ⟨S18x4352x1x10, .i32⟩
  | 23 => ⟨S18x4352x10x10, .i32⟩
  | 24 => ⟨S18x4352x10x10, .i32⟩
  | 25 => ⟨S18x4352x10x10, .i32⟩
  | 26 => ⟨S18x4352x100, .i32⟩
  | 27 => ⟨S18x4352x4416, .i8⟩
  | 28 => ⟨S_, .i32⟩
  | 29 => ⟨S18x4352x100, .i32⟩
  | 30 => ⟨S18x4352x100, .i1⟩
  | 31 => ⟨S_, .i32⟩
  | 32 => ⟨S18x4352x100, .i32⟩
  | 33 => ⟨S18x4352x100, .i32⟩
  | 34 => ⟨S18x4352x100, .i32⟩
  | 35 => ⟨S18x4352x100x1, .i32⟩
  | 36 => ⟨S1, .i32⟩
  | 37 => ⟨S_, .i32⟩
  | 38 => ⟨S18x4352x100x1, .i32⟩
  | 39 => ⟨S18x4352x100x1, .i1⟩
  | 40 => ⟨S1x1x1x1, .i32⟩
  | 41 => ⟨S18x4352x100x1, .i32⟩
  | 42 => ⟨S18x4352x100x1, .i1⟩
  | 43 => ⟨S18x4352x100x1, .i1⟩
  | 44 => ⟨S_, .i1⟩
  | 45 => ⟨S18x4352x100, .i1⟩
  | 46 => ⟨S18x4352x100, .i8⟩
  | 47 => ⟨S_, .i8⟩
  | 48 => ⟨S18x4352x100, .i8⟩
  | 49 => ⟨S18x4352x100, .i8⟩
  | 50 => ⟨S18x4352x10x10, .i8⟩
  | 51 => ⟨S18x4352x10x10, .i32⟩
  | 52 => ⟨S18x4352x10x10, .f32⟩
  | 53 => ⟨S_, .f32⟩
  | 54 => ⟨S_, .f32⟩
  | 55 => ⟨S18x4352x10x10, .f32⟩
  | 56 => ⟨S18x4352x10x10, .f32⟩
  | 57 => ⟨S_, .f32⟩
  | 58 => ⟨S18x4352x1x1, .f32⟩
  | 59 => ⟨S18x4352x1x1, .f32⟩
  | 60 => ⟨S_, .f32⟩
  | 61 => ⟨S18x4352x1x1, .f32⟩
  | 62 => ⟨S18x4352x1x1, .f32⟩
  | 63 => ⟨S18x4352x1x1, .f32⟩
  | 64 => ⟨S18x4352x9x9, .f32⟩
  | 65 => ⟨S18x4352x9x9, .f32⟩
  | 66 => ⟨S18x4352x9x9, .f32⟩
  | 67 => ⟨S_, .f32⟩
  | 68 => ⟨S18x4352x1x1, .f32⟩
  | 69 => ⟨S18x4352x1x1, .f32⟩
  | 70 => ⟨S18x4352x1x1, .f32⟩
  | 71 => ⟨S18x4352x9x9, .f32⟩
  | 72 => ⟨S18x4352x9x9, .f32⟩
  | 73 => ⟨S18x4352x9x9, .f32⟩
  | 74 => ⟨S18x4352x9x9, .f32⟩
  | 75 => ⟨S_, .f32⟩
  | 76 => ⟨S18x4352x1x1, .f32⟩
  | 77 => ⟨S18x4352x1x1, .f32⟩
  | 78 => ⟨S18x4352x1x1, .f32⟩
  | 79 => ⟨S18x4352x9x9, .f32⟩
  | 80 => ⟨S18x4352x9x9, .f32⟩
  | 81 => ⟨S18x4352x9x9, .f32⟩
  | 82 => ⟨S18x4352x9x9, .f32⟩
  | 83 => ⟨S18x4352x1x1, .f32⟩
  | 84 => ⟨S18x4352x9x9, .f32⟩
  | 85 => ⟨S18x4352x9x9, .f32⟩
  | 86 => ⟨S18x4352x9x9, .f32⟩
  | 87 => ⟨S18x4352x9x9, .f32⟩
  | 88 => ⟨S18x4352x9x9, .f32⟩
  | 89 => ⟨S18x4352x81, .f32⟩
  | 90 => ⟨S18x4352x1, .f32⟩
  | 91 => ⟨S18x4352x81, .f32⟩
  | 92 => ⟨S18x4352x81, .f32⟩
  | 93 => ⟨S18x4352x1, .f32⟩
  | 94 => ⟨S18x4352, .f32⟩
  | 95 => ⟨S18x4352x1, .f32⟩
  | 96 => ⟨S18x4352, .f32⟩
  | 97 => ⟨S1x4352, .f32⟩
  | 98 => ⟨S18x4352, .f32⟩
  | 99 => ⟨S18x4352, .f32⟩
  | 100 => ⟨S_, .f32⟩
  | 101 => ⟨S18x4352, .f32⟩
  | 102 => ⟨S18x4352, .f32⟩
  | 103 => ⟨S18x4352x1, .f32⟩
  | 104 => ⟨S18x4352, .f32⟩
  | 105 => ⟨S1x4352, .f32⟩
  | 106 => ⟨S18x4352, .f32⟩
  | 107 => ⟨S18x4352, .f32⟩
  | 108 => ⟨S_, .f32⟩
  | 109 => ⟨S18x4352, .f32⟩
  | 110 => ⟨S18x4352, .f32⟩
  | 111 => ⟨S18x4352, .f32⟩
  | 112 => ⟨S18x4352, .f32⟩
  | 113 => ⟨S18x4352, .i32⟩
  | 114 => ⟨S18x4352, .i32⟩
  | 115 => ⟨S18x4352, .f32⟩
  | 116 => ⟨S18x4352x1x1, .f32⟩
  | 117 => ⟨S18x4352, .f32⟩
  | 118 => ⟨S18x4352x1x1, .f32⟩
  | 119 => ⟨S10, .i32⟩
  | 120 => ⟨S_, .i32⟩
  | 121 => ⟨S10, .i32⟩
  | 122 => ⟨S10, .i32⟩
  | 123 => ⟨S18x4352x1, .i32⟩
  | 124 => ⟨S1x1x10, .i32⟩
  | 125 => ⟨S18x4352x10, .i32⟩
  | 126 => ⟨S18x4352x10, .i32⟩
  | 127 => ⟨S18x4352x10, .i32⟩
  | _ => ⟨S18x4352x46x96, .i8⟩

abbrev hbmTy0_2 (i : Nat) : BufTy := match i % 128 with
  | 0 => ⟨S18x4352x1, .i32⟩
  | 1 => ⟨S1x1x10, .i32⟩
  | 2 => ⟨S18x4352x10, .i32⟩
  | 3 => ⟨S18x4352x10, .i32⟩
  | 4 => ⟨S18x4352x10, .i32⟩
  | 5 => ⟨S_, .i32⟩
  | 6 => ⟨S18x4352x10, .i32⟩
  | 7 => ⟨S18x4352x10, .i1⟩
  | 8 => ⟨S_, .i32⟩
  | 9 => ⟨S18x4352x10, .i32⟩
  | 10 => ⟨S18x4352x10, .i1⟩
  | 11 => ⟨S18x4352x10, .i1⟩
  | 12 => ⟨S18x4352x10x1, .i1⟩
  | 13 => ⟨S_, .i32⟩
  | 14 => ⟨S18x4352x10, .i32⟩
  | 15 => ⟨S18x4352x10, .i1⟩
  | 16 => ⟨S_, .i32⟩
  | 17 => ⟨S18x4352x10, .i32⟩
  | 18 => ⟨S18x4352x10, .i1⟩
  | 19 => ⟨S18x4352x10, .i1⟩
  | 20 => ⟨S18x4352x1x10, .i1⟩
  | 21 => ⟨S18x4352x10x10, .i1⟩
  | 22 => ⟨S18x4352x10x10, .i1⟩
  | 23 => ⟨S18x4352x10x10, .i1⟩
  | 24 => ⟨S_, .i32⟩
  | 25 => ⟨S_, .i32⟩
  | 26 => ⟨S_, .i32⟩
  | 27 => ⟨S18x4352x10, .i32⟩
  | 28 => ⟨S18x4352x10, .i32⟩
  | 29 => ⟨S_, .i32⟩
  | 30 => ⟨S18x4352x10, .i32⟩
  | 31 => ⟨S18x4352x10, .i32⟩
  | 32 => ⟨S_, .i32⟩
  | 33 => ⟨S_, .i32⟩
  | 34 => ⟨S_, .i32⟩
  | 35 => ⟨S18x4352x10, .i32⟩
  | 36 => ⟨S18x4352x10, .i32⟩
  | 37 => ⟨S_, .i32⟩
  | 38 => ⟨S18x4352x10, .i32⟩
  | 39 => ⟨S18x4352x10, .i32⟩
  | 40 => ⟨S18x4352x10x1, .i32⟩
  | 41 => ⟨S_, .i32⟩
  | 42 => ⟨S18x4352x10x1, .i32⟩
  | 43 => ⟨S18x4352x10x1, .i32⟩
  | 44 => ⟨S18x4352x1x10, .i32⟩
  | 45 => ⟨S18x4352x10x10, .i32⟩
  | 46 => ⟨S18x4352x10x10, .i32⟩
  | 47 => ⟨S18x4352x10x10, .i32⟩
  | 48 => ⟨S18x4352x100, .i32⟩
  | 49 => ⟨S18x4352x1104, .i8⟩
  | 50 => ⟨S_, .i32⟩
  | 51 => ⟨S18x4352x100, .i32⟩
  | 52 => ⟨S18x4352x100, .i1⟩
  | 53 => ⟨S_, .i32⟩
  | 54 => ⟨S18x4352x100, .i32⟩
  | 55 => ⟨S18x4352x100, .i32⟩
  | 56 => ⟨S18x4352x100, .i32⟩
  | 57 => ⟨S18x4352x100x1, .i32⟩
  | 58 => ⟨S1, .i32⟩
  | 59 => ⟨S_, .i32⟩
  | 60 => ⟨S18x4352x100x1, .i32⟩
  | 61 => ⟨S18x4352x100x1, .i1⟩
  | 62 => ⟨S1x1x1x1, .i32⟩
  | 63 => ⟨S18x4352x100x1, .i32⟩
  | 64 => ⟨S18x4352x100x1, .i1⟩
  | 65 => ⟨S18x4352x100x1, .i1⟩
  | 66 => ⟨S_, .i1⟩
  | 67 => ⟨S18x4352x100, .i1⟩
  | 68 => ⟨S18x4352x100, .i8⟩
  | 69 => ⟨S_, .i8⟩
  | 70 => ⟨S18x4352x100, .i8⟩
  | 71 => ⟨S18x4352x100, .i8⟩
  | 72 => ⟨S18x4352x10x10, .i8⟩
  | 73 => ⟨S18x4352x10x10, .i32⟩
  | 74 => ⟨S18x4352x10x10, .f32⟩
  | 75 => ⟨S_, .f32⟩
  | 76 => ⟨S_, .f32⟩
  | 77 => ⟨S18x4352x10x10, .f32⟩
  | 78 => ⟨S18x4352x10x10, .f32⟩
  | 79 => ⟨S_, .f32⟩
  | 80 => ⟨S18x4352x1x1, .f32⟩
  | 81 => ⟨S18x4352x1x1, .f32⟩
  | 82 => ⟨S_, .f32⟩
  | 83 => ⟨S18x4352x1x1, .f32⟩
  | 84 => ⟨S18x4352x1x1, .f32⟩
  | 85 => ⟨S18x4352x1x1, .f32⟩
  | 86 => ⟨S18x4352x9x9, .f32⟩
  | 87 => ⟨S18x4352x9x9, .f32⟩
  | 88 => ⟨S18x4352x9x9, .f32⟩
  | 89 => ⟨S_, .f32⟩
  | 90 => ⟨S18x4352x1x1, .f32⟩
  | 91 => ⟨S18x4352x1x1, .f32⟩
  | 92 => ⟨S18x4352x1x1, .f32⟩
  | 93 => ⟨S18x4352x9x9, .f32⟩
  | 94 => ⟨S18x4352x9x9, .f32⟩
  | 95 => ⟨S18x4352x9x9, .f32⟩
  | 96 => ⟨S18x4352x9x9, .f32⟩
  | 97 => ⟨S_, .f32⟩
  | 98 => ⟨S18x4352x1x1, .f32⟩
  | 99 => ⟨S18x4352x1x1, .f32⟩
  | 100 => ⟨S18x4352x1x1, .f32⟩
  | 101 => ⟨S18x4352x9x9, .f32⟩
  | 102 => ⟨S18x4352x9x9, .f32⟩
  | 103 => ⟨S18x4352x9x9, .f32⟩
  | 104 => ⟨S18x4352x9x9, .f32⟩
  | 105 => ⟨S18x4352x1x1, .f32⟩
  | 106 => ⟨S18x4352x9x9, .f32⟩
  | 107 => ⟨S18x4352x9x9, .f32⟩
  | 108 => ⟨S18x4352x9x9, .f32⟩
  | 109 => ⟨S18x4352x9x9, .f32⟩
  | 110 => ⟨S18x4352x9x9, .f32⟩
  | 111 => ⟨S18x4352x81, .f32⟩
  | 112 => ⟨S18x4352x1, .f32⟩
  | 113 => ⟨S18x4352x81, .f32⟩
  | 114 => ⟨S18x4352x81, .f32⟩
  | 115 => ⟨S18x4352x1, .f32⟩
  | 116 => ⟨S18x4352, .f32⟩
  | 117 => ⟨S18x4352x1, .f32⟩
  | 118 => ⟨S18x4352, .f32⟩
  | 119 => ⟨S1x4352, .f32⟩
  | 120 => ⟨S18x4352, .f32⟩
  | 121 => ⟨S18x4352, .f32⟩
  | 122 => ⟨S_, .f32⟩
  | 123 => ⟨S18x4352, .f32⟩
  | 124 => ⟨S18x4352, .f32⟩
  | 125 => ⟨S18x4352x1, .f32⟩
  | 126 => ⟨S18x4352, .f32⟩
  | 127 => ⟨S1x4352, .f32⟩
  | _ => ⟨S18x4352x46x96, .i8⟩

abbrev hbmTy0_3 (i : Nat) : BufTy := match i % 128 with
  | 0 => ⟨S18x4352, .f32⟩
  | 1 => ⟨S18x4352, .f32⟩
  | 2 => ⟨S_, .f32⟩
  | 3 => ⟨S18x4352, .f32⟩
  | 4 => ⟨S18x4352, .f32⟩
  | 5 => ⟨S18x4352, .f32⟩
  | 6 => ⟨S18x4352, .f32⟩
  | 7 => ⟨S18x4352, .i32⟩
  | 8 => ⟨S18x4352, .i32⟩
  | 9 => ⟨S18x4352, .f32⟩
  | 10 => ⟨S18x4352x1x1, .f32⟩
  | 11 => ⟨S18x4352, .f32⟩
  | 12 => ⟨S18x4352x1x1, .f32⟩
  | 13 => ⟨S10, .i32⟩
  | 14 => ⟨S_, .i32⟩
  | 15 => ⟨S10, .i32⟩
  | 16 => ⟨S10, .i32⟩
  | 17 => ⟨S18x4352x1, .i32⟩
  | 18 => ⟨S1x1x10, .i32⟩
  | 19 => ⟨S18x4352x10, .i32⟩
  | 20 => ⟨S18x4352x10, .i32⟩
  | 21 => ⟨S18x4352x10, .i32⟩
  | 22 => ⟨S18x4352x1, .i32⟩
  | 23 => ⟨S1x1x10, .i32⟩
  | 24 => ⟨S18x4352x10, .i32⟩
  | 25 => ⟨S18x4352x10, .i32⟩
  | 26 => ⟨S18x4352x10, .i32⟩
  | 27 => ⟨S_, .i32⟩
  | 28 => ⟨S18x4352x10, .i32⟩
  | 29 => ⟨S18x4352x10, .i1⟩
  | 30 => ⟨S_, .i32⟩
  | 31 => ⟨S18x4352x10, .i32⟩
  | 32 => ⟨S18x4352x10, .i1⟩
  | 33 => ⟨S18x4352x10, .i1⟩
  | 34 => ⟨S18x4352x10x1, .i1⟩
  | 35 => ⟨S_, .i32⟩
  | 36 => ⟨S18x4352x10, .i32⟩
  | 37 => ⟨S18x4352x10, .i1⟩
  | 38 => ⟨S_, .i32⟩
  | 39 => ⟨S18x4352x10, .i32⟩
  | 40 => ⟨S18x4352x10, .i1⟩
  | 41 => ⟨S18x4352x10, .i1⟩
  | 42 => ⟨S18x4352x1x10, .i1⟩
  | 43 => ⟨S18x4352x10x10, .i1⟩
  | 44 => ⟨S18x4352x10x10, .i1⟩
  | 45 => ⟨S18x4352x10x10, .i1⟩
  | 46 => ⟨S_, .i32⟩
  | 47 => ⟨S_, .i32⟩
  | 48 => ⟨S_, .i32⟩
  | 49 => ⟨S18x4352x10, .i32⟩
  | 50 => ⟨S18x4352x10, .i32⟩
  | 51 => ⟨S_, .i32⟩
  | 52 => ⟨S18x4352x10, .i32⟩
  | 53 => ⟨S18x4352x10, .i32⟩
  | 54 => ⟨S_, .i32⟩
  | 55 => ⟨S_, .i32⟩
  | 56 => ⟨S_, .i32⟩
  | 57 => ⟨S18x4352x10, .i32⟩
  | 58 => ⟨S18x4352x10, .i32⟩
  | 59 => ⟨S_, .i32⟩
  | 60 => ⟨S18x4352x10, .i32⟩
  | 61 => ⟨S18x4352x10, .i32⟩
  | 62 => ⟨S18x4352x10x1, .i32⟩
  | 63 => ⟨S_, .i32⟩
  | 64 => ⟨S18x4352x10x1, .i32⟩
  | 65 => ⟨S18x4352x10x1, .i32⟩
  | 66 => ⟨S18x4352x1x10, .i32⟩
  | 67 => ⟨S18x4352x10x10, .i32⟩
  | 68 => ⟨S18x4352x10x10, .i32⟩
  | 69 => ⟨S18x4352x10x10, .i32⟩
  | 70 => ⟨S18x4352x100, .i32⟩
  | 71 => ⟨S18x4352x264, .i8⟩
  | 72 => ⟨S_, .i32⟩
  | 73 => ⟨S18x4352x100, .i32⟩
  | 74 => ⟨S18x4352x100, .i1⟩
  | 75 => ⟨S_, .i32⟩
  | 76 => ⟨S18x4352x100, .i32⟩
  | 77 => ⟨S18x4352x100, .i32⟩
  | 78 => ⟨S18x4352x100, .i32⟩
  | 79 => ⟨S18x4352x100x1, .i32⟩
  | 80 => ⟨S1, .i32⟩
  | 81 => ⟨S_, .i32⟩
  | 82 => ⟨S18x4352x100x1, .i32⟩
  | 83 => ⟨S18x4352x100x1, .i1⟩
  | 84 => ⟨S1x1x1x1, .i32⟩
  | 85 => ⟨S18x4352x100x1, .i32⟩
  | 86 => ⟨S18x4352x100x1, .i1⟩
  | 87 => ⟨S18x4352x100x1, .i1⟩
  | 88 => ⟨S_, .i1⟩
  | 89 => ⟨S18x4352x100, .i1⟩
  | 90 => ⟨S18x4352x100, .i8⟩
  | 91 => ⟨S_, .i8⟩
  | 92 => ⟨S18x4352x100, .i8⟩
  | 93 => ⟨S18x4352x100, .i8⟩
  | 94 => ⟨S18x4352x10x10, .i8⟩
  | 95 => ⟨S18x4352x10x10, .i32⟩
  | 96 => ⟨S18x4352x10x10, .f32⟩
  | 97 => ⟨S_, .f32⟩
  | 98 => ⟨S_, .f32⟩
  | 99 => ⟨S18x4352x10x10, .f32⟩
  | 100 => ⟨S18x4352x10x10, .f32⟩
  | 101 => ⟨S_, .f32⟩
  | 102 => ⟨S18x4352x1x1, .f32⟩
  | 103 => ⟨S18x4352x1x1, .f32⟩
  | 104 => ⟨S_, .f32⟩
  | 105 => ⟨S18x4352x1x1, .f32⟩
  | 106 => ⟨S18x4352x1x1, .f32⟩
  | 107 => ⟨S18x4352x1x1, .f32⟩
  | 108 => ⟨S18x4352x9x9, .f32⟩
  | 109 => ⟨S18x4352x9x9, .f32⟩
  | 110 => ⟨S18x4352x9x9, .f32⟩
  | 111 => ⟨S_, .f32⟩
  | 112 => ⟨S18x4352x1x1, .f32⟩
  | 113 => ⟨S18x4352x1x1, .f32⟩
  | 114 => ⟨S18x4352x1x1, .f32⟩
  | 115 => ⟨S18x4352x9x9, .f32⟩
  | 116 => ⟨S18x4352x9x9, .f32⟩
  | 117 => ⟨S18x4352x9x9, .f32⟩
  | 118 => ⟨S18x4352x9x9, .f32⟩
  | 119 => ⟨S_, .f32⟩
  | 120 => ⟨S18x4352x1x1, .f32⟩
  | 121 => ⟨S18x4352x1x1, .f32⟩
  | 122 => ⟨S18x4352x1x1, .f32⟩
  | 123 => ⟨S18x4352x9x9, .f32⟩
  | 124 => ⟨S18x4352x9x9, .f32⟩
  | 125 => ⟨S18x4352x9x9, .f32⟩
  | 126 => ⟨S18x4352x9x9, .f32⟩
  | 127 => ⟨S18x4352x1x1, .f32⟩
  | _ => ⟨S18x4352x46x96, .i8⟩

abbrev hbmTy0_4 (i : Nat) : BufTy := match i % 128 with
  | 0 => ⟨S18x4352x9x9, .f32⟩
  | 1 => ⟨S18x4352x9x9, .f32⟩
  | 2 => ⟨S18x4352x9x9, .f32⟩
  | 3 => ⟨S18x4352x9x9, .f32⟩
  | 4 => ⟨S18x4352x9x9, .f32⟩
  | 5 => ⟨S18x4352x81, .f32⟩
  | 6 => ⟨S18x4352x1, .f32⟩
  | 7 => ⟨S18x4352x81, .f32⟩
  | 8 => ⟨S18x4352x81, .f32⟩
  | 9 => ⟨S18x4352x1, .f32⟩
  | 10 => ⟨S18x4352, .f32⟩
  | 11 => ⟨S18x4352x1, .f32⟩
  | 12 => ⟨S18x4352, .f32⟩
  | 13 => ⟨S1x4352, .f32⟩
  | 14 => ⟨S18x4352, .f32⟩
  | 15 => ⟨S18x4352, .f32⟩
  | 16 => ⟨S_, .f32⟩
  | 17 => ⟨S18x4352, .f32⟩
  | 18 => ⟨S18x4352, .f32⟩
  | 19 => ⟨S18x4352x1, .f32⟩
  | 20 => ⟨S18x4352, .f32⟩
  | 21 => ⟨S1x4352, .f32⟩
  | 22 => ⟨S18x4352, .f32⟩
  | 23 => ⟨S18x4352, .f32⟩
  | 24 => ⟨S_, .f32⟩
  | 25 => ⟨S18x4352, .f32⟩
  | 26 => ⟨S18x4352, .f32⟩
  | 27 => ⟨S18x4352, .f32⟩
  | 28 => ⟨S18x4352, .f32⟩
  | 29 => ⟨S18x4352, .i32⟩
  | 30 => ⟨S18x4352, .i32⟩
  | 31 => ⟨S18x4352, .f32⟩
  | 32 => ⟨S18x4352x1x1, .f32⟩
  | 33 => ⟨S18x4352, .f32⟩
  | 34 => ⟨S18x4352x1x1, .f32⟩
  | 35 => ⟨S10, .i32⟩
  | 36 => ⟨S_, .i32⟩
  | 37 => ⟨S10, .i32⟩
  | 38 => ⟨S10, .i32⟩
  | 39 => ⟨S18x4352x1, .i32⟩
  | 40 => ⟨S1x1x10, .i32⟩
  | 41 => ⟨S18x4352x10, .i32⟩
  | 42 => ⟨S18x4352x10, .i32⟩
  | 43 => ⟨S18x4352x10, .i32⟩
  | 44 => ⟨S18x4352x1, .i32⟩
  | 45 => ⟨S1x1x10, .i32⟩
  | 46 => ⟨S18x4352x10, .i32⟩
  | 47 => ⟨S18x4352x10, .i32⟩
  | 48 => ⟨S18x4352x10, .i32⟩
  | 49 => ⟨S_, .i32⟩
  | 50 => ⟨S18x4352x10, .i32⟩
  | 51 => ⟨S18x4352x10, .i1⟩
  | 52 => ⟨S_, .i32⟩
  | 53 => ⟨S18x4352x10, .i32⟩
  | 54 => ⟨S18x4352x10, .i1⟩
  | 55 => ⟨S18x4352x10, .i1⟩
  | 56 => ⟨S18x4352x10x1, .i1⟩
  | 57 => ⟨S_, .i32⟩
  | 58 => ⟨S18x4352x10, .i32⟩
  | 59 => ⟨S18x4352x10, .i1⟩
  | 60 => ⟨S_, .i32⟩
  | 61 => ⟨S18x4352x10, .i32⟩
  | 62 => ⟨S18x4352x10, .i1⟩
  | 63 => ⟨S18x4352x10, .i1⟩
  | 64 => ⟨S18x4352x1x10, .i1⟩
  | 65 => ⟨S18x4352x10x10, .i1⟩
  | 66 => ⟨S18x4352x10x10, .i1⟩
  | 67 => ⟨S18x4352x10x10, .i1⟩
  | 68 => ⟨S_, .i32⟩
  | 69 => ⟨S_, .i32⟩
  | 70 => ⟨S_, .i32⟩
  | 71 => ⟨S18x4352x10, .i32⟩
  | 72 => ⟨S18x4352x10, .i32⟩
  | 73 => ⟨S_, .i32⟩
  | 74 => ⟨S18x4352x10, .i32⟩
  | 75 => ⟨S18x4352x10, .i32⟩
  | 76 => ⟨S_, .i32⟩
  | 77 => ⟨S_, .i32⟩
  | 78 => ⟨S_, .i32⟩
  | 79 => ⟨S18x4352x10, .i32⟩
  | 80 => ⟨S18x4352x10, .i32⟩
  | 81 => ⟨S_, .i32⟩
  | 82 => ⟨S18x4352x10, .i32⟩
  | 83 => ⟨S18x4352x10, .i32⟩
  | 84 => ⟨S18x4352x10x1, .i32⟩
  | 85 => ⟨S_, .i32⟩
  | 86 => ⟨S18x4352x10x1, .i32⟩
  | 87 => ⟨S18x4352x10x1, .i32⟩
  | 88 => ⟨S18x4352x1x10, .i32⟩
  | 89 => ⟨S18x4352x10x10, .i32⟩
  | 90 => ⟨S18x4352x10x10, .i32⟩
  | 91 => ⟨S18x4352x10x10, .i32⟩
  | 92 => ⟨S18x4352x100, .i32⟩
  | 93 => ⟨S18x4352x60, .i8⟩
  | 94 => ⟨S_, .i32⟩
  | 95 => ⟨S18x4352x100, .i32⟩
  | 96 => ⟨S18x4352x100, .i1⟩
  | 97 => ⟨S_, .i32⟩
  | 98 => ⟨S18x4352x100, .i32⟩
  | 99 => ⟨S18x4352x100, .i32⟩
  | 100 => ⟨S18x4352x100, .i32⟩
  | 101 => ⟨S18x4352x100x1, .i32⟩
  | 102 => ⟨S1, .i32⟩
  | 103 => ⟨S_, .i32⟩
  | 104 => ⟨S18x4352x100x1, .i32⟩
  | 105 => ⟨S18x4352x100x1, .i1⟩
  | 106 => ⟨S1x1x1x1, .i32⟩
  | 107 => ⟨S18x4352x100x1, .i32⟩
  | 108 => ⟨S18x4352x100x1, .i1⟩
  | 109 => ⟨S18x4352x100x1, .i1⟩
  | 110 => ⟨S_, .i1⟩
  | 111 => ⟨S18x4352x100, .i1⟩
  | 112 => ⟨S18x4352x100, .i8⟩
  | 113 => ⟨S_, .i8⟩
  | 114 => ⟨S18x4352x100, .i8⟩
  | 115 => ⟨S18x4352x100, .i8⟩
  | 116 => ⟨S18x4352x10x10, .i8⟩
  | 117 => ⟨S18x4352x10x10, .i32⟩
  | 118 => ⟨S18x4352x10x10, .f32⟩
  | 119 => ⟨S_, .f32⟩
  | 120 => ⟨S_, .f32⟩
  | 121 => ⟨S18x4352x10x10, .f32⟩
  | 122 => ⟨S18x4352x10x10, .f32⟩
  | 123 => ⟨S_, .f32⟩
  | 124 => ⟨S18x4352x1x1, .f32⟩
  | 125 => ⟨S18x4352x1x1, .f32⟩
  | 126 => ⟨S_, .f32⟩
  | 127 => ⟨S18x4352x1x1, .f32⟩
  | _ => ⟨S18x4352x46x96, .i8⟩

abbrev hbmTy0_5 (i : Nat) : BufTy := match i % 128 with
  | 0 => ⟨S18x4352x1x1, .f32⟩
  | 1 => ⟨S18x4352x1x1, .f32⟩
  | 2 => ⟨S18x4352x9x9, .f32⟩
  | 3 => ⟨S18x4352x9x9, .f32⟩
  | 4 => ⟨S18x4352x9x9, .f32⟩
  | 5 => ⟨S_, .f32⟩
  | 6 => ⟨S18x4352x1x1, .f32⟩
  | 7 => ⟨S18x4352x1x1, .f32⟩
  | 8 => ⟨S18x4352x1x1, .f32⟩
  | 9 => ⟨S18x4352x9x9, .f32⟩
  | 10 => ⟨S18x4352x9x9, .f32⟩
  | 11 => ⟨S18x4352x9x9, .f32⟩
  | 12 => ⟨S18x4352x9x9, .f32⟩
  | 13 => ⟨S_, .f32⟩
  | 14 => ⟨S18x4352x1x1, .f32⟩
  | 15 => ⟨S18x4352x1x1, .f32⟩
  | 16 => ⟨S18x4352x1x1, .f32⟩
  | 17 => ⟨S18x4352x9x9, .f32⟩
  | 18 => ⟨S18x4352x9x9, .f32⟩
  | 19 => ⟨S18x4352x9x9, .f32⟩
  | 20 => ⟨S18x4352x9x9, .f32⟩
  | 21 => ⟨S18x4352x1x1, .f32⟩
  | 22 => ⟨S18x4352x9x9, .f32⟩
  | 23 => ⟨S18x4352x9x9, .f32⟩
  | 24 => ⟨S18x4352x9x9, .f32⟩
  | 25 => ⟨S18x4352x9x9, .f32⟩
  | 26 => ⟨S18x4352x9x9, .f32⟩
  | 27 => ⟨S18x4352x81, .f32⟩
  | 28 => ⟨S18x4352x1, .f32⟩
  | 29 => ⟨S18x4352x81, .f32⟩
  | 30 => ⟨S18x4352x81, .f32⟩
  | 31 => ⟨S18x4352x324, .f32⟩
  | 32 => ⟨S18x4352x324, .bf16⟩
  | _ => ⟨S18x4352x46x96, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S18x4352x46x96, .i8⟩

abbrev bufTy : (tb : Table) → Fin (tcTables nBuf tb) → BufTy
  | .hbm, ⟨i, _⟩ => hbmTy i
  | _, _ => ⟨S18x4352x46x96, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_c_1 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_cst : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_cst_2 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_c_3 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_c_4 : Ref sig .tc := ⟨.hbm, 111, rfl⟩
abbrev main_v43 : Ref sig .tc := ⟨.hbm, 112, rfl⟩
abbrev main_v44 : Ref sig .tc := ⟨.hbm, 113, rfl⟩
abbrev main_c_5 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_c_6 : Ref sig .tc := ⟨.hbm, 119, rfl⟩
abbrev main_v49 : Ref sig .tc := ⟨.hbm, 120, rfl⟩
abbrev main_v50 : Ref sig .tc := ⟨.hbm, 121, rfl⟩
abbrev main_c_7 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_c_8 : Ref sig .tc := ⟨.hbm, 130, rfl⟩
abbrev main_c_9 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v58 : Ref sig .tc := ⟨.hbm, 137, rfl⟩
abbrev main_c_10 : Ref sig .tc := ⟨.hbm, 138, rfl⟩
abbrev main_c_11 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v59 : Ref sig .tc := ⟨.hbm, 145, rfl⟩
abbrev main_v60 : Ref sig .tc := ⟨.hbm, 146, rfl⟩
abbrev main_c_12 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_c_4 : Ref sig .tc := ⟨.hbm, 175, rfl⟩
abbrev main_call5_v14 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_cst_13 : Ref sig .tc := ⟨.hbm, 181, rfl⟩
abbrev main_call6_v0 : Ref sig .tc := ⟨.hbm, 182, rfl⟩
abbrev main_call6_v1 : Ref sig .tc := ⟨.hbm, 183, rfl⟩
abbrev main_v73 : Ref sig .tc := ⟨.hbm, 184, rfl⟩
abbrev main_cst_14 : Ref sig .tc := ⟨.hbm, 185, rfl⟩
abbrev main_v74 : Ref sig .tc := ⟨.hbm, 186, rfl⟩
abbrev main_v75 : Ref sig .tc := ⟨.hbm, 187, rfl⟩
abbrev main_cst_15 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_cst_16 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_cst_17 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_cst_18 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_cst_19 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_c_20 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_c_21 : Ref sig .tc := ⟨.hbm, 261, rfl⟩
abbrev main_v143 : Ref sig .tc := ⟨.hbm, 262, rfl⟩
abbrev main_v144 : Ref sig .tc := ⟨.hbm, 263, rfl⟩
abbrev main_c_22 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_c_23 : Ref sig .tc := ⟨.hbm, 269, rfl⟩
abbrev main_v149 : Ref sig .tc := ⟨.hbm, 270, rfl⟩
abbrev main_v150 : Ref sig .tc := ⟨.hbm, 271, rfl⟩
abbrev main_c_24 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_c_25 : Ref sig .tc := ⟨.hbm, 280, rfl⟩
abbrev main_c_26 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_call7_v3 : Ref sig .tc := ⟨.hbm, 285, rfl⟩
abbrev main_call7_v4 : Ref sig .tc := ⟨.hbm, 286, rfl⟩
abbrev main_v158 : Ref sig .tc := ⟨.hbm, 287, rfl⟩
abbrev main_c_27 : Ref sig .tc := ⟨.hbm, 288, rfl⟩
abbrev main_c_28 : Ref sig .tc := ⟨.hbm, 289, rfl⟩
abbrev main_call8_v0 : Ref sig .tc := ⟨.hbm, 290, rfl⟩
abbrev main_call8_v1 : Ref sig .tc := ⟨.hbm, 291, rfl⟩
abbrev main_call8_v2 : Ref sig .tc := ⟨.hbm, 292, rfl⟩
abbrev main_call8_v3 : Ref sig .tc := ⟨.hbm, 293, rfl⟩
abbrev main_call8_v4 : Ref sig .tc := ⟨.hbm, 294, rfl⟩
abbrev main_v159 : Ref sig .tc := ⟨.hbm, 295, rfl⟩
abbrev main_v160 : Ref sig .tc := ⟨.hbm, 296, rfl⟩
abbrev main_c_29 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_call9_c : Ref sig .tc := ⟨.hbm, 306, rfl⟩
abbrev main_call9_v0 : Ref sig .tc := ⟨.hbm, 307, rfl⟩
abbrev main_call9_v1 : Ref sig .tc := ⟨.hbm, 308, rfl⟩
abbrev main_call9_c_0 : Ref sig .tc := ⟨.hbm, 309, rfl⟩
abbrev main_call9_v2 : Ref sig .tc := ⟨.hbm, 310, rfl⟩
abbrev main_call9_v3 : Ref sig .tc := ⟨.hbm, 311, rfl⟩
abbrev main_call9_v4 : Ref sig .tc := ⟨.hbm, 312, rfl⟩
abbrev main_call9_v5 : Ref sig .tc := ⟨.hbm, 313, rfl⟩
abbrev main_call9_c_1 : Ref sig .tc := ⟨.hbm, 314, rfl⟩
abbrev main_call9_c_2 : Ref sig .tc := ⟨.hbm, 315, rfl⟩
abbrev main_call9_v6 : Ref sig .tc := ⟨.hbm, 316, rfl⟩
abbrev main_call9_v7 : Ref sig .tc := ⟨.hbm, 317, rfl⟩
abbrev main_call9_v8 : Ref sig .tc := ⟨.hbm, 318, rfl⟩
abbrev main_call9_v9 : Ref sig .tc := ⟨.hbm, 319, rfl⟩
abbrev main_call9_v10 : Ref sig .tc := ⟨.hbm, 320, rfl⟩
abbrev main_call9_v11 : Ref sig .tc := ⟨.hbm, 321, rfl⟩
abbrev main_call9_c_3 : Ref sig .tc := ⟨.hbm, 322, rfl⟩
abbrev main_call9_v12 : Ref sig .tc := ⟨.hbm, 323, rfl⟩
abbrev main_call9_v13 : Ref sig .tc := ⟨.hbm, 324, rfl⟩
abbrev main_call9_c_4 : Ref sig .tc := ⟨.hbm, 325, rfl⟩
abbrev main_call9_v14 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_cst_30 : Ref sig .tc := ⟨.hbm, 331, rfl⟩
abbrev main_call10_v0 : Ref sig .tc := ⟨.hbm, 332, rfl⟩
abbrev main_call10_v1 : Ref sig .tc := ⟨.hbm, 333, rfl⟩
abbrev main_v173 : Ref sig .tc := ⟨.hbm, 334, rfl⟩
abbrev main_cst_31 : Ref sig .tc := ⟨.hbm, 335, rfl⟩
abbrev main_v174 : Ref sig .tc := ⟨.hbm, 336, rfl⟩
abbrev main_v175 : Ref sig .tc := ⟨.hbm, 337, rfl⟩
abbrev main_cst_32 : Ref sig .tc := ⟨.hbm, 338, rfl⟩
abbrev main_v176 : Ref sig .tc := ⟨.hbm, 339, rfl⟩
abbrev main_v177 : Ref sig .tc := ⟨.hbm, 340, rfl⟩
abbrev main_v178 : Ref sig .tc := ⟨.hbm, 341, rfl⟩
abbrev main_v179 : Ref sig .tc := ⟨.hbm, 342, rfl⟩
abbrev main_v180 : Ref sig .tc := ⟨.hbm, 343, rfl⟩
abbrev main_v181 : Ref sig .tc := ⟨.hbm, 344, rfl⟩
abbrev main_cst_33 : Ref sig .tc := ⟨.hbm, 345, rfl⟩
abbrev main_v182 : Ref sig .tc := ⟨.hbm, 346, rfl⟩
abbrev main_v183 : Ref sig .tc := ⟨.hbm, 347, rfl⟩
abbrev main_v184 : Ref sig .tc := ⟨.hbm, 348, rfl⟩
abbrev main_v185 : Ref sig .tc := ⟨.hbm, 349, rfl⟩
abbrev main_v186 : Ref sig .tc := ⟨.hbm, 350, rfl⟩
abbrev main_v187 : Ref sig .tc := ⟨.hbm, 351, rfl⟩
abbrev main_v188 : Ref sig .tc := ⟨.hbm, 352, rfl⟩
abbrev main_cst_34 : Ref sig .tc := ⟨.hbm, 353, rfl⟩
abbrev main_v189 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_v198 : Ref sig .tc := ⟨.hbm, 363, rfl⟩
abbrev main_v199 : Ref sig .tc := ⟨.hbm, 364, rfl⟩
abbrev main_v200 : Ref sig .tc := ⟨.hbm, 365, rfl⟩
abbrev main_v201 : Ref sig .tc := ⟨.hbm, 366, rfl⟩
abbrev main_v202 : Ref sig .tc := ⟨.hbm, 367, rfl⟩
abbrev main_v203 : Ref sig .tc := ⟨.hbm, 368, rfl⟩
abbrev main_v204 : Ref sig .tc := ⟨.hbm, 369, rfl⟩
abbrev main_v205 : Ref sig .tc := ⟨.hbm, 370, rfl⟩
abbrev main_v206 : Ref sig .tc := ⟨.hbm, 371, rfl⟩
abbrev main_v207 : Ref sig .tc := ⟨.hbm, 372, rfl⟩
abbrev main_v208 : Ref sig .tc := ⟨.hbm, 373, rfl⟩
abbrev main_v209 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_cst_35 : Ref sig .tc := ⟨.hbm, 378, rfl⟩
abbrev main_v213 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_v217 : Ref sig .tc := ⟨.hbm, 383, rfl⟩
abbrev main_v218 : Ref sig .tc := ⟨.hbm, 384, rfl⟩
abbrev main_v219 : Ref sig .tc := ⟨.hbm, 385, rfl⟩
abbrev main_cst_36 : Ref sig .tc := ⟨.hbm, 386, rfl⟩
abbrev main_v220 : Ref sig .tc := ⟨.hbm, 387, rfl⟩
abbrev main_v221 : Ref sig .tc := ⟨.hbm, 388, rfl⟩
abbrev main_v222 : Ref sig .tc := ⟨.hbm, 389, rfl⟩
abbrev main_v223 : Ref sig .tc := ⟨.hbm, 390, rfl⟩
abbrev main_v224 : Ref sig .tc := ⟨.hbm, 391, rfl⟩
abbrev main_v225 : Ref sig .tc := ⟨.hbm, 392, rfl⟩
abbrev main_v226 : Ref sig .tc := ⟨.hbm, 393, rfl⟩
abbrev main_v227 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_c_37 : Ref sig .tc := ⟨.hbm, 398, rfl⟩
abbrev main_v231 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_c_38 : Ref sig .tc := ⟨.hbm, 411, rfl⟩
abbrev main_v243 : Ref sig .tc := ⟨.hbm, 412, rfl⟩
abbrev main_v244 : Ref sig .tc := ⟨.hbm, 413, rfl⟩
abbrev main_c_39 : Ref sig .tc := ⟨.hbm, 414, rfl⟩
abbrev main_v245 : Ref sig .tc := ⟨.hbm, 415, rfl⟩
abbrev main_v246 : Ref sig .tc := ⟨.hbm, 416, rfl⟩
abbrev main_v247 : Ref sig .tc := ⟨.hbm, 417, rfl⟩
abbrev main_v248 : Ref sig .tc := ⟨.hbm, 418, rfl⟩
abbrev main_c_40 : Ref sig .tc := ⟨.hbm, 419, rfl⟩
abbrev main_v249 : Ref sig .tc := ⟨.hbm, 420, rfl⟩
abbrev main_v250 : Ref sig .tc := ⟨.hbm, 421, rfl⟩
abbrev main_c_41 : Ref sig .tc := ⟨.hbm, 422, rfl⟩
abbrev main_v251 : Ref sig .tc := ⟨.hbm, 423, rfl⟩
abbrev main_v252 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_c_42 : Ref sig .tc := ⟨.hbm, 430, rfl⟩
abbrev main_c_43 : Ref sig .tc := ⟨.hbm, 431, rfl⟩
abbrev main_call11_v0 : Ref sig .tc := ⟨.hbm, 432, rfl⟩
abbrev main_call11_v1 : Ref sig .tc := ⟨.hbm, 433, rfl⟩
abbrev main_call11_v2 : Ref sig .tc := ⟨.hbm, 434, rfl⟩
abbrev main_call11_v3 : Ref sig .tc := ⟨.hbm, 435, rfl⟩
abbrev main_call11_v4 : Ref sig .tc := ⟨.hbm, 436, rfl⟩
abbrev main_v258 : Ref sig .tc := ⟨.hbm, 437, rfl⟩
abbrev main_c_44 : Ref sig .tc := ⟨.hbm, 438, rfl⟩
abbrev main_c_45 : Ref sig .tc := ⟨.hbm, 439, rfl⟩
abbrev main_call12_v0 : Ref sig .tc := ⟨.hbm, 440, rfl⟩
abbrev main_call12_v1 : Ref sig .tc := ⟨.hbm, 441, rfl⟩
abbrev main_call12_v2 : Ref sig .tc := ⟨.hbm, 442, rfl⟩
abbrev main_call12_v3 : Ref sig .tc := ⟨.hbm, 443, rfl⟩
abbrev main_call12_v4 : Ref sig .tc := ⟨.hbm, 444, rfl⟩
abbrev main_v259 : Ref sig .tc := ⟨.hbm, 445, rfl⟩
abbrev main_v260 : Ref sig .tc := ⟨.hbm, 446, rfl⟩
abbrev main_c_46 : Ref sig .tc := ⟨.hbm, 447, rfl⟩
abbrev main_v261 : Ref sig .tc := ⟨.hbm, 448, rfl⟩
abbrev main_v262 : Ref sig .tc := ⟨.hbm, 449, rfl⟩
abbrev main_v263 : Ref sig .tc := ⟨.hbm, 450, rfl⟩
abbrev main_v264 : Ref sig .tc := ⟨.hbm, 451, rfl⟩
abbrev main_v265 : Ref sig .tc := ⟨.hbm, 452, rfl⟩
abbrev main_v266 : Ref sig .tc := ⟨.hbm, 453, rfl⟩
abbrev main_v267 : Ref sig .tc := ⟨.hbm, 454, rfl⟩
abbrev main_v268 : Ref sig .tc := ⟨.hbm, 455, rfl⟩
abbrev main_call13_c : Ref sig .tc := ⟨.hbm, 456, rfl⟩
abbrev main_call13_v0 : Ref sig .tc := ⟨.hbm, 457, rfl⟩
abbrev main_call13_v1 : Ref sig .tc := ⟨.hbm, 458, rfl⟩
abbrev main_call13_c_0 : Ref sig .tc := ⟨.hbm, 459, rfl⟩
abbrev main_call13_v2 : Ref sig .tc := ⟨.hbm, 460, rfl⟩
abbrev main_call13_v3 : Ref sig .tc := ⟨.hbm, 461, rfl⟩
abbrev main_call13_v4 : Ref sig .tc := ⟨.hbm, 462, rfl⟩
abbrev main_call13_v5 : Ref sig .tc := ⟨.hbm, 463, rfl⟩
abbrev main_call13_c_1 : Ref sig .tc := ⟨.hbm, 464, rfl⟩
abbrev main_call13_c_2 : Ref sig .tc := ⟨.hbm, 465, rfl⟩
abbrev main_call13_v6 : Ref sig .tc := ⟨.hbm, 466, rfl⟩
abbrev main_call13_v7 : Ref sig .tc := ⟨.hbm, 467, rfl⟩
abbrev main_call13_v8 : Ref sig .tc := ⟨.hbm, 468, rfl⟩
abbrev main_call13_v9 : Ref sig .tc := ⟨.hbm, 469, rfl⟩
abbrev main_call13_v10 : Ref sig .tc := ⟨.hbm, 470, rfl⟩
abbrev main_call13_v11 : Ref sig .tc := ⟨.hbm, 471, rfl⟩
abbrev main_call13_c_3 : Ref sig .tc := ⟨.hbm, 472, rfl⟩
abbrev main_call13_v12 : Ref sig .tc := ⟨.hbm, 473, rfl⟩
abbrev main_call13_v13 : Ref sig .tc := ⟨.hbm, 474, rfl⟩
abbrev main_call13_c_4 : Ref sig .tc := ⟨.hbm, 475, rfl⟩
abbrev main_call13_v14 : Ref sig .tc := ⟨.hbm, 476, rfl⟩
abbrev main_v269 : Ref sig .tc := ⟨.hbm, 477, rfl⟩
abbrev main_v270 : Ref sig .tc := ⟨.hbm, 478, rfl⟩
abbrev main_v271 : Ref sig .tc := ⟨.hbm, 479, rfl⟩
abbrev main_v272 : Ref sig .tc := ⟨.hbm, 480, rfl⟩
abbrev main_cst_47 : Ref sig .tc := ⟨.hbm, 481, rfl⟩
abbrev main_call14_v0 : Ref sig .tc := ⟨.hbm, 482, rfl⟩
abbrev main_call14_v1 : Ref sig .tc := ⟨.hbm, 483, rfl⟩
abbrev main_v273 : Ref sig .tc := ⟨.hbm, 484, rfl⟩
abbrev main_cst_48 : Ref sig .tc := ⟨.hbm, 485, rfl⟩
abbrev main_v274 : Ref sig .tc := ⟨.hbm, 486, rfl⟩
abbrev main_v275 : Ref sig .tc := ⟨.hbm, 487, rfl⟩
abbrev main_cst_49 : Ref sig .tc := ⟨.hbm, 488, rfl⟩
abbrev main_v276 : Ref sig .tc := ⟨.hbm, 489, rfl⟩
abbrev main_v277 : Ref sig .tc := ⟨.hbm, 490, rfl⟩
abbrev main_v278 : Ref sig .tc := ⟨.hbm, 491, rfl⟩
abbrev main_v279 : Ref sig .tc := ⟨.hbm, 492, rfl⟩
abbrev main_v280 : Ref sig .tc := ⟨.hbm, 493, rfl⟩
abbrev main_v281 : Ref sig .tc := ⟨.hbm, 494, rfl⟩
abbrev main_cst_50 : Ref sig .tc := ⟨.hbm, 495, rfl⟩
abbrev main_v282 : Ref sig .tc := ⟨.hbm, 496, rfl⟩
abbrev main_v283 : Ref sig .tc := ⟨.hbm, 497, rfl⟩
abbrev main_v284 : Ref sig .tc := ⟨.hbm, 498, rfl⟩
abbrev main_v285 : Ref sig .tc := ⟨.hbm, 499, rfl⟩
abbrev main_v286 : Ref sig .tc := ⟨.hbm, 500, rfl⟩
abbrev main_v287 : Ref sig .tc := ⟨.hbm, 501, rfl⟩
abbrev main_v288 : Ref sig .tc := ⟨.hbm, 502, rfl⟩
abbrev main_cst_51 : Ref sig .tc := ⟨.hbm, 503, rfl⟩
abbrev main_v289 : Ref sig .tc := ⟨.hbm, 504, rfl⟩
abbrev main_v290 : Ref sig .tc := ⟨.hbm, 505, rfl⟩
abbrev main_v291 : Ref sig .tc := ⟨.hbm, 506, rfl⟩
abbrev main_v292 : Ref sig .tc := ⟨.hbm, 507, rfl⟩
abbrev main_v293 : Ref sig .tc := ⟨.hbm, 508, rfl⟩
abbrev main_v294 : Ref sig .tc := ⟨.hbm, 509, rfl⟩
abbrev main_v295 : Ref sig .tc := ⟨.hbm, 510, rfl⟩
abbrev main_v296 : Ref sig .tc := ⟨.hbm, 511, rfl⟩
abbrev main_v297 : Ref sig .tc := ⟨.hbm, 512, rfl⟩
abbrev main_v298 : Ref sig .tc := ⟨.hbm, 513, rfl⟩
abbrev main_v299 : Ref sig .tc := ⟨.hbm, 514, rfl⟩
abbrev main_v300 : Ref sig .tc := ⟨.hbm, 515, rfl⟩
abbrev main_v301 : Ref sig .tc := ⟨.hbm, 516, rfl⟩
abbrev main_v302 : Ref sig .tc := ⟨.hbm, 517, rfl⟩
abbrev main_v303 : Ref sig .tc := ⟨.hbm, 518, rfl⟩
abbrev main_v304 : Ref sig .tc := ⟨.hbm, 519, rfl⟩
abbrev main_v305 : Ref sig .tc := ⟨.hbm, 520, rfl⟩
abbrev main_v306 : Ref sig .tc := ⟨.hbm, 521, rfl⟩
abbrev main_v307 : Ref sig .tc := ⟨.hbm, 522, rfl⟩
abbrev main_v308 : Ref sig .tc := ⟨.hbm, 523, rfl⟩
abbrev main_v309 : Ref sig .tc := ⟨.hbm, 524, rfl⟩
abbrev main_v310 : Ref sig .tc := ⟨.hbm, 525, rfl⟩
abbrev main_v311 : Ref sig .tc := ⟨.hbm, 526, rfl⟩
abbrev main_v312 : Ref sig .tc := ⟨.hbm, 527, rfl⟩
abbrev main_cst_52 : Ref sig .tc := ⟨.hbm, 528, rfl⟩
abbrev main_v313 : Ref sig .tc := ⟨.hbm, 529, rfl⟩
abbrev main_v314 : Ref sig .tc := ⟨.hbm, 530, rfl⟩
abbrev main_v315 : Ref sig .tc := ⟨.hbm, 531, rfl⟩
abbrev main_v316 : Ref sig .tc := ⟨.hbm, 532, rfl⟩
abbrev main_v317 : Ref sig .tc := ⟨.hbm, 533, rfl⟩
abbrev main_v318 : Ref sig .tc := ⟨.hbm, 534, rfl⟩
abbrev main_v319 : Ref sig .tc := ⟨.hbm, 535, rfl⟩
abbrev main_cst_53 : Ref sig .tc := ⟨.hbm, 536, rfl⟩
abbrev main_v320 : Ref sig .tc := ⟨.hbm, 537, rfl⟩
abbrev main_v321 : Ref sig .tc := ⟨.hbm, 538, rfl⟩
abbrev main_v322 : Ref sig .tc := ⟨.hbm, 539, rfl⟩
abbrev main_v323 : Ref sig .tc := ⟨.hbm, 540, rfl⟩
abbrev main_v324 : Ref sig .tc := ⟨.hbm, 541, rfl⟩
abbrev main_v325 : Ref sig .tc := ⟨.hbm, 542, rfl⟩
abbrev main_v326 : Ref sig .tc := ⟨.hbm, 543, rfl⟩
abbrev main_v327 : Ref sig .tc := ⟨.hbm, 544, rfl⟩
abbrev main_v328 : Ref sig .tc := ⟨.hbm, 545, rfl⟩
abbrev main_v329 : Ref sig .tc := ⟨.hbm, 546, rfl⟩
abbrev main_v330 : Ref sig .tc := ⟨.hbm, 547, rfl⟩
abbrev main_c_54 : Ref sig .tc := ⟨.hbm, 548, rfl⟩
abbrev main_v331 : Ref sig .tc := ⟨.hbm, 549, rfl⟩
abbrev main_v332 : Ref sig .tc := ⟨.hbm, 550, rfl⟩
abbrev main_v333 : Ref sig .tc := ⟨.hbm, 551, rfl⟩
abbrev main_v334 : Ref sig .tc := ⟨.hbm, 552, rfl⟩
abbrev main_v335 : Ref sig .tc := ⟨.hbm, 553, rfl⟩
abbrev main_v336 : Ref sig .tc := ⟨.hbm, 554, rfl⟩
abbrev main_v337 : Ref sig .tc := ⟨.hbm, 555, rfl⟩
abbrev main_v338 : Ref sig .tc := ⟨.hbm, 556, rfl⟩
abbrev main_v339 : Ref sig .tc := ⟨.hbm, 557, rfl⟩
abbrev main_v340 : Ref sig .tc := ⟨.hbm, 558, rfl⟩
abbrev main_v341 : Ref sig .tc := ⟨.hbm, 559, rfl⟩
abbrev main_v342 : Ref sig .tc := ⟨.hbm, 560, rfl⟩
abbrev main_c_55 : Ref sig .tc := ⟨.hbm, 561, rfl⟩
abbrev main_v343 : Ref sig .tc := ⟨.hbm, 562, rfl⟩
abbrev main_v344 : Ref sig .tc := ⟨.hbm, 563, rfl⟩
abbrev main_c_56 : Ref sig .tc := ⟨.hbm, 564, rfl⟩
abbrev main_v345 : Ref sig .tc := ⟨.hbm, 565, rfl⟩
abbrev main_v346 : Ref sig .tc := ⟨.hbm, 566, rfl⟩
abbrev main_v347 : Ref sig .tc := ⟨.hbm, 567, rfl⟩
abbrev main_v348 : Ref sig .tc := ⟨.hbm, 568, rfl⟩
abbrev main_c_57 : Ref sig .tc := ⟨.hbm, 569, rfl⟩
abbrev main_v349 : Ref sig .tc := ⟨.hbm, 570, rfl⟩
abbrev main_v350 : Ref sig .tc := ⟨.hbm, 571, rfl⟩
abbrev main_c_58 : Ref sig .tc := ⟨.hbm, 572, rfl⟩
abbrev main_v351 : Ref sig .tc := ⟨.hbm, 573, rfl⟩
abbrev main_v352 : Ref sig .tc := ⟨.hbm, 574, rfl⟩
abbrev main_v353 : Ref sig .tc := ⟨.hbm, 575, rfl⟩
abbrev main_v354 : Ref sig .tc := ⟨.hbm, 576, rfl⟩
abbrev main_v355 : Ref sig .tc := ⟨.hbm, 577, rfl⟩
abbrev main_v356 : Ref sig .tc := ⟨.hbm, 578, rfl⟩
abbrev main_v357 : Ref sig .tc := ⟨.hbm, 579, rfl⟩
abbrev main_c_59 : Ref sig .tc := ⟨.hbm, 580, rfl⟩
abbrev main_c_60 : Ref sig .tc := ⟨.hbm, 581, rfl⟩
abbrev main_call15_v0 : Ref sig .tc := ⟨.hbm, 582, rfl⟩
abbrev main_call15_v1 : Ref sig .tc := ⟨.hbm, 583, rfl⟩
abbrev main_call15_v2 : Ref sig .tc := ⟨.hbm, 584, rfl⟩
abbrev main_call15_v3 : Ref sig .tc := ⟨.hbm, 585, rfl⟩
abbrev main_call15_v4 : Ref sig .tc := ⟨.hbm, 586, rfl⟩
abbrev main_v358 : Ref sig .tc := ⟨.hbm, 587, rfl⟩
abbrev main_c_61 : Ref sig .tc := ⟨.hbm, 588, rfl⟩
abbrev main_c_62 : Ref sig .tc := ⟨.hbm, 589, rfl⟩
abbrev main_call16_v0 : Ref sig .tc := ⟨.hbm, 590, rfl⟩
abbrev main_call16_v1 : Ref sig .tc := ⟨.hbm, 591, rfl⟩
abbrev main_call16_v2 : Ref sig .tc := ⟨.hbm, 592, rfl⟩
abbrev main_call16_v3 : Ref sig .tc := ⟨.hbm, 593, rfl⟩
abbrev main_call16_v4 : Ref sig .tc := ⟨.hbm, 594, rfl⟩
abbrev main_v359 : Ref sig .tc := ⟨.hbm, 595, rfl⟩
abbrev main_v360 : Ref sig .tc := ⟨.hbm, 596, rfl⟩
abbrev main_c_63 : Ref sig .tc := ⟨.hbm, 597, rfl⟩
abbrev main_v361 : Ref sig .tc := ⟨.hbm, 598, rfl⟩
abbrev main_v362 : Ref sig .tc := ⟨.hbm, 599, rfl⟩
abbrev main_v363 : Ref sig .tc := ⟨.hbm, 600, rfl⟩
abbrev main_v364 : Ref sig .tc := ⟨.hbm, 601, rfl⟩
abbrev main_v365 : Ref sig .tc := ⟨.hbm, 602, rfl⟩
abbrev main_v366 : Ref sig .tc := ⟨.hbm, 603, rfl⟩
abbrev main_v367 : Ref sig .tc := ⟨.hbm, 604, rfl⟩
abbrev main_v368 : Ref sig .tc := ⟨.hbm, 605, rfl⟩
abbrev main_call17_c : Ref sig .tc := ⟨.hbm, 606, rfl⟩
abbrev main_call17_v0 : Ref sig .tc := ⟨.hbm, 607, rfl⟩
abbrev main_call17_v1 : Ref sig .tc := ⟨.hbm, 608, rfl⟩
abbrev main_call17_c_0 : Ref sig .tc := ⟨.hbm, 609, rfl⟩
abbrev main_call17_v2 : Ref sig .tc := ⟨.hbm, 610, rfl⟩
abbrev main_call17_v3 : Ref sig .tc := ⟨.hbm, 611, rfl⟩
abbrev main_call17_v4 : Ref sig .tc := ⟨.hbm, 612, rfl⟩
abbrev main_call17_v5 : Ref sig .tc := ⟨.hbm, 613, rfl⟩
abbrev main_call17_c_1 : Ref sig .tc := ⟨.hbm, 614, rfl⟩
abbrev main_call17_c_2 : Ref sig .tc := ⟨.hbm, 615, rfl⟩
abbrev main_call17_v6 : Ref sig .tc := ⟨.hbm, 616, rfl⟩
abbrev main_call17_v7 : Ref sig .tc := ⟨.hbm, 617, rfl⟩
abbrev main_call17_v8 : Ref sig .tc := ⟨.hbm, 618, rfl⟩
abbrev main_call17_v9 : Ref sig .tc := ⟨.hbm, 619, rfl⟩
abbrev main_call17_v10 : Ref sig .tc := ⟨.hbm, 620, rfl⟩
abbrev main_call17_v11 : Ref sig .tc := ⟨.hbm, 621, rfl⟩
abbrev main_call17_c_3 : Ref sig .tc := ⟨.hbm, 622, rfl⟩
abbrev main_call17_v12 : Ref sig .tc := ⟨.hbm, 623, rfl⟩
abbrev main_call17_v13 : Ref sig .tc := ⟨.hbm, 624, rfl⟩
abbrev main_call17_c_4 : Ref sig .tc := ⟨.hbm, 625, rfl⟩
abbrev main_call17_v14 : Ref sig .tc := ⟨.hbm, 626, rfl⟩
abbrev main_v369 : Ref sig .tc := ⟨.hbm, 627, rfl⟩
abbrev main_v370 : Ref sig .tc := ⟨.hbm, 628, rfl⟩
abbrev main_v371 : Ref sig .tc := ⟨.hbm, 629, rfl⟩
abbrev main_v372 : Ref sig .tc := ⟨.hbm, 630, rfl⟩
abbrev main_cst_64 : Ref sig .tc := ⟨.hbm, 631, rfl⟩
abbrev main_call18_v0 : Ref sig .tc := ⟨.hbm, 632, rfl⟩
abbrev main_call18_v1 : Ref sig .tc := ⟨.hbm, 633, rfl⟩
abbrev main_v373 : Ref sig .tc := ⟨.hbm, 634, rfl⟩
abbrev main_cst_65 : Ref sig .tc := ⟨.hbm, 635, rfl⟩
abbrev main_v374 : Ref sig .tc := ⟨.hbm, 636, rfl⟩
abbrev main_v375 : Ref sig .tc := ⟨.hbm, 637, rfl⟩
abbrev main_cst_66 : Ref sig .tc := ⟨.hbm, 638, rfl⟩
abbrev main_v376 : Ref sig .tc := ⟨.hbm, 639, rfl⟩
abbrev main_v377 : Ref sig .tc := ⟨.hbm, 640, rfl⟩
abbrev main_v378 : Ref sig .tc := ⟨.hbm, 641, rfl⟩
abbrev main_v379 : Ref sig .tc := ⟨.hbm, 642, rfl⟩
abbrev main_v380 : Ref sig .tc := ⟨.hbm, 643, rfl⟩
abbrev main_v381 : Ref sig .tc := ⟨.hbm, 644, rfl⟩
abbrev main_cst_67 : Ref sig .tc := ⟨.hbm, 645, rfl⟩
abbrev main_v382 : Ref sig .tc := ⟨.hbm, 646, rfl⟩
abbrev main_v383 : Ref sig .tc := ⟨.hbm, 647, rfl⟩
abbrev main_v384 : Ref sig .tc := ⟨.hbm, 648, rfl⟩
abbrev main_v385 : Ref sig .tc := ⟨.hbm, 649, rfl⟩
abbrev main_v386 : Ref sig .tc := ⟨.hbm, 650, rfl⟩
abbrev main_v387 : Ref sig .tc := ⟨.hbm, 651, rfl⟩
abbrev main_v388 : Ref sig .tc := ⟨.hbm, 652, rfl⟩
abbrev main_cst_68 : Ref sig .tc := ⟨.hbm, 653, rfl⟩
abbrev main_v389 : Ref sig .tc := ⟨.hbm, 654, rfl⟩
abbrev main_v390 : Ref sig .tc := ⟨.hbm, 655, rfl⟩
abbrev main_v391 : Ref sig .tc := ⟨.hbm, 656, rfl⟩
abbrev main_v392 : Ref sig .tc := ⟨.hbm, 657, rfl⟩
abbrev main_v393 : Ref sig .tc := ⟨.hbm, 658, rfl⟩
abbrev main_v394 : Ref sig .tc := ⟨.hbm, 659, rfl⟩
abbrev main_v395 : Ref sig .tc := ⟨.hbm, 660, rfl⟩
abbrev main_v396 : Ref sig .tc := ⟨.hbm, 661, rfl⟩
abbrev main_v397 : Ref sig .tc := ⟨.hbm, 662, rfl⟩
abbrev main_v398 : Ref sig .tc := ⟨.hbm, 663, rfl⟩
abbrev main_v399 : Ref sig .tc := ⟨.hbm, 664, rfl⟩
abbrev main_v400 : Ref sig .tc := ⟨.hbm, 665, rfl⟩
abbrev main_v401 : Ref sig .tc := ⟨.hbm, 666, rfl⟩
abbrev main_v402 : Ref sig .tc := ⟨.hbm, 667, rfl⟩
abbrev main_v403 : Ref sig .tc := ⟨.hbm, 668, rfl⟩
abbrev main_v404 : Ref sig .tc := ⟨.hbm, 669, rfl⟩
abbrev main_v405 : Ref sig .tc := ⟨.hbm, 670, rfl⟩
abbrev main_v406 : Ref sig .tc := ⟨.hbm, 671, rfl⟩
abbrev main_v407 : Ref sig .tc := ⟨.hbm, 672, rfl⟩

abbrev nD : Nat := 1
abbrev τ : Topo := Topo.v7x

variable {F : FTy → Type} [FloatOps F]
-- ==== Proof.Run.lean ====
module

public import proofs.«01_k».proof.Proof.Gen.KernelIdeal
public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A memref's buffer on core `c`: its contents, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦{fullShare} f

set_option maxRecDepth 16384 in
set_option sl_exec.stridedRows true in

noncomputable def kernelRun (c : Dev nD) (i : grid0.Coords)
    (M2 : Memref sig .tc .vmem S1x46x96x256 .i8) (h2 : M2.IsWhole) (M3 : Memref sig .tc .vmem S1x23x48x256 .i8) (h3 : M3.IsWhole)
    (M4 : Memref sig .tc .vmem S1x11x24x256 .i8) (h4 : M4.IsWhole) (M5 : Memref sig .tc .vmem S1x5x12x256 .i8) (h5 : M5.IsWhole)
    (M6 : Memref sig .tc .vmem S1x4x256 .f32) (h6 : M6.IsWhole) (M7 : Memref sig .tc .vmem S1x2x256 .f32) (h7 : M7.IsWhole)
    (M8 : Memref sig .tc .vmem S1x324x256 .bf16) (h8 : M8.IsWhole)
    (M9 : Memref sig .tc .vmem S728x128 .i32) (h9 : M9.IsWhole) (M10 : Memref sig .tc .vmem S648x128 .f32) (h10 : M10.IsWhole)
    (f2 : Bf (F := F) c M2) (f3 : Bf (F := F) c M3) (f4 : Bf (F := F) c M4) (f5 : Bf (F := F) c M5)
    (f6 : Bf (F := F) c M6) (f7 : Bf (F := F) c M7) (f9 : Bf (F := F) c M9) :
    { W : Bf (F := F) c M8 //
      ∀ (f8 : Bf (F := F) c M8) (f10 : Bf (F := F) c M10) (Q : PUnit → sProp (MT nD τ sig Unit (Elt F) ℕ (UR sig nD τ) ℕ)),
      iprop(pt c M2 f2 ∗ pt c M3 f3 ∗ pt c M4 f4 ∗ pt c M5 f5 ∗ pt c M6 f6 ∗ pt c M7 f7 ∗ pt c M8 f8 ∗ pt c M9 f9 ∗ pt c M10 f10
        ∗ (iprop(pt c M2 f2 ∗ pt c M3 f3 ∗ pt c M4 f4 ∗ pt c M5 f5 ∗ pt c M6 f6 ∗ pt c M7 f7 ∗ pt c M8 W
            ∗ (∃ f, pt c M9 f) ∗ (∃ f, pt c M10 f)) -∗ Q ⟨⟩))
      ⊢ wp frame (wpE (defs₀ (F := F)) Variants.none c none) Set.univ
        (cc0_corr_lookup i M2 h2 M3 h3 M4 h4 M5 h5 M6 h6 M7 h7 M8 h8 M9 h9 M10 h10) Q } := by
  refine ⟨?_, fun f8 f10 Q => ?run⟩
  case run =>
    iintro ⟨H2, H3, H4, H5, H6, H7, H8, H9, H10, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

end Cert.KernelIdeal.Hand

end
-- ==== Proof.FrameI.lean ====
module

public import proofs.«01_k».proof.Proof.Run
public import Idealize.ShloMosaic.Lib.Pipeline.FrameSuffix

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

omit [FloatOps F] in
/-- The seven windows, one by one. -/
theorem bigSep_W (Φ : Fin cfg0.W → sProp (MT nD τ sig Unit (Elt F) ℕ (UR sig nD τ) ℕ)) :
    bigSep Finset.univ Φ = iprop(Φ 0 ∗ Φ 1 ∗ Φ 2 ∗ Φ 3 ∗ Φ 4 ∗ Φ 5 ∗ Φ 6) := by
  rw [show (Finset.univ : Finset (Fin cfg0.W)) = insert 0 (insert 1 (insert 2 (insert 3 (insert 4 (insert 5 {6}))))) from by decide,
    bigSep_insert (by decide), bigSep_insert (by decide), bigSep_insert (by decide), bigSep_insert (by decide), bigSep_insert (by decide),
    bigSep_insert (by decide), bigSep_singleton]
  rfl

omit [FloatOps F] in
/-- The buffers the region owns beside the staging buffers: the two scratch buffers. -/
theorem scopedRest_eq (c : Dev nD) : (Pipeline.scopedRest (Ix := Unit) (Name := ℕ) (U := UR sig nD τ) (Lvl := ℕ) (Val := Elt F) spec0 c : sProp (MT nD τ sig Unit (Elt F) ℕ (UR sig nD τ) ℕ))
    = iprop((∃ f, pt c (Memref.whole cc0_scratch0) f) ∗ (∃ f, pt c (Memref.whole cc0_scratch1) f)) := by
  unfold Pipeline.scopedRest
  rw [show (Finset.univ.filter fun b : Ref sig .tc => b.isScoped) \ Finset.univ.image (Pipeline.stageRef spec0)
      = {cc0_scratch0, cc0_scratch1} from by decide,
    bigSep_insert (by decide), bigSep_singleton]
  rfl

/-- The pipeline's data: each array as the region finds it; after the body every input block in place and the
    result's block at `G`. -/
def dats (G : (c : Dev nD) → Fin cfg0.N → S1x324x256.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => G c t
  Φ _ := Pipeline.ΦA spec0 c
  q _ := fullShare
  owed _ := 0

variable (G : (c : Dev nD) → Fin cfg0.N → S1x324x256.Idx → Elt F .bf16)

theorem A_eq (c : Dev nD) (w : Fin cfg0.W) : (dats m G 0 c).A w = V m c (Pipeline.arrRef spec0 w) := by
  dsimp only [dats]

/-- The one window whose contents the frame forgets: the result's. -/
def fgt (w : Fin cfg0.W) : Bool := w == 6

/-- What the body is handed at point `t`, the windows one by one. -/
def bodyPre (c : Dev nD) (t : Fin cfg0.N) : sProp (MT nD τ sig Unit (Elt F) ℕ (UR sig nD τ) ℕ) :=
  iprop(Pipeline.ΦA spec0 c ∗ (dats m G 0 c).owesAt () t.castSucc
    ∗ (∃ d, owns (c : Thread nD τ) ((cfg0.win 0).stage (cfg0.slots t 0)) fullShare ((dats m G 0 c).before 0 t d))
    ∗ (∃ d, owns (c : Thread nD τ) ((cfg0.win 1).stage (cfg0.slots t 1)) fullShare ((dats m G 0 c).before 1 t d))
    ∗ (∃ d, owns (c : Thread nD τ) ((cfg0.win 2).stage (cfg0.slots t 2)) fullShare ((dats m G 0 c).before 2 t d))
    ∗ (∃ d, owns (c : Thread nD τ) ((cfg0.win 3).stage (cfg0.slots t 3)) fullShare ((dats m G 0 c).before 3 t d))
    ∗ (∃ d, owns (c : Thread nD τ) ((cfg0.win 4).stage (cfg0.slots t 4)) fullShare ((dats m G 0 c).before 4 t d))
    ∗ (∃ d, owns (c : Thread nD τ) ((cfg0.win 5).stage (cfg0.slots t 5)) fullShare ((dats m G 0 c).before 5 t d))
    ∗ (∃ X, owns (c : Thread nD τ) ((cfg0.win 6).stage (cfg0.slots t 6)) fullShare X))

/-- What the body leaves: the input blocks in place, the result's block at something `P` holds of. -/
def bodyPost (P : (S1x324x256.Idx → Elt F .bf16) → Prop) (c : Dev nD) (t : Fin cfg0.N) : sProp (MT nD τ sig Unit (Elt F) ℕ (UR sig nD τ) ℕ) :=
  iprop(Pipeline.ΦA spec0 c ∗ (dats m G 0 c).owesAt () t.castSucc
    ∗ owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ (∃ X, ⌜P X⌝ ∗ owns (c : Thread nD τ) ((cfg0.win 6).stage (cfg0.slots t 6)) fullShare X))

/-- What the body leaves in the result's staging buffer at point `t`, from the input buffers `f2 … f7` and the word
    scratch `f9`. -/
abbrev outAt (c : Dev nD) (t : Fin cfg0.N)
    (f2 : Bf (F := F) c ((cfg0.win 0).stage (cfg0.slots t 0))) (f3 : Bf (F := F) c ((cfg0.win 1).stage (cfg0.slots t 1)))
    (f4 : Bf (F := F) c ((cfg0.win 2).stage (cfg0.slots t 2))) (f5 : Bf (F := F) c ((cfg0.win 3).stage (cfg0.slots t 3)))
    (f6 : Bf (F := F) c ((cfg0.win 4).stage (cfg0.slots t 4))) (f7 : Bf (F := F) c ((cfg0.win 5).stage (cfg0.slots t 5)))
    (f9 : Bf (F := F) c (Memref.whole cc0_scratch0)) : Bf (F := F) c ((cfg0.win 6).stage (cfg0.slots t 6)) :=
  (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    f2 f3 f4 f5 f6 f7 f9).1

set_option maxHeartbeats 2000000 in
/-- The body at point `t`: from the input blocks to the same blocks and a result block `P` holds of, if `P` holds of
    whatever the run leaves whenever the input buffers hold their blocks. -/
theorem sound_body (P : (S1x324x256.Idx → Elt F .bf16) → Prop) (c : Dev nD) (t : Fin cfg0.N)
    (hP : ∀ f2 f3 f4 f5 f6 f7 f9,
      ((cfg0.win 0).stage (cfg0.slots t 0)).view.read (Elt F) f2 = iblk m c 0 t →
      ((cfg0.win 1).stage (cfg0.slots t 1)).view.read (Elt F) f3 = iblk m c 1 t →
      ((cfg0.win 2).stage (cfg0.slots t 2)).view.read (Elt F) f4 = iblk m c 2 t →
      ((cfg0.win 3).stage (cfg0.slots t 3)).view.read (Elt F) f5 = iblk m c 3 t →
      ((cfg0.win 4).stage (cfg0.slots t 4)).view.read (Elt F) f6 = iblk m c 4 t →
      ((cfg0.win 5).stage (cfg0.slots t 5)).view.read (Elt F) f7 = iblk m c 5 t →
      P (((cfg0.win 6).stage (cfg0.slots t 6)).view.read (Elt F) (outAt c t f2 f3 f4 f5 f6 f7 f9))) :
    bodyPre m G c t ⊢ wp frame (wpE (defs₀ (F := F)) Variants.none c none) Set.univ
      (defs₀ .tc cfg0.body (cfg0.bodyArgs t (cfg0.slots t))) (fun _ => bodyPost m G P c t) := by
  unfold bodyPre bodyPost Pipeline.ΦA
  rw [scopedRest_eq]
  unfold owns
  iintro ⟨⟨⟨⟨%f9, H9⟩, ⟨%f10, H10⟩⟩, ⟨%g, Hg⟩⟩, Howes,
    ⟨%d0, %f2, %hf2, H2⟩, ⟨%d1, %f3, %hf3, H3⟩, ⟨%d2, %f4, %hf4, H4⟩, ⟨%d3, %f5, %hf5, H5⟩, ⟨%d4, %f6, %hf6, H6⟩,
    ⟨%d5, %f7, %hf7, H7⟩, ⟨%X, %f8, -, H8⟩⟩
  rw [before0_0_of m (dats m G 0 c) (A_eq m G c 0) (fun _ => by dsimp only [dats])] at hf2
  rw [before0_1_of m (dats m G 0 c) (A_eq m G c 1) (fun _ => by dsimp only [dats])] at hf3
  rw [before0_2_of m (dats m G 0 c) (A_eq m G c 2) (fun _ => by dsimp only [dats])] at hf4
  rw [before0_3_of m (dats m G 0 c) (A_eq m G c 3) (fun _ => by dsimp only [dats])] at hf5
  rw [before0_4_of m (dats m G 0 c) (A_eq m G c 4) (fun _ => by dsimp only [dats])] at hf6
  rw [before0_5_of m (dats m G 0 c) (A_eq m G c 5) (fun _ => by dsimp only [dats])] at hf7
  have hs0 := (hstage0_0 ((cfg0.slots t 0).cast nbuf0_0)).set_eq_univ
  have hs1 := (hstage0_1 ((cfg0.slots t 1).cast nbuf0_1)).set_eq_univ
  have hs2 := (hstage0_2 ((cfg0.slots t 2).cast nbuf0_2)).set_eq_univ
  have hs3 := (hstage0_3 ((cfg0.slots t 3).cast nbuf0_3)).set_eq_univ
  have hs4 := (hstage0_4 ((cfg0.slots t 4).cast nbuf0_4)).set_eq_univ
  have hs5 := (hstage0_5 ((cfg0.slots t 5).cast nbuf0_5)).set_eq_univ
  have hs6 := (hstage0_6 ((cfg0.slots t 6).cast nbuf0_6)).set_eq_univ
  change (win0_0.stage (cfg0.slots t 0)).view.set = _ at hs0
  rw [show ((cfg0.win 0).stage (cfg0.slots t 0)).view.set = Finset.univ from hs0,
    show ((cfg0.win 1).stage (cfg0.slots t 1)).view.set = Finset.univ from hs1,
    show ((cfg0.win 2).stage (cfg0.slots t 2)).view.set = Finset.univ from hs2,
    show ((cfg0.win 3).stage (cfg0.slots t 3)).view.set = Finset.univ from hs3,
    show ((cfg0.win 4).stage (cfg0.slots t 4)).view.set = Finset.univ from hs4,
    show ((cfg0.win 5).stage (cfg0.slots t 5)).view.set = Finset.univ from hs5,
    show ((cfg0.win 6).stage (cfg0.slots t 6)).view.set = Finset.univ from hs6]
  iapply ((kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    f2 f3 f4 f5 f6 f7 f9).2 f8 f10 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, ⟨%e9, H9⟩, ⟨%e10, H10⟩⟩
  isplitl [H9 H10 Hg]
  · isplitr [Hg]
    · isplitl [H9]
      · iexists e9; iexact H9
      · iexists e10; iexact H10
    · iexists g; iexact Hg
  isplitl [Howes]; · iexact Howes
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  iexists _
  isplitr
  swap
  · iexists _; isplitr; swap; (· iexact H8); ipureintro; rfl
  · ipureintro; exact hP f2 f3 f4 f5 f6 f7 f9 hf2 hf3 hf4 hf5 hf6 hf7

/-- What the body leaves with the result's contents forgotten. -/
def bodyPostForget (c : Dev nD) (t : Fin cfg0.N) : sProp (MT nD τ sig Unit (Elt F) ℕ (UR sig nD τ) ℕ) :=
  iprop(Pipeline.ΦA spec0 c ∗ (dats m G 0 c).owesAt () t.castSucc
    ∗ owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ (∃ X, owns (c : Thread nD τ) ((cfg0.win 6).stage (cfg0.slots t 6)) fullShare X))

theorem bodyPost_forget (P : (S1x324x256.Idx → Elt F .bf16) → Prop) (c : Dev nD) (t : Fin cfg0.N) :
    bodyPost m G P c t ⊢ bodyPostForget m G c t := by
  unfold bodyPost bodyPostForget
  iintro ⟨HΦ, Ho, H2, H3, H4, H5, H6, H7, ⟨%X, -, H8⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  iexists X; iexact H8

/-- The body obligation with the result's contents forgotten. -/
theorem body_forget (c : Dev nD) : BodyObligationLoose (dats m G 0 c) (defs₀ (F := F)) Variants.none () Set.univ fgt := fun t => by
  rw [bigSep_W, bigSep_W]
  exact (show _ ⊢ bodyPre m G c t from .rfl).trans ((sound_body m G (fun _ => True) c t (fun _ _ _ _ _ _ _ _ _ _ _ _ _ => trivial)).trans
    (wp_mono _ _ _ fun _ => (bodyPost_forget m G _ c t).trans (show bodyPostForget m G c t ⊢ _ from .rfl)))

/-- An argument array, staged by no window and written by no host line, ends as the launch found it. -/
theorem keptArg (c : Dev nD) (r : PUnit × MemSt nD τ sig (Elt F))
    (h : Pipeline.RDat.FramePostR cfg0 (fun c => (dats m G 0 c).toRForget fgt) {main_v7} (fun c b => V0 m c (Proc.devRef .tc b)) r)
    (b : Ref sig .tc) (hs : b.isScoped = false) (hw : ∀ w, (spec0 w).arr.view.ref ≠ b) (hT : b ∉ ({main_v7} : Finset (Ref sig .tc)))
    (hV : V m c b = m ((c : Thread nD τ).loc b)) :
    r.2.mem ((c.tc : Thread nD τ).loc b) = m ((c.tc : Thread nD τ).loc b) :=
  ((h c).2 b (Finset.mem_sdiff.mpr ⟨Pipeline.mem_restRefs_of b hs hw, hT⟩)).trans hV

/-- The frame: the run terminates without a fault, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_around_T_forget cfgs (dats m fun _ _ _ => FloatOps.ofBits .bf16 0#16) 0 launch0 defs₀ Variants.none fgt {main_v7} m ρ main
    (hbody := body_forget m _) (hshare := fun c => (dats m _ 0 c).share_full fun _ => rfl) (howed := fun _ _ => rfl)
    (V₀ := V0 m) (opss := [hostOps1]) (hsub := sfx_sub) (hfresh := sfx_fresh) (hkeep := sfx_keeps)
    (hT := by
      intro ops h op ho b hb
      simp only [List.mem_singleton] at h; subst h
      simp only [hostOps1, List.mem_singleton] at ho; subst ho
      simp only [StableHlo.unary_writes, Finset.mem_singleton] at hb
      rw [Finset.mem_singleton]
      exact Classical.byContradiction fun hne => StableHlo.devRef_ne_of_ne hne hb)
    (hmain := hmain m Variants.none) (hA := A_eq m _) (hΦ := fun _ _ => rfl)
    (Q' := _) (hQ' := fun r h => ⟨fun c => ⟨keptArg m _ c r h.1 main_arg0 (by decide) (by decide) (by decide) (V_main_arg0 m c), keptArg m _ c r h.1 main_arg1 (by decide) (by decide) (by decide) (V_main_arg1 m c), keptArg m _ c r h.1 main_arg2 (by decide) (by decide) (by decide) (V_main_arg2 m c), keptArg m _ c r h.1 main_arg3 (by decide) (by decide) (by decide) (V_main_arg3 m c), keptArg m _ c r h.1 main_arg4 (by decide) (by decide) (by decide) (V_main_arg4 m c), keptArg m _ c r h.1 main_arg5 (by decide) (by decide) (by decide) (V_main_arg5 m c)⟩, h.2⟩)

end Cert.KernelIdeal.Hand

end
-- ==== Proof.Spec.lean ====
module

public import proofs.«01_k».proof.Proof.Run

@[expose] public section

/-! The body's values, written once per stage as functions of the row, word and window counters: the printed body spells
    every one of them out. -/

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

/-- An integer constant in every lane. -/
abbrev bci (n : Nat) : IVec S8x128 32 := broadcast S8x128 (BitVec.ofNat 32 n)
/-- A float constant, by its bits, in every lane. -/
abbrev bcf (b : BitVec 32) : FVec F S8x128 .f32 := broadcast S8x128 (Scalar.ofBits .f32 b)

/-- The row number of each cell. -/
def sub8 : IVec S8x128 32 := iota .tc S8x128 32 [0] iota_S8x128_d0_w32
/-- The cells of the first group of four rows. -/
def first8 : IVec S8x128 1 := cmpi .slt sub8 (bci 4)
/-- The level of each cell. -/
def lev8 : IVec S8x128 32 := andi sub8 (bci 3)
/-- A value per level. -/
def perLevel {α : Type} (a0 a1 a2 a3 : S8x128.Idx → α) : S8x128.Idx → α :=
  select (cmpi .eq lev8 (bci 3)) a3 (select (cmpi .eq lev8 (bci 2)) a2 (select (cmpi .eq lev8 (bci 1)) a1 a0))

/-! ## The window's place -/

/-- The query's number in its batch. -/
def pos8 (i : grid0.Coords) : IVec S8x128 32 :=
  addi (addi (broadcast S8x128 (Scalar.muli (BitVec.ofNat 32 (i 1).val) 256#32)) (iota .tc S8x128 32 [1] iota_S8x128_d1_w32))
    (select first8 (bci 0) (bci 128))
/-- Its grid row and column. -/
def gy8 (i : grid0.Coords) : FVec F S8x128 .f32 :=
  floor (mulf (addf (sitofp .f32 (pos8 i)) (bcf 0x3F000000#32)) (bcf 0x3C2AAAAB#32))
def gx8 (i : grid0.Coords) : FVec F S8x128 .f32 := subf (sitofp .f32 (pos8 i)) (mulf (gy8 i) (bcf 0x42C00000#32))

def step8 : FVec F S8x128 .f32 := perLevel (bcf 0x3F800000#32) (bcf 0x3F000000#32) (bcf 0x3E800000#32) (bcf 0x3E000000#32)
def hmax8 : IVec S8x128 32 := perLevel (bci 46) (bci 23) (bci 11) (bci 5)
def wmax8 : IVec S8x128 32 := perLevel (bci 96) (bci 48) (bci 24) (bci 12)

/-- The flow's first and second component, by the group of the row. -/
def flowX (x7 : FVec F S1x2x256 .f32) : FVec F S8x128 .f32 :=
  select first8
    (broadcastTo S8x128 (shapeCast S1x128 (extractStridedSlice S1x128 ![0, 0] (extractStridedSlice S2x128 ![0, 0]
      (shapeCast S2x256 x7 shapeCasts_S1x2x256_S2x256) slices_S2x256_o0_0_S2x128) slices_S2x128_o0_0_S1x128) shapeCasts_S1x128_S1x128) broadcasts_S1x128_S8x128)
    (broadcastTo S8x128 (shapeCast S1x128 (extractStridedSlice S1x128 ![0, 0] (extractStridedSlice S2x128 ![0, 128]
      (shapeCast S2x256 x7 shapeCasts_S1x2x256_S2x256) slices_S2x256_o0_128_S2x128) slices_S2x128_o0_0_S1x128) shapeCasts_S1x128_S1x128) broadcasts_S1x128_S8x128)
def flowY (x7 : FVec F S1x2x256 .f32) : FVec F S8x128 .f32 :=
  select first8
    (broadcastTo S8x128 (shapeCast S1x128 (extractStridedSlice S1x128 ![1, 0] (extractStridedSlice S2x128 ![0, 0]
      (shapeCast S2x256 x7 shapeCasts_S1x2x256_S2x256) slices_S2x256_o0_0_S2x128) slices_S2x128_o1_0_S1x128) shapeCasts_S1x128_S1x128) broadcasts_S1x128_S8x128)
    (broadcastTo S8x128 (shapeCast S1x128 (extractStridedSlice S1x128 ![1, 0] (extractStridedSlice S2x128 ![0, 128]
      (shapeCast S2x256 x7 shapeCasts_S1x2x256_S2x256) slices_S2x256_o0_128_S2x128) slices_S2x128_o1_0_S1x128) shapeCasts_S1x128_S1x128) broadcasts_S1x128_S8x128)

/-- The window's centre. -/
def cx8 (i : grid0.Coords) (x7 : FVec F S1x2x256 .f32) : FVec F S8x128 .f32 := mulf (addf (gx8 i) (flowX x7)) step8
def cy8 (i : grid0.Coords) (x7 : FVec F S1x2x256 .f32) : FVec F S8x128 .f32 := mulf (addf (gy8 i) (flowY x7)) step8
def fx8 (i : grid0.Coords) (x7 : FVec F S1x2x256 .f32) : FVec F S8x128 .f32 := subf (cx8 i x7) (floor (cx8 i x7))
def fy8 (i : grid0.Coords) (x7 : FVec F S1x2x256 .f32) : FVec F S8x128 .f32 := subf (cy8 i x7) (floor (cy8 i x7))
/-- The window's first column and row, clipped. -/
def xs8 (i : grid0.Coords) (x7 : FVec F S1x2x256 .f32) : IVec S8x128 32 :=
  fptosi 32 (minimumf (sitofp .f32 wmax8) (maximumf (bcf 0xC1200000#32) (subf (floor (cx8 i x7)) (bcf 0x40800000#32))))
def ys8 (i : grid0.Coords) (x7 : FVec F S1x2x256 .f32) : IVec S8x128 32 :=
  fptosi 32 (minimumf (sitofp .f32 hmax8) (maximumf (bcf 0xC1200000#32) (subf (floor (cy8 i x7)) (bcf 0x40800000#32))))
def scale8 (x6 : FVec F S1x4x256 .f32) : FVec F S8x128 .f32 :=
  concatenate S8x128 0 [⟨S4x128, extractStridedSlice S4x128 ![0, 0] (shapeCast S4x256 x6 shapeCasts_S1x4x256_S4x256) slices_S4x256_o0_0_S4x128⟩,
    ⟨S4x128, extractStridedSlice S4x128 ![0, 128] (shapeCast S4x256 x6 shapeCasts_S1x4x256_S4x256) slices_S4x256_o0_128_S4x128⟩] concatenates_S4x128_S4x128_S8x128_d0

/-! ## The words each row's window is read from -/

theorem slices_row (r : Fin 8) : S8x128.Slices ![r.val, 0] S1x128 := by revert r; decide

/-- Row `r` of a value, in every row. -/
def row8 (x : IVec S8x128 32) (r : Fin 8) : IVec S8x128 32 :=
  broadcastTo S8x128 (shapeCast S1x128 (extractStridedSlice S1x128 ![r.val, 0] x (slices_row r)) shapeCasts_S1x128_S1x128) broadcasts_S1x128_S8x128

/-- Whether row `y` of the map lies before the window's end, in row `r`. -/
def keep8 (ys : IVec S8x128 32) (r : Fin 8) (y : Nat) : IVec S8x128 1 := cmpi .sgt (row8 (addi ys (bci 10)) r) (bci y)
/-- Whether word `s + ` the row number lies before the window's first word, in row `r`. -/
def below8 (xs : IVec S8x128 32) (r : Fin 8) (s : Nat) : IVec S8x128 1 := cmpi .slt (addi sub8 (bci s)) (row8 (shrsi xs (bci 2)) r)

/-- `n` words of row `y` of a level's block from byte `x0`, for group `g`: four bytes to a word. -/
def chunk (c : Dev nD) {H W : Nat} (M : Memref sig .tc .vmem ⟨4, ![1, H, W, 256]⟩ .i8) (f : Bf (F := F) c M) (n nb : Nat)
    (hs : (⟨4, ![1, 1, nb, 128]⟩ : Shape).ShapeCasts ⟨2, ![nb, 128]⟩) (hb : (⟨2, ![nb, 128]⟩ : Shape).Bitcasts 8 ⟨2, ![n, 128]⟩ 32)
    (x0 : Nat) (g : Fin 2) (y : Nat) : IVec ⟨2, ![n, 128]⟩ 32 :=
  if h : ∀ a, (![0, y, x0, g.val * 128] : Fin 4 → Nat) a + (![1, 1, nb, 128] : Fin 4 → Nat) a ≤ (![1, H, W, 256] : Fin 4 → Nat) a then
    bitcast ⟨2, ![n, 128]⟩ 32 (shapeCast ⟨2, ![nb, 128]⟩ (View.readAt (Elt F) M.view
      (Rect.unit (s := ⟨4, ![1, H, W, 256]⟩) ![0, y, x0, g.val * 128] ![1, 1, nb, 128] h).toLoadRect f) hs) hb
  else fun _ => 0

/-- The rows after the first, of one remainder modulo ten. -/
def later (H m : Nat) : List Nat := ((List.range 4).map fun q => m + 10 * (q + 1)).filter fun y => decide (y < H)

/-- The last of the rows `m, m + 10, …` before the window's end. -/
def lastRow {S : Shape} (ks : Nat → IVec S 1) (ch : Nat → IVec S 32) (H m : Nat) : IVec S 32 :=
  (later H m).foldl (fun acc y => select (ks y) (ch y) acc) (ch m)

/-- What is stored for row `r = 4 g`: level 0. -/
def words0 (c : Dev nD) (M : Memref sig .tc .vmem S1x46x96x256 .i8) (f : Bf (F := F) c M) (xs ys : IVec S8x128 32) (g : Fin 2) (m : Nat) : IVec S8x128 32 :=
  let r : Fin 8 := ⟨g.val * 4, by omega⟩
  let acc := fun x0 => lastRow (keep8 ys r) (chunk c M f 8 32 shapeCasts_S1x1x32x128_S32x128 bitcasts_S32x128_w8_S8x128_w32 x0 g) 46 m
  select (below8 xs r 8) (acc 64) (select (below8 xs r 0) (acc 32) (acc 0))

/-- Row `4 g + 1`: level 1. -/
def words1 (c : Dev nD) (M : Memref sig .tc .vmem S1x23x48x256 .i8) (f : Bf (F := F) c M) (xs ys : IVec S8x128 32) (g : Fin 2) (m : Nat) : IVec S8x128 32 :=
  let r : Fin 8 := ⟨g.val * 4 + 1, by omega⟩
  let a0 := lastRow (keep8 ys r) (chunk c M f 8 32 shapeCasts_S1x1x32x128_S32x128 bitcasts_S32x128_w8_S8x128_w32 0 g) 23 m
  let a1 := lastRow (fun y => extractStridedSlice S4x128 ![0, 0] (keep8 ys r y) slices_S8x128_o0_0_S4x128)
    (chunk c M f 4 16 shapeCasts_S1x1x16x128_S16x128 bitcasts_S16x128_w8_S4x128_w32 32 g) 23 m
  concatenate S8x128 0 [⟨S4x128, select (extractStridedSlice S4x128 ![0, 0] (below8 xs r 0) slices_S8x128_o0_0_S4x128) a1
      (extractStridedSlice S4x128 ![0, 0] a0 slices_S8x128_o0_0_S4x128)⟩,
    ⟨S4x128, extractStridedSlice S4x128 ![4, 0] a0 slices_S8x128_o4_0_S4x128⟩] concatenates_S4x128_S4x128_S8x128_d0

/-- Row `4 g + 2`: level 2. -/
def words2 (c : Dev nD) (M : Memref sig .tc .vmem S1x11x24x256 .i8) (f : Bf (F := F) c M) (ys : IVec S8x128 32) (g : Fin 2) (m : Nat) : IVec S6x128 32 :=
  let r : Fin 8 := ⟨g.val * 4 + 2, by omega⟩
  let ch := chunk c M f 6 24 shapeCasts_S1x1x24x128_S24x128 bitcasts_S24x128_w8_S6x128_w32 0 g
  if m = 0 then select (extractStridedSlice S6x128 ![0, 0] (keep8 ys r 10) slices_S8x128_o0_0_S6x128) (ch 10) (ch 0) else ch m

/-- Row `4 g + 3`: level 3. -/
def words3 (c : Dev nD) (M : Memref sig .tc .vmem S1x5x12x256 .i8) (f : Bf (F := F) c M) (g : Fin 2) (m : Nat) : IVec S3x128 32 :=
  chunk c M f 3 12 shapeCasts_S1x1x12x128_S12x128 bitcasts_S12x128_w8_S3x128_w32 0 g m

/-- One store of words: `n` rows at `((m * 8) + r) * 9`. -/
def wpiece (n : Nat) (r : Fin 8) (m : Fin 10) (hn : n ≤ 8) (v : IVec ⟨2, ![n, 128]⟩ 32) : View.Piece (Elt F) S728x128 .i32 :=
  ⟨Rect.unit (s := S728x128) ![(m.val * 8 + r.val) * 9, 0] ![n, 128] (by
    intro a; fin_cases a
    · show (m.val * 8 + r.val) * 9 + n ≤ 728; omega
    · show 0 + 128 ≤ 128; omega), v⟩

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

/-- The counters below ten and below nine, the last first. -/
abbrev down10 : List (Fin 10) := [9, 8, 7, 6, 5, 4, 3, 2, 1, 0]
abbrev down9 : List (Fin 9) := [8, 7, 6, 5, 4, 3, 2, 1, 0]

/-- The stores of one group, the last first. -/
def wgroup (xs ys : IVec S8x128 32) (g : Fin 2) : List (View.Piece (Elt F) S728x128 .i32) :=
  (([4, 3, 2, 1, 0] : List (Fin 10)).map fun m => wpiece 3 ⟨g.val * 4 + 3, by omega⟩ m (by omega)
      (shapeCast S3x128 (words3 c M5 f5 g m.val) shapeCasts_S3x128_S3x128))
  ++ ((down10.map fun m => wpiece 6 ⟨g.val * 4 + 2, by omega⟩ m (by omega)
      (shapeCast S6x128 (words2 c M4 f4 ys g m.val) shapeCasts_S6x128_S6x128))
  ++ ((down10.map fun m => wpiece 8 ⟨g.val * 4 + 1, by omega⟩ m (by omega)
      (shapeCast S8x128 (words1 c M3 f3 xs ys g m.val) shapeCasts_S8x128_S8x128))
  ++ (down10.map fun m => wpiece 8 ⟨g.val * 4, by omega⟩ m (by omega)
      (shapeCast S8x128 (words0 c M2 f2 xs ys g m.val) shapeCasts_S8x128_S8x128))))

/-- All the stores of words, the last first. -/
def wpieces (xs ys : IVec S8x128 32) : List (View.Piece (Elt F) S728x128 .i32) :=
  wgroup c M2 M3 M4 M5 f2 f3 f4 f5 xs ys 1 ++ wgroup c M2 M3 M4 M5 f2 f3 f4 f5 xs ys 0

/-! ## From the words to the window's bytes -/

section Net
variable (xs ys : IVec S8x128 32) (W : Nat → Nat → IVec S8x128 32)

def wb8 : IVec S8x128 32 := shrsi xs (bci 2)
def high8 (t : Nat) : IVec S8x128 1 := cmpi .ne (andi (addi (wb8 xs) (andi (subi (bci t) (wb8 xs)) (bci 3))) (bci 4)) (bci 0)
def rot2 : IVec S8x128 1 := cmpi .ne (andi (wb8 xs) (bci 2)) (bci 0)
def rot1 : IVec S8x128 1 := cmpi .ne (andi (wb8 xs) (bci 1)) (bci 0)
def shr8 : IVec S8x128 32 := shli (andi xs (bci 3)) (bci 3)
def shl8 : IVec S8x128 32 := subi (bci 32) (shr8 xs)
/-- Word `t` of the window's row `m`, through the three selections. -/
def net1 (m t : Nat) : IVec S8x128 32 := select (high8 xs t) (W m (t + 4)) (W m t)
def net2 (m t : Nat) : IVec S8x128 32 := select (rot2 xs) (net1 xs W m ((t + 2) % 4)) (net1 xs W m t)
def net3 (m t : Nat) : IVec S8x128 32 := select (rot1 xs) (net2 xs W m ((t + 1) % 4)) (net2 xs W m t)
/-- Four bytes of it, from the window's first byte. -/
def funnel (m t : Nat) : IVec S8x128 32 := ori (shrui (net3 xs W m t) (shr8 xs)) (shli (net3 xs W m (t + 1)) (shl8 xs))

def turn8 : IVec S8x128 32 :=
  subi (addi ys (bci 10)) (muli (bci 10) (shrsi (muli (addi ys (bci 10)) (bci 6554)) (bci 16)))
def on8 (bit : Nat) : IVec S8x128 1 := cmpi .ne (andi (turn8 ys) (bci bit)) (bci 0)
/-- One round of the rotation of the ten rows. -/
def round (bit : Nat) (R : Nat → Nat → IVec S8x128 32) (m t : Nat) : IVec S8x128 32 :=
  select (on8 ys bit) (R ((m + bit) % 10) t) (R m t)
def rows (m t : Nat) : IVec S8x128 32 := round ys 1 (round ys 2 (round ys 4 (round ys 8 (funnel xs W)))) m t

end Net

/-- Byte `i` of the window's row `r`, times two to the 24th, as a float: `R m t` is the window's row `m`, four bytes from `4 t`. -/
def q8 (R : Nat → Nat → IVec S8x128 32) (r i : Nat) : FVec F S8x128 .f32 :=
  if i % 4 = 0 then sitofp .f32 (shli (R r (i / 4)) (bci 24))
  else if i % 4 = 3 then sitofp .f32 (andi (R r (i / 4)) (bci 4278190080))
  else sitofp .f32 (andi (shli (R r (i / 4)) (bci (24 - 8 * (i % 4)))) (bci 4278190080))

section Blend
variable (i : grid0.Coords) (x6 : FVec F S1x4x256 .f32) (x7 : FVec F S1x2x256 .f32) (R : Nat → Nat → IVec S8x128 32)

def unit8 : FVec F S8x128 .f32 := mulf (scale8 x6) (bcf 0x33800000#32)
def okx (k : Nat) : IVec S8x128 1 := andi (cmpi .sge (addi (xs8 i x7) (bci k)) (bci 0)) (cmpi .slt (addi (xs8 i x7) (bci k)) wmax8)
def oky (k : Nat) : IVec S8x128 1 := andi (cmpi .sge (addi (ys8 i x7) (bci k)) (bci 0)) (cmpi .slt (addi (ys8 i x7) (bci k)) hmax8)
def wx0 (k : Nat) : FVec F S8x128 .f32 := select (okx i x7 k) (mulf (subf (bcf 0x3F800000#32) (fx8 i x7)) (unit8 x6)) (bcf 0x00000000#32)
def wx1 (k : Nat) : FVec F S8x128 .f32 := select (okx i x7 k) (mulf (fx8 i x7) (unit8 x6)) (bcf 0x00000000#32)
def wy0 (k : Nat) : FVec F S8x128 .f32 := select (oky i x7 k) (subf (bcf 0x3F800000#32) (fy8 i x7)) (bcf 0x00000000#32)
def wy1 (k : Nat) : FVec F S8x128 .f32 := select (oky i x7 k) (fy8 i x7) (bcf 0x00000000#32)
/-- The blend along a row. -/
def h8 (r k : Nat) : FVec F S8x128 .f32 :=
  addf (mulf (q8 R r k) (wx0 i x6 x7 k)) (mulf (q8 R r (k + 1)) (wx1 i x6 x7 (k + 1)))
/-- The blend of two rows: the value at offset `(k, j)` of the window. -/
def v8 (k j : Nat) : FVec F S8x128 .f32 :=
  addf (mulf (h8 i x6 x7 R j k) (wy0 i x7 j)) (mulf (h8 i x6 x7 R (j + 1) k) (wy1 i x7 (j + 1)))

/-- One store of a blend: row `9 k + j` of every 81. -/
def vpiece (j k : Fin 9) : View.Piece (Elt F) S648x128 .f32 :=
  ⟨{ off := ![k.val * 9 + j.val, 0], size := S8x128.size, stride := ![81, 1]
     inb := by
      intro a; fin_cases a
      · right; show k.val * 9 + j.val + 81 * (8 - 1) < 648; omega
      · right; show 0 + 1 * (128 - 1) < 128; omega
     stride_pos := spos_81_1 }, shapeCast S8x128 (v8 i x6 x7 R k.val j.val) shapeCasts_S8x128_S8x128⟩

/-- All of them, the last first. -/
def vpieces : List (View.Piece (Elt F) S648x128 .f32) :=
  down9.flatMap fun j => down9.map fun k => vpiece i x6 x7 R j k
end Blend

/-! ## The run's values are these -/

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-- The scales and the flow as the body loads them. -/
def x6of : FVec F S1x4x256 .f32 := View.readAt (Elt F) M6.view (Rect.unit ![0, 0, 0] S1x4x256.size inb_S1x4x256_S1x4x256_0_0_0).toLoadRect f6
def x7of : FVec F S1x2x256 .f32 := View.readAt (Elt F) M7.view (Rect.unit ![0, 0, 0] S1x2x256.size inb_S1x2x256_S1x2x256_0_0_0).toLoadRect f7

/-- The stores of words at the body's own window. -/
def W9 : List (View.Piece (Elt F) S728x128 .i32) :=
  wpieces c M2 M3 M4 M5 f2 f3 f4 f5 (xs8 i (x7of c M7 f7)) (ys8 i (x7of c M7 f7))

end Cert.KernelIdeal.Hand

end
-- ==== Proof.Bits.lean ====
module

public import proofs.«01_k».proof.Proof.Spec

@[expose] public section

/-! One cell of the network that picks a window's bytes: the selections move an index, the funnel joins two words, and the
    result's top byte is the window's byte. -/

noncomputable section

namespace Cert.KernelIdeal.Hand

open Cert.KernelIdeal Cert.KernelIdeal.Gen
open Idealize.ShloMosaic
open Idealize.ShloMosaic.TcCoe
open Idealize.SL Idealize.SL.Sem

abbrev w32n (n : Nat) : BitVec 32 := BitVec.ofNat 32 n

/-! ## The network at one cell -/

section Net
variable (x y : BitVec 32)

def wbS : BitVec 32 := IntOp.shrsi .vector x (w32n 2)
def highS (t : Nat) : BitVec 1 :=
  IntOp.cmpi .ne (IntOp.andi (IntOp.addi (wbS x) (IntOp.andi (IntOp.subi (w32n t) (wbS x)) (w32n 3))) (w32n 4)) (w32n 0)
def rot2S : BitVec 1 := IntOp.cmpi .ne (IntOp.andi (wbS x) (w32n 2)) (w32n 0)
def rot1S : BitVec 1 := IntOp.cmpi .ne (IntOp.andi (wbS x) (w32n 1)) (w32n 0)
def shrS : BitVec 32 := IntOp.shli .vector (IntOp.andi x (w32n 3)) (w32n 3)
def shlS : BitVec 32 := IntOp.subi (w32n 32) (shrS x)
def turnS : BitVec 32 :=
  IntOp.subi (IntOp.addi y (w32n 10)) (IntOp.muli (w32n 10) (IntOp.shrsi .vector (IntOp.muli (IntOp.addi y (w32n 10)) (w32n 6554)) (w32n 16)))
def onS (bit : Nat) : BitVec 1 := IntOp.cmpi .ne (IntOp.andi (turnS y) (w32n bit)) (w32n 0)

/-- The three selections, of indices. -/
def i1 (t : Nat) : Nat := Scalar.select (highS x t) (t + 4) t
def i2 (t : Nat) : Nat := Scalar.select (rot2S x) (i1 x ((t + 2) % 4)) (i1 x t)
def i3 (t : Nat) : Nat := Scalar.select (rot1S x) (i2 x ((t + 1) % 4)) (i2 x t)
/-- The four rounds, of indices. -/
def turnIdx (bit m : Nat) : Nat := Scalar.select (onS y bit) ((m + bit) % 10) m
def rIdx (m : Nat) : Nat := turnIdx y 8 (turnIdx y 4 (turnIdx y 2 (turnIdx y 1 m)))

theorem sel_app {α β : Type} (c : BitVec 1) (f : α → β) (a b : α) : Scalar.select c (f a) (f b) = f (Scalar.select c a b) := by
  unfold Scalar.select; split <;> rfl

/-- The window's first column, and its first row, by their distance from the least. -/
abbrev xOf (n : Nat) : BitVec 32 := w32n (n + 4294967286)

theorem i3_eq : ∀ n : Fin 107, ∀ t : Fin 4, i3 (xOf n.val) t.val = ((n.val + 2) / 4 + 5 + t.val) % 8 := by decide +kernel
theorem rIdx_eq : ∀ n : Fin 57, ∀ m : Fin 10, rIdx (xOf n.val) m.val = (m.val + n.val) % 10 := by decide +kernel
theorem shrS_eq : ∀ n : Fin 107, shrS (xOf n.val) = w32n (8 * ((n.val + 2) % 4)) := by decide +kernel
theorem shlS_eq : ∀ n : Fin 107, shlS (xOf n.val) = w32n (32 - 8 * ((n.val + 2) % 4)) := by decide +kernel
end Net

section Apply
variable (xs ys : IVec S8x128 32) (W : Nat → Nat → IVec S8x128 32) (c : S8x128.Idx)

theorem net3_apply (m t : Nat) : net3 xs W m t c = W m (i3 (xs c) t) c := by
  have h (n : Nat) : net1 xs W m n c = W m (i1 (xs c) n) c := by
    show Scalar.select (highS (xs c) n) (W m (n + 4) c) (W m n c) = _
    exact sel_app _ (fun k => W m k c) _ _
  have h2 (n : Nat) : net2 xs W m n c = W m (i2 (xs c) n) c := by
    show Scalar.select (rot2S (xs c)) (net1 xs W m ((n + 2) % 4) c) (net1 xs W m n c) = _
    rw [h, h]
    exact sel_app _ (fun k => W m k c) _ _
  show Scalar.select (rot1S (xs c)) (net2 xs W m ((t + 1) % 4) c) (net2 xs W m t c) = _
  rw [h2, h2]
  exact sel_app _ (fun k => W m k c) _ _

theorem round_apply (bit : Nat) (R : Nat → Nat → IVec S8x128 32) (m t : Nat) :
    round ys bit R m t c = R (turnIdx (ys c) bit m) t c :=
  sel_app (onS (ys c) bit) (fun k => R k t c) ((m + bit) % 10) m

theorem rows_apply (m t : Nat) : rows xs ys W m t c
    = IntOp.ori (IntOp.shrui .vector (W (rIdx (ys c) m) (i3 (xs c) t) c) (shrS (xs c)))
        (IntOp.shli .vector (W (rIdx (ys c) m) (i3 (xs c) (t + 1)) c) (shlS (xs c))) := by
  unfold rows
  rw [round_apply, round_apply, round_apply, round_apply]
  show IntOp.ori (IntOp.shrui .vector (net3 xs W _ t c) _) (IntOp.shli .vector (net3 xs W _ (t + 1) c) _) = _
  rw [net3_apply, net3_apply]
  rfl
end Apply

/-! ## Bits of the funnel -/

theorem shli_bit (a : BitVec 32) (n q : Nat) (hn : n ≤ 32) (hq : q < 32) :
    (IntOp.shli .vector a (w32n n)).getLsbD q = (decide (n ≤ q) && a.getLsbD (q - n)) := by
  have e : (w32n n).toNat = n := by rw [BitVec.toNat_ofNat]; omega
  unfold IntOp.shli
  rw [e]
  split
  · rw [BitVec.shiftLeft_eq', e, BitVec.getLsbD_shiftLeft]
    by_cases h : n ≤ q
    · simp [h, hq]
    · simp [h]
  · have : ¬ n ≤ q := by omega
    simp [IntOp.cornerWord, this]

theorem shrui_bit (a : BitVec 32) (n q : Nat) (hn : n < 32) :
    (IntOp.shrui .vector a (w32n n)).getLsbD q = a.getLsbD (n + q) := by
  have e : (w32n n).toNat = n := by rw [BitVec.toNat_ofNat]; omega
  unfold IntOp.shrui
  rw [e, if_pos hn, BitVec.ushiftRight_eq', e, BitVec.getLsbD_ushiftRight]

theorem funnel_bit (a b : BitVec 32) (s p : Nat) (hs : s < 4) (hp : p < 32) :
    (IntOp.ori (IntOp.shrui .vector a (w32n (8 * s))) (IntOp.shli .vector b (w32n (32 - 8 * s)))).getLsbD p
      = if p + 8 * s < 32 then a.getLsbD (p + 8 * s) else b.getLsbD (p + 8 * s - 32) := by
  show (_ ||| _ : BitVec 32).getLsbD p = _
  rw [BitVec.getLsbD_or, shrui_bit _ _ _ (by omega), shli_bit _ _ _ (by omega) hp]
  by_cases h : p + 8 * s < 32
  · rw [if_pos h, decide_eq_false (by omega), Nat.add_comm]; simp
  · rw [if_neg h, decide_eq_true (by omega), BitVec.getLsbD_of_ge a _ (by omega), show p - (32 - 8 * s) = p + 8 * s - 32 by omega]; simp

/-- The mask of the top byte. -/
theorem top_bit (q : Nat) (hq : q < 32) : (w32n 4278190080).getLsbD q = decide (24 ≤ q) := by
  have : ∀ q : Fin 32, (w32n 4278190080).getLsbD q.val = decide (24 ≤ q.val) := by decide
  exact this ⟨q, hq⟩

/-- The word a window's byte is read from, before it is a float. -/
def qW (R : Nat → Nat → BitVec 32) (r i : Nat) : BitVec 32 :=
  if i % 4 = 0 then IntOp.shli .vector (R r (i / 4)) (w32n 24)
  else if i % 4 = 3 then IntOp.andi (R r (i / 4)) (w32n 4278190080)
  else IntOp.andi (IntOp.shli .vector (R r (i / 4)) (w32n (24 - 8 * (i % 4)))) (w32n 4278190080)

theorem qW_bit (R : Nat → Nat → BitVec 32) (r i q : Nat) (hq : q < 32) :
    (qW R r i).getLsbD q = (decide (24 ≤ q) && (R r (i / 4)).getLsbD (q - 24 + 8 * (i % 4))) := by
  unfold qW
  split
  · rename_i h
    rw [shli_bit _ _ _ (by omega) hq, h]; rfl
  split
  · rename_i h
    show (_ &&& _ : BitVec 32).getLsbD q = _
    rw [BitVec.getLsbD_and, top_bit q hq, h]
    by_cases h24 : 24 ≤ q
    · rw [show q - 24 + 8 * 3 = q by omega]; simp [h24]
    · simp [h24]
  · show (_ &&& _ : BitVec 32).getLsbD q = _
    rw [BitVec.getLsbD_and, top_bit q hq, shli_bit _ _ _ (by omega) hq]
    by_cases h24 : 24 ≤ q
    · rw [show q - 24 + 8 * (i % 4) = q - (24 - 8 * (i % 4)) by omega]
      simp [h24]; intro; omega
    · simp [h24]

/-- A byte's 24 fold. -/
theorem toInt_top (a : BitVec 32) (b : BitVec 8)
    (h : ∀ q, q < 32 → a.getLsbD q = (decide (24 ≤ q) && b.getLsbD (q - 24))) : a.toInt = b.toInt * 16777216 := by
  have e : a = b.setWidth 32 <<< 24 := by
    apply BitVec.eq_of_getLsbD_eq
    intro q hq
    rw [h q hq, BitVec.getLsbD_shiftLeft, BitVec.getLsbD_setWidth]
    by_cases h24 : 24 ≤ q
    · have : q - 24 < 32 := by omega
      simp [h24, hq, this]
    · have : q < 24 := by omega
      simp [h24, this]
  have : ∀ b : BitVec 8, (b.setWidth 32 <<< 24).toInt = b.toInt * 16777216 := by decide +kernel
  rw [e, this]

/-- The window's byte at offset `(i, r)`: the cell's word of that row and place has it. -/
theorem q_byte (xs ys : IVec S8x128 32) (W : Nat → Nat → IVec S8x128 32) (c : S8x128.Idx) (nx ny r i : Nat)
    (hnx : nx < 107) (hny : ny < 57) (hr : r < 10) (hi : i < 10) (hx : xs c = xOf nx) (hy : ys c = xOf ny) (b : BitVec 8)
    (hb : ∀ q, q < 8 → (W ((r + ny) % 10) (((nx + i + 2) / 4 + 5) % 8) c).getLsbD (8 * ((nx + i + 2) % 4) + q) = b.getLsbD q) :
    (qW (fun m t => rows xs ys W m t c) r i).toInt = b.toInt * 16777216 := by
  apply toInt_top
  intro q hq
  rw [qW_bit _ _ _ _ hq]
  by_cases h24 : 24 ≤ q
  · rw [decide_eq_true h24, Bool.true_and, Bool.true_and]
    simp only [rows_apply]
    rw [hx, hy, rIdx_eq ⟨ny, hny⟩ ⟨r, hr⟩, i3_eq ⟨nx, hnx⟩ ⟨i / 4, by omega⟩, i3_eq ⟨nx, hnx⟩ ⟨i / 4 + 1, by omega⟩,
      shrS_eq ⟨nx, hnx⟩, shlS_eq ⟨nx, hnx⟩, funnel_bit _ _ _ _ (by omega) (by omega)]
    dsimp only
    rw [← hb (q - 24) (by omega)]
    by_cases hs : (nx + 2) % 4 + i % 4 < 4
    · rw [if_pos (by omega), show ((nx + 2) / 4 + 5 + i / 4) % 8 = ((nx + i + 2) / 4 + 5) % 8 by omega,
        show q - 24 + 8 * (i % 4) + 8 * ((nx + 2) % 4) = 8 * ((nx + i + 2) % 4) + (q - 24) by omega]
    · rw [if_neg (by omega), show ((nx + 2) / 4 + 5 + (i / 4 + 1)) % 8 = ((nx + i + 2) / 4 + 5) % 8 by omega,
        show q - 24 + 8 * (i % 4) + 8 * ((nx + 2) % 4) - 32 = 8 * ((nx + i + 2) % 4) + (q - 24) by omega]
  · rw [decide_eq_false h24]; rfl

end Cert.KernelIdeal.Hand

end
-- ==== Proof.WordsAt.lean ====
module

public import proofs.«01_k».proof.Proof.Bits
public import Idealize.ShloMosaic.Lib.BitcastFour
public import Idealize.ShloMosaic.Lib.Pipeline.ValueKit
public import Idealize.ShloMosaic.Lib.ValueIdx

@[expose] public section

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx Idealize.ShloMosaic.Pipeline

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

/-! What the stored words hold: for a row of the window inside the map, the last row kept is that row, and the word picked
    among the eights is the one the window starts in. -/

/-- A select chain over rows, at one cell: it picks the row the same chain picks among numbers. -/
def lastIdx (n H m : Nat) : Nat := (later H m).foldl (fun acc y => if y < n then y else acc) m

theorem lastIdx_eq46 : ∀ n : Fin 57, ∀ r : Fin 10, 10 ≤ n.val + r.val → n.val + r.val < 56 →
    lastIdx n.val 46 ((n.val + r.val) % 10) = n.val + r.val - 10 := by decide +kernel
theorem lastIdx_eq23 : ∀ n : Fin 57, ∀ r : Fin 10, 10 ≤ n.val + r.val → n.val + r.val < 33 →
    lastIdx n.val 23 ((n.val + r.val) % 10) = n.val + r.val - 10 := by decide +kernel

theorem lastRow_apply {S : Shape} (ks : Nat → IVec S 1) (ch : Nat → IVec S 32) (H m n : Nat) (c : S.Idx)
    (hk : ∀ y, y < 64 → ks y c = if y < n then 1#1 else 0#1) (hH : H ≤ 64) : lastRow ks ch H m c = ch (lastIdx n H m) c := by
  unfold lastRow lastIdx
  have hy : ∀ y ∈ later H m, y < 64 := fun y h => by
    have := (List.mem_filter.mp h).2
    have := of_decide_eq_true this; omega
  generalize later H m = L at hy
  suffices ∀ (m : Nat) (a : IVec S 32), a c = ch m c →
      L.foldl (fun acc y => select (ks y) (ch y) acc) a c = ch (L.foldl (fun acc y => if y < n then y else acc) m) c from this m _ rfl
  induction L with
  | nil => intro m a h; exact h
  | cons y L ih =>
    intro m a h
    refine ih (fun z hz => hy z (List.mem_cons_of_mem _ hz)) _ _ ?_
    show Scalar.select (ks y c) (ch y c) (a c) = _
    rw [hk y (hy y List.mem_cons_self), h]
    unfold Scalar.select
    by_cases hyn : y < n <;> simp [hyn]

theorem row8_apply (x : IVec S8x128 32) (r t : Fin 8) (l : Fin 128) : row8 x r (ix2 t l) = x (ix2 r l) := by
  unfold row8
  rw [broadcastTo_apply _ _ _ (ix2 (0 : Fin 1) l) (fun a => by
      match a with
      | ⟨0, _⟩ => rfl
      | ⟨1, _⟩ => rfl), shapeCast_self, extractStridedSlice_apply _ _ _ _ (ix2 r l) (fun a => by
      match a with
      | ⟨0, _⟩ => rfl
      | ⟨1, _⟩ => show l.val = 0 + l.val; omega)]

theorem keepS : ∀ n : Fin 57, ∀ y : Fin 64,
    IntOp.cmpi .sgt (IntOp.addi (xOf n.val) (w32n 10)) (w32n y.val) = if y.val < n.val then 1#1 else 0#1 := by decide +kernel
theorem belowS : ∀ n : Fin 107, ∀ t : Fin 16,
    IntOp.cmpi .slt (w32n t.val) (wbS (xOf n.val)) = if t.val + 3 < (n.val + 2) / 4 then 1#1 else 0#1 := by decide +kernel

theorem keep8_apply (ys : IVec S8x128 32) (r t : Fin 8) (l : Fin 128) (n : Nat) (hn : n < 57) (h : ys (ix2 r l) = xOf n) (y : Nat)
    (hy : y < 64) : keep8 ys r y (ix2 t l) = if y < n then 1#1 else 0#1 := by
  show IntOp.cmpi .sgt (row8 _ r (ix2 t l)) (w32n y) = _
  rw [row8_apply]
  show IntOp.cmpi .sgt (IntOp.addi (ys (ix2 r l)) (w32n 10)) (w32n y) = _
  rw [h]
  exact keepS ⟨n, hn⟩ ⟨y, hy⟩

theorem below8_apply (xs : IVec S8x128 32) (r t : Fin 8) (l : Fin 128) (n : Nat) (hn : n < 107) (h : xs (ix2 r l) = xOf n) (s : Nat)
    (hs : s ≤ 8) : below8 xs r s (ix2 t l) = if t.val + s + 3 < (n + 2) / 4 then 1#1 else 0#1 := by
  show IntOp.cmpi .slt (IntOp.addi (sub8 (ix2 t l)) (w32n s)) (row8 _ r (ix2 t l)) = _
  rw [row8_apply]
  show IntOp.cmpi .slt (IntOp.addi (sub8 (ix2 t l)) (w32n s)) (wbS (xs (ix2 r l))) = _
  have e : IntOp.addi (sub8 (ix2 t l)) (w32n s) = w32n (t.val + s) := by
    show (sub8 (ix2 t l) + w32n s : BitVec 32) = _
    unfold sub8
    rw [iota_single_apply]
    exact (BitVec.ofNat_add _ _).symm
  rw [h, e]
  exact belowS ⟨n, hn⟩ ⟨t.val + s, by omega⟩

section Chunk
variable {H Wd : Nat} (c : Dev nD) (M : Memref sig .tc .vmem ⟨4, ![1, H, Wd, 256]⟩ .i8) (f : Bf (F := F) c M)

/-- A block's byte. -/
def codeAt (y x : Nat) (l : Fin 256) : BitVec 8 :=
  if h : y < H ∧ x < Wd then M.view.read (Elt F) f (ix4 (0 : Fin 1) ⟨y, h.1⟩ ⟨x, h.2⟩ l) else 0#8

/-- The lane of a group. -/
abbrev gl (g : Fin 2) (l : Fin 128) : Fin 256 := ⟨g.val * 128 + l.val, by omega⟩

theorem chunk_bit {n nb : Nat} (hs : (⟨4, ![1, 1, nb, 128]⟩ : Shape).ShapeCasts ⟨2, ![nb, 128]⟩)
    (hb : (⟨2, ![nb, 128]⟩ : Shape).Bitcasts 8 ⟨2, ![n, 128]⟩ 32) (hn : nb = 4 * n) (x0 : Nat) (g : Fin 2) (y : Nat) (hy : y < H)
    (hx : x0 + nb ≤ Wd) (t : Fin n) (l : Fin 128) (q : Nat) (hq : q < 32) :
    (chunk (F := F) c M f n nb hs hb x0 g y (ix2 t l)).getLsbD q = (codeAt (F := F) c M f y (x0 + 4 * t.val + q / 8) (gl g l)).getLsbD (q % 8) := by
  have ht := t.isLt
  unfold chunk codeAt
  rw [dif_pos (by
    intro a
    match a with
    | ⟨0, _⟩ => show 0 + 1 ≤ 1; omega
    | ⟨1, _⟩ => show y + 1 ≤ H; omega
    | ⟨2, _⟩ => show x0 + nb ≤ Wd; omega
    | ⟨3, _⟩ => show g.val * 128 + 128 ≤ 256; omega), dif_pos ⟨hy, by omega⟩]
  rw [bitcast_8_32_getLsbD_ix2 _ hb t l q hq ⟨4 * t.val + q / 8, by omega⟩ rfl]
  rw [shapeCast_apply _ hs _ (ix4 (0 : Fin 1) (0 : Fin 1) (⟨4 * t.val + q / 8, by omega⟩ : Fin nb) l) (by
    rw [Shape.rowMajor_val_four, Shape.rowMajor_val_two]
    show ((0 * 1 + 0) * nb + (4 * t.val + q / 8)) * 128 + l.val = (4 * t.val + q / 8) * 128 + l.val
    omega)]
  rw [View.readAt_apply]
  congr 2
  funext a
  match a with
  | ⟨0, _⟩ => rfl
  | ⟨1, _⟩ => exact Fin.ext (show y + 1 * 0 = y by omega)
  | ⟨2, _⟩ => exact Fin.ext (show x0 + 1 * (4 * t.val + q / 8) = x0 + 4 * t.val + q / 8 by omega)
  | ⟨3, _⟩ => exact Fin.ext (show g.val * 128 + 1 * l.val = g.val * 128 + l.val by omega)
end Chunk

end Cert.KernelIdeal.Hand

end
-- ==== Proof.EqWords.lean ====
module

public import proofs.«01_k».proof.Proof.Spec

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-! The stores of words the body makes are the ones written down. -/

set_option maxHeartbeats 2000000
theorem H9_eq : kernelRun.sl.H9_70 c i M2 M3 M4 M5 M7 f2 f3 f4 f5 f7 = W9 c M2 M3 M4 M5 f2 f3 f4 f5 i M7 f7 := by rfl
end Cert.KernelIdeal.Hand
end
-- ==== Proof.Tabs.lean ====
module

public import proofs.«01_k».proof.Proof.Spec

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-! The words a window is read from, as the body reads and rotates them. -/

/-- The words as the body reads them back. -/
def wleaf (m t : Nat) : IVec S8x128 32 :=
  if h : m < 10 ∧ t < 8 then
    if m < 5 ∧ t < 3 then
      M9.view.readCov (kernelRun.sl.H9_70 c i M2 M3 M4 M5 M7 f2 f3 f4 f5 f7)
        { off := ![m * 72 + t, 0], size := S8x128.size, stride := ![9, 1]
          inb := by
            intro a; fin_cases a
            · right; show m * 72 + t + 9 * (8 - 1) < 728; omega
            · right; show 0 + 1 * (128 - 1) < 128; omega }
    else
      View.readAt (Elt F) M9.view
        { off := ![m * 72 + t, 0], size := S8x128.size, stride := ![9, 1]
          inb := by
            intro a; fin_cases a
            · right; show m * 72 + t + 9 * (8 - 1) < 728; omega
            · right; show 0 + 1 * (128 - 1) < 128; omega }
        (M9.view.writes (Elt F) (if hc : kernelRun.sl.v4 i = 1#1 then M9.view.writes (Elt F) f9
            [⟨Rect.unit ![0, 0] S728x128.size Gen.inb_S728x128_S728x128_0_0, Gen.k0_pay6⟩] else f9)
          (kernelRun.sl.H9_70 c i M2 M3 M4 M5 M7 f2 f3 f4 f5 f7))
  else fun _ => 0

/-- The body's own values: after the funnel, after the rounds of eight and of four, and after all rounds. -/
def tab0 (m t : Nat) : IVec S8x128 32 :=
  [kernelRun.sl.v2451 c i M2 M3 M4 M5 M7 M9 f2 f3 f4 f5 f7 f9, kernelRun.sl.v2454 c i M2 M3 M4 M5 M7 M9 f2 f3 f4 f5 f7 f9, kernelRun.sl.v2457 c i M2 M3 M4 M5 M7 M9 f2 f3 f4 f5 f7 f9,
    kernelRun.sl.v2480 c i M2 M3 M4 M5 M7 M9 f2 f3 f4 f5 f7 f9, kernelRun.sl.v2483 c i M2 M3 M4 M5 M7 M9 f2 f3 f4 f5 f7 f9, kernelRun.sl.v2486 c i M2 M3 M4 M5 M7 M9 f2 f3 f4 f5 f7 f9,
    kernelRun.sl.v2509 c i M2 M3 M4 M5 M7 M9 f2 f3 f4 f5 f7 f9, kernelRun.sl.v2512 c i M2 M3 M4 M5 M7 M9 f2 f3 f4 f5 f7 f9, kernelRun.sl.v2515 c i M2 M3 M4 M5 M7 M9 f2 f3 f4 f5 f7 f9,
    kernelRun.sl.v2538 c i M2 M3 M4 M5 M7 M9 f2 f3 f4 f5 f7 f9, kernelRun.sl.v2541 c i M2 M3 M4 M5 M7 M9 f2 f3 f4 f5 f7 f9, kernelRun.sl.v2544 c i M2 M3 M4 M5 M7 M9 f2 f3 f4 f5 f7 f9,
    kernelRun.sl.v2567 c i M2 M3 M4 M5 M7 M9 f2 f3 f4 f5 f7 f9, kernelRun.sl.v2570 c i M2 M3 M4 M5 M7 M9 f2 f3 f4 f5 f7 f9, kernelRun.sl.v2573 c i M2 M3 M4 M5 M7 M9 f2 f3 f4 f5 f7 f9,
    kernelRun.sl.v2596 c i M2 M3 M4 M5 M7 M9 f2 f3 f4 f5 f7 f9, kernelRun.sl.v2599 c i M2 M3 M4 M5 M7 M9 f2 f3 f4 f5 f7 f9, kernelRun.sl.v2602 c i M2 M3 M4 M5 M7 M9 f2 f3 f4 f5 f7 f9,
    kernelRun.sl.v2625 c i M2 M3 M4 M5 M7 M9 f2 f3 f4 f5 f7 f9, kernelRun.sl.v2628 c i M2 M3 M4 M5 M7 M9 f2 f3 f4 f5 f7 f9, kernelRun.sl.v2631 c i M2 M3 M4 M5 M7 M9 f2 f3 f4 f5 f7 f9,
    kernelRun.sl.v2654 c i M2 M3 M4 M5 M7 M9 f2 f3 f4 f5 f7 f9, kernelRun.sl.v2657 c i M2 M3 M4 M5 M7 M9 f2 f3 f4 f5 f7 f9, kernelRun.sl.v2660 c i M2 M3 M4 M5 M7 M9 f2 f3 f4 f5 f7 f9,
    kernelRun.sl.v2683 c i M2 M3 M4 M5 M7 M9 f2 f3 f4 f5 f7 f9, kernelRun.sl.v2686 c i M2 M3 M4 M5 M7 M9 f2 f3 f4 f5 f7 f9, kernelRun.sl.v2689 c i M2 M3 M4 M5 M7 M9 f2 f3 f4 f5 f7 f9,
    kernelRun.sl.v2712 c i M2 M3 M4 M5 M7 M9 f2 f3 f4 f5 f7 f9, kernelRun.sl.v2715 c i M2 M3 M4 M5 M7 M9 f2 f3 f4 f5 f7 f9, kernelRun.sl.v2718 c i M2 M3 M4 M5 M7 M9 f2 f3 f4 f5 f7 f9].getD (3 * m + t) fun _ => 0
def tab8 (m t : Nat) : IVec S8x128 32 :=
  [kernelRun.sl.v2732 c i M2 M3 M4 M5 M7 M9 f2 f3 f4 f5 f7 f9, kernelRun.sl.v2733 c i M2 M3 M4 M5 M7 M9 f2 f3 f4 f5 f7 f9, kernelRun.sl.v2734 c i M2 M3 M4 M5 M7 M9 f2 f3 f4 f5 f7 f9,
    kernelRun.sl.v2735 c i M2 M3 M4 M5 M7 M9 f2 f3 f4 f5 f7 f9, kernelRun.sl.v2736 c i M2 M3 M4 M5 M7 M9 f2 f3 f4 f5 f7 f9, kernelRun.sl.v2737 c i M2 M3 M4 M5 M7 M9 f2 f3 f4 f5 f7 f9,
    kernelRun.sl.v2738 c i M2 M3 M4 M5 M7 M9 f2 f3 f4 f5 f7 f9, kernelRun.sl.v2739 c i M2 M3 M4 M5 M7 M9 f2 f3 f4 f5 f7 f9, kernelRun.sl.v2740 c i M2 M3 M4 M5 M7 M9 f2 f3 f4 f5 f7 f9,
    kernelRun.sl.v2741 c i M2 M3 M4 M5 M7 M9 f2 f3 f4 f5 f7 f9, kernelRun.sl.v2742 c i M2 M3 M4 M5 M7 M9 f2 f3 f4 f5 f7 f9, kernelRun.sl.v2743 c i M2 M3 M4 M5 M7 M9 f2 f3 f4 f5 f7 f9,
    kernelRun.sl.v2744 c i M2 M3 M4 M5 M7 M9 f2 f3 f4 f5 f7 f9, kernelRun.sl.v2745 c i M2 M3 M4 M5 M7 M9 f2 f3 f4 f5 f7 f9, kernelRun.sl.v2746 c i M2 M3 M4 M5 M7 M9 f2 f3 f4 f5 f7 f9,
    kernelRun.sl.v2747 c i M2 M3 M4 M5 M7 M9 f2 f3 f4 f5 f7 f9, kernelRun.sl.v2748 c i M2 M3 M4 M5 M7 M9 f2 f3 f4 f5 f7 f9, kernelRun.sl.v2749 c i M2 M3 M4 M5 M7 M9 f2 f3 f4 f5 f7 f9,
    kernelRun.sl.v2750 c i M2 M3 M4 M5 M7 M9 f2 f3 f4 f5 f7 f9, kernelRun.sl.v2751 c i M2 M3 M4 M5 M7 M9 f2 f3 f4 f5 f7 f9, kernelRun.sl.v2752 c i M2 M3 M4 M5 M7 M9 f2 f3 f4 f5 f7 f9,
    kernelRun.sl.v2753 c i M2 M3 M4 M5 M7 M9 f2 f3 f4 f5 f7 f9, kernelRun.sl.v2754 c i M2 M3 M4 M5 M7 M9 f2 f3 f4 f5 f7 f9, kernelRun.sl.v2755 c i M2 M3 M4 M5 M7 M9 f2 f3 f4 f5 f7 f9,
    kernelRun.sl.v2756 c i M2 M3 M4 M5 M7 M9 f2 f3 f4 f5 f7 f9, kernelRun.sl.v2757 c i M2 M3 M4 M5 M7 M9 f2 f3 f4 f5 f7 f9, kernelRun.sl.v2758 c i M2 M3 M4 M5 M7 M9 f2 f3 f4 f5 f7 f9,
    kernelRun.sl.v2759 c i M2 M3 M4 M5 M7 M9 f2 f3 f4 f5 f7 f9, kernelRun.sl.v2760 c i M2 M3 M4 M5 M7 M9 f2 f3 f4 f5 f7 f9, kernelRun.sl.v2761 c i M2 M3 M4 M5 M7 M9 f2 f3 f4 f5 f7 f9].getD (3 * m + t) fun _ => 0
def tab4 (m t : Nat) : IVec S8x128 32 :=
  [kernelRun.sl.v2766 c i M2 M3 M4 M5 M7 M9 f2 f3 f4 f5 f7 f9, kernelRun.sl.v2767 c i M2 M3 M4 M5 M7 M9 f2 f3 f4 f5 f7 f9, kernelRun.sl.v2768 c i M2 M3 M4 M5 M7 M9 f2 f3 f4 f5 f7 f9,
    kernelRun.sl.v2769 c i M2 M3 M4 M5 M7 M9 f2 f3 f4 f5 f7 f9, kernelRun.sl.v2770 c i M2 M3 M4 M5 M7 M9 f2 f3 f4 f5 f7 f9, kernelRun.sl.v2771 c i M2 M3 M4 M5 M7 M9 f2 f3 f4 f5 f7 f9,
    kernelRun.sl.v2772 c i M2 M3 M4 M5 M7 M9 f2 f3 f4 f5 f7 f9, kernelRun.sl.v2773 c i M2 M3 M4 M5 M7 M9 f2 f3 f4 f5 f7 f9, kernelRun.sl.v2774 c i M2 M3 M4 M5 M7 M9 f2 f3 f4 f5 f7 f9,
    kernelRun.sl.v2775 c i M2 M3 M4 M5 M7 M9 f2 f3 f4 f5 f7 f9, kernelRun.sl.v2776 c i M2 M3 M4 M5 M7 M9 f2 f3 f4 f5 f7 f9, kernelRun.sl.v2777 c i M2 M3 M4 M5 M7 M9 f2 f3 f4 f5 f7 f9,
    kernelRun.sl.v2778 c i M2 M3 M4 M5 M7 M9 f2 f3 f4 f5 f7 f9, kernelRun.sl.v2779 c i M2 M3 M4 M5 M7 M9 f2 f3 f4 f5 f7 f9, kernelRun.sl.v2780 c i M2 M3 M4 M5 M7 M9 f2 f3 f4 f5 f7 f9,
    kernelRun.sl.v2781 c i M2 M3 M4 M5 M7 M9 f2 f3 f4 f5 f7 f9, kernelRun.sl.v2782 c i M2 M3 M4 M5 M7 M9 f2 f3 f4 f5 f7 f9, kernelRun.sl.v2783 c i M2 M3 M4 M5 M7 M9 f2 f3 f4 f5 f7 f9,
    kernelRun.sl.v2784 c i M2 M3 M4 M5 M7 M9 f2 f3 f4 f5 f7 f9, kernelRun.sl.v2785 c i M2 M3 M4 M5 M7 M9 f2 f3 f4 f5 f7 f9, kernelRun.sl.v2786 c i M2 M3 M4 M5 M7 M9 f2 f3 f4 f5 f7 f9,
    kernelRun.sl.v2787 c i M2 M3 M4 M5 M7 M9 f2 f3 f4 f5 f7 f9, kernelRun.sl.v2788 c i M2 M3 M4 M5 M7 M9 f2 f3 f4 f5 f7 f9, kernelRun.sl.v2789 c i M2 M3 M4 M5 M7 M9 f2 f3 f4 f5 f7 f9,
    kernelRun.sl.v2790 c i M2 M3 M4 M5 M7 M9 f2 f3 f4 f5 f7 f9, kernelRun.sl.v2791 c i M2 M3 M4 M5 M7 M9 f2 f3 f4 f5 f7 f9, kernelRun.sl.v2792 c i M2 M3 M4 M5 M7 M9 f2 f3 f4 f5 f7 f9,
    kernelRun.sl.v2793 c i M2 M3 M4 M5 M7 M9 f2 f3 f4 f5 f7 f9, kernelRun.sl.v2794 c i M2 M3 M4 M5 M7 M9 f2 f3 f4 f5 f7 f9, kernelRun.sl.v2795 c i M2 M3 M4 M5 M7 M9 f2 f3 f4 f5 f7 f9].getD (3 * m + t) fun _ => 0
def tab1 (m t : Nat) : IVec S8x128 32 :=
  [kernelRun.sl.r_19 c i M2 M3 M4 M5 M7 M9 f2 f3 f4 f5 f7 f9, kernelRun.sl.r_20 c i M2 M3 M4 M5 M7 M9 f2 f3 f4 f5 f7 f9, kernelRun.sl.r_21 c i M2 M3 M4 M5 M7 M9 f2 f3 f4 f5 f7 f9,
    kernelRun.sl.r_22 c i M2 M3 M4 M5 M7 M9 f2 f3 f4 f5 f7 f9, kernelRun.sl.r_23 c i M2 M3 M4 M5 M7 M9 f2 f3 f4 f5 f7 f9, kernelRun.sl.r_24 c i M2 M3 M4 M5 M7 M9 f2 f3 f4 f5 f7 f9,
    kernelRun.sl.r_25 c i M2 M3 M4 M5 M7 M9 f2 f3 f4 f5 f7 f9, kernelRun.sl.r_26 c i M2 M3 M4 M5 M7 M9 f2 f3 f4 f5 f7 f9, kernelRun.sl.r_27 c i M2 M3 M4 M5 M7 M9 f2 f3 f4 f5 f7 f9,
    kernelRun.sl.r_28 c i M2 M3 M4 M5 M7 M9 f2 f3 f4 f5 f7 f9, kernelRun.sl.r_29 c i M2 M3 M4 M5 M7 M9 f2 f3 f4 f5 f7 f9, kernelRun.sl.r_30 c i M2 M3 M4 M5 M7 M9 f2 f3 f4 f5 f7 f9,
    kernelRun.sl.r_31 c i M2 M3 M4 M5 M7 M9 f2 f3 f4 f5 f7 f9, kernelRun.sl.r_32 c i M2 M3 M4 M5 M7 M9 f2 f3 f4 f5 f7 f9, kernelRun.sl.r_33 c i M2 M3 M4 M5 M7 M9 f2 f3 f4 f5 f7 f9,
    kernelRun.sl.r_34 c i M2 M3 M4 M5 M7 M9 f2 f3 f4 f5 f7 f9, kernelRun.sl.r_35 c i M2 M3 M4 M5 M7 M9 f2 f3 f4 f5 f7 f9, kernelRun.sl.r_36 c i M2 M3 M4 M5 M7 M9 f2 f3 f4 f5 f7 f9,
    kernelRun.sl.r_37 c i M2 M3 M4 M5 M7 M9 f2 f3 f4 f5 f7 f9, kernelRun.sl.r_38 c i M2 M3 M4 M5 M7 M9 f2 f3 f4 f5 f7 f9, kernelRun.sl.r_39 c i M2 M3 M4 M5 M7 M9 f2 f3 f4 f5 f7 f9,
    kernelRun.sl.r_40 c i M2 M3 M4 M5 M7 M9 f2 f3 f4 f5 f7 f9, kernelRun.sl.r_41 c i M2 M3 M4 M5 M7 M9 f2 f3 f4 f5 f7 f9, kernelRun.sl.r_42 c i M2 M3 M4 M5 M7 M9 f2 f3 f4 f5 f7 f9,
    kernelRun.sl.r_43 c i M2 M3 M4 M5 M7 M9 f2 f3 f4 f5 f7 f9, kernelRun.sl.r_44 c i M2 M3 M4 M5 M7 M9 f2 f3 f4 f5 f7 f9, kernelRun.sl.r_45 c i M2 M3 M4 M5 M7 M9 f2 f3 f4 f5 f7 f9,
    kernelRun.sl.r_46 c i M2 M3 M4 M5 M7 M9 f2 f3 f4 f5 f7 f9, kernelRun.sl.r_47 c i M2 M3 M4 M5 M7 M9 f2 f3 f4 f5 f7 f9, kernelRun.sl.r_48 c i M2 M3 M4 M5 M7 M9 f2 f3 f4 f5 f7 f9].getD (3 * m + t) fun _ => 0

end Cert.KernelIdeal.Hand

end
-- ==== Proof.Stored.lean ====
module

public import proofs.«01_k».proof.Proof.WordsAt
public import proofs.«01_k».proof.Proof.EqWords
public import proofs.«01_k».proof.Proof.Tabs

@[expose] public section

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

/-! The words read back are the words stored. -/

theorem codeAt_congr {H Wd : Nat} (c : Dev nD) (M : Memref sig .tc .vmem ⟨4, ![1, H, Wd, 256]⟩ .i8) (f : Bf (F := F) c M) (l : Fin 256)
    {y y' x x' q q' : Nat} (hy : y = y') (hx : x = x') (hq : q = q') :
    (codeAt c M f y x l).getLsbD q = (codeAt c M f y' x' l).getLsbD q' := by subst hy hx hq; rfl

theorem vsel {S : Shape} {α : Type} (c : IVec S 1) (a b : S.Idx → α) (i : S.Idx) : select c a b i = Scalar.select (c i) (a i) (b i) := rfl
theorem sel_one {α : Type} (a b : α) : Scalar.select 1#1 a b = a := rfl
theorem sel_zero {α : Type} (a b : α) : Scalar.select 0#1 a b = b := rfl

section Stored
variable (xs ys : IVec S8x128 32) (g : Fin 2) (l : Fin 128) (nx ny wr i : Nat) (hnx : nx < 107) (hny : ny < 57) (hwr : wr < 10) (hi : i < 10)
  (hy0 : 10 ≤ ny + wr) (hx0 : 10 ≤ nx + i) (q : Nat) (hq : q < 8)

/-- Where the window's byte is: its slot among the eight words of a row, and its bit. -/
abbrev slot (nx i : Nat) : Nat := ((nx + i + 2) / 4 + 5) % 8
abbrev bitAt (nx i q : Nat) : Nat := 8 * ((nx + i + 2) % 4) + q

include hnx hny hwr hi hy0 hx0 hq

theorem words0_bit (hx : xs (ix2 ⟨g.val * 4, by omega⟩ l) = xOf nx) (hy : ys (ix2 ⟨g.val * 4, by omega⟩ l) = xOf ny)
    (hH : ny + wr < 56) (hW : nx + i < 106) :
    (words0 c M2 f2 xs ys g ((wr + ny) % 10) (ix2 ⟨slot nx i, Nat.mod_lt _ (by decide)⟩ l)).getLsbD (bitAt nx i q)
      = (codeAt c M2 f2 (ny + wr - 10) (nx + i - 10) (gl g l)).getLsbD q := by
  have hm := lastIdx_eq46 ⟨ny, hny⟩ ⟨wr, hwr⟩ hy0 hH
  dsimp only at hm
  have hl (x0 : Nat) (t : Fin 8) := lastRow_apply (keep8 ys ⟨g.val * 4, by omega⟩)
    (chunk c M2 f2 8 32 shapeCasts_S1x1x32x128_S32x128 bitcasts_S32x128_w8_S8x128_w32 x0 g) 46 ((wr + ny) % 10) ny (ix2 t l)
    (fun y hy' => keep8_apply ys _ t l ny hny hy y hy') (by decide)
  unfold words0
  dsimp only
  rw [vsel, vsel, hl, hl, hl, Nat.add_comm wr ny, hm, below8_apply xs _ _ l nx hnx hx 8 (by decide), below8_apply xs _ _ l nx hnx hx 0 (by decide)]
  have hb (x0 : Nat) (h0 : x0 ≤ 64) := chunk_bit c M2 f2 (n := 8) (nb := 32) shapeCasts_S1x1x32x128_S32x128 bitcasts_S32x128_w8_S8x128_w32 rfl
    x0 g (ny + wr - 10) (by omega) (show x0 + 32 ≤ 96 by omega) ⟨slot nx i, Nat.mod_lt _ (by decide)⟩ l (bitAt nx i q) (by unfold bitAt; omega)
  dsimp only at hb ⊢
  unfold bitAt slot at *
  by_cases h8 : ((nx + i + 2) / 4 + 5) % 8 + 8 + 3 < (nx + 2) / 4
  · rw [if_pos h8, sel_one, hb 64 (by omega)]
    exact codeAt_congr _ _ _ _ (by first | rfl | omega | (dsimp only; omega)) (by first | rfl | omega | (dsimp only; omega)) (by omega)
  · rw [if_neg h8, sel_zero]
    by_cases h4 : ((nx + i + 2) / 4 + 5) % 8 + 0 + 3 < (nx + 2) / 4
    · rw [if_pos h4, sel_one, hb 32 (by omega)]
      exact codeAt_congr _ _ _ _ (by first | rfl | omega | (dsimp only; omega)) (by first | rfl | omega | (dsimp only; omega)) (by omega)
    · rw [if_neg h4, sel_zero, hb 0 (by omega)]
      exact codeAt_congr _ _ _ _ (by first | rfl | omega | (dsimp only; omega)) (by first | rfl | omega | (dsimp only; omega)) (by omega)

theorem words1_bit (hx : xs (ix2 ⟨g.val * 4 + 1, by omega⟩ l) = xOf nx) (hy : ys (ix2 ⟨g.val * 4 + 1, by omega⟩ l) = xOf ny)
    (hH : ny + wr < 33) (hW : nx + i < 58) :
    (words1 c M3 f3 xs ys g ((wr + ny) % 10) (ix2 ⟨slot nx i, Nat.mod_lt _ (by decide)⟩ l)).getLsbD (bitAt nx i q)
      = (codeAt c M3 f3 (ny + wr - 10) (nx + i - 10) (gl g l)).getLsbD q := by
  have hm := lastIdx_eq23 ⟨ny, hny⟩ ⟨wr, hwr⟩ hy0 hH
  dsimp only at hm
  have hl (t : Fin 8) := lastRow_apply (keep8 ys ⟨g.val * 4 + 1, by omega⟩)
    (chunk c M3 f3 8 32 shapeCasts_S1x1x32x128_S32x128 bitcasts_S32x128_w8_S8x128_w32 0 g) 23 ((wr + ny) % 10) ny (ix2 t l)
    (fun y hy' => keep8_apply ys _ t l ny hny hy y hy') (by decide)
  have up (x : IVec S8x128 1) (t : Fin 4) : extractStridedSlice S4x128 ![0, 0] x slices_S8x128_o0_0_S4x128 (ix2 t l)
      = x (ix2 (⟨t.val, by omega⟩ : Fin 8) l) := extractStridedSlice_apply _ _ _ _ _ (fun a => by
        match a with
        | ⟨0, _⟩ => show t.val = 0 + t.val; omega
        | ⟨1, _⟩ => show l.val = 0 + l.val; omega)
  have hl1 (t : Fin 4) := lastRow_apply (fun y => extractStridedSlice S4x128 ![0, 0] (keep8 ys ⟨g.val * 4 + 1, by omega⟩ y) slices_S8x128_o0_0_S4x128)
    (chunk c M3 f3 4 16 shapeCasts_S1x1x16x128_S16x128 bitcasts_S16x128_w8_S4x128_w32 32 g) 23 ((wr + ny) % 10) ny (ix2 t l)
    (fun y hy' => by rw [up]; exact keep8_apply ys _ _ l ny hny hy y hy') (by decide)
  have hb (s : Fin 8) (hs : s.val = slot nx i) := chunk_bit c M3 f3 (n := 8) (nb := 32) shapeCasts_S1x1x32x128_S32x128 bitcasts_S32x128_w8_S8x128_w32 rfl
    0 g (ny + wr - 10) (by omega) (by decide) s l (bitAt nx i q) (by unfold bitAt; omega)
  have hb1 (s : Fin 4) (hs : s.val = slot nx i) := chunk_bit c M3 f3 (n := 4) (nb := 16) shapeCasts_S1x1x16x128_S16x128 bitcasts_S16x128_w8_S4x128_w32 rfl
    32 g (ny + wr - 10) (by omega) (by decide) s l (bitAt nx i q) (by unfold bitAt; omega)
  unfold words1
  by_cases h4 : slot nx i < 4
  · rw [concatenate_pair_apply_left (t := S8x128) (s₁ := S4x128) (s₂ := S4x128) (0 : Fin 2) _ _ concatenates_S4x128_S4x128_S8x128_d0 (ix2 (⟨slot nx i, by omega⟩ : Fin 8) l) rfl (ix2 (⟨slot nx i, h4⟩ : Fin 4) l) (fun a => by
      match a with
      | ⟨0, _⟩ => rfl
      | ⟨1, _⟩ => rfl)]
    rw [vsel, up, hl1, below8_apply xs _ _ l nx hnx hx 0 (by decide), extractStridedSlice_apply _ _ _ _ (ix2 (⟨slot nx i, by omega⟩ : Fin 8) l) (fun a => by
        match a with
        | ⟨0, _⟩ => show slot nx i = 0 + slot nx i; omega
        | ⟨1, _⟩ => show l.val = 0 + l.val; omega), hl, Nat.add_comm wr ny, hm]
    dsimp only
    by_cases h8 : slot nx i + 0 + 3 < (nx + 2) / 4
    · rw [if_pos h8, sel_one, hb1 _ rfl]
      unfold bitAt slot at *
      exact codeAt_congr _ _ _ _ (by first | rfl | omega | (dsimp only; omega)) (by first | rfl | omega | (dsimp only; omega)) (by omega)
    · rw [if_neg h8, sel_zero, hb _ rfl]
      unfold bitAt slot at *
      exact codeAt_congr _ _ _ _ (by first | rfl | omega | (dsimp only; omega)) (by first | rfl | omega | (dsimp only; omega)) (by omega)
  · have h8 : slot nx i < 8 := Nat.mod_lt _ (by decide)
    rw [concatenate_pair_apply_right (t := S8x128) (s₁ := S4x128) (s₂ := S4x128) (0 : Fin 2) _ _ concatenates_S4x128_S4x128_S8x128_d0 (ix2 (⟨slot nx i, by omega⟩ : Fin 8) l) rfl rfl (ix2 (⟨slot nx i - 4, by omega⟩ : Fin 4) l) (fun a ha => by
      match a with
      | ⟨0, _⟩ => exact absurd rfl ha
      | ⟨1, _⟩ => rfl) (show slot nx i - 4 + 4 = slot nx i by omega)]
    rw [extractStridedSlice_apply _ _ _ _ (ix2 (⟨slot nx i, by omega⟩ : Fin 8) l) (fun a => by
        match a with
        | ⟨0, _⟩ => show slot nx i = 4 + (slot nx i - 4); omega
        | ⟨1, _⟩ => show l.val = 0 + l.val; omega), hl, Nat.add_comm wr ny, hm, hb _ rfl]
    unfold bitAt slot at *
    exact codeAt_congr _ _ _ _ (by first | rfl | omega | (dsimp only; omega)) (by first | rfl | omega | (dsimp only; omega)) (by omega)

theorem words2_bit (hy : ys (ix2 ⟨g.val * 4 + 2, by omega⟩ l) = xOf ny) (hH : ny + wr < 21) (hW : nx + i < 34) (hs : slot nx i < 6) :
    (words2 c M4 f4 ys g ((wr + ny) % 10) (ix2 ⟨slot nx i, hs⟩ l)).getLsbD (bitAt nx i q)
      = (codeAt c M4 f4 (ny + wr - 10) (nx + i - 10) (gl g l)).getLsbD q := by
  have hb (y : Nat) (hy : y < 11) := chunk_bit c M4 f4 (n := 6) (nb := 24) shapeCasts_S1x1x24x128_S24x128 bitcasts_S24x128_w8_S6x128_w32 rfl
    0 g y hy (by decide) ⟨slot nx i, hs⟩ l (bitAt nx i q) (by unfold bitAt; omega)
  unfold words2
  by_cases hm : (wr + ny) % 10 = 0
  · rw [if_pos hm]
    rw [vsel, extractStridedSlice_apply _ _ _ _ (ix2 (⟨slot nx i, by omega⟩ : Fin 8) l) (fun a => by
        match a with
        | ⟨0, _⟩ => show slot nx i = 0 + slot nx i; omega
        | ⟨1, _⟩ => show l.val = 0 + l.val; omega), keep8_apply ys _ _ l ny hny hy 10 (by decide)]
    by_cases h : 10 < ny
    · rw [if_pos h, sel_one, hb 10 (by decide)]
      unfold bitAt slot at *
      exact codeAt_congr _ _ _ _ (by first | rfl | omega | (dsimp only; omega)) (by first | rfl | omega | (dsimp only; omega)) (by omega)
    · rw [if_neg h, sel_zero, hb 0 (by decide)]
      unfold bitAt slot at *
      exact codeAt_congr _ _ _ _ (by first | rfl | omega | (dsimp only; omega)) (by first | rfl | omega | (dsimp only; omega)) (by omega)
  · rw [if_neg hm, hb _ (by omega)]
    unfold bitAt slot at *
    exact codeAt_congr _ _ _ _ (by first | rfl | omega | (dsimp only; omega)) (by first | rfl | omega | (dsimp only; omega)) (by omega)

theorem words3_bit (hH : ny + wr < 15) (hW : nx + i < 22) (hs : slot nx i < 3) :
    (words3 c M5 f5 g ((wr + ny) % 10) (ix2 ⟨slot nx i, hs⟩ l)).getLsbD (bitAt nx i q)
      = (codeAt c M5 f5 (ny + wr - 10) (nx + i - 10) (gl g l)).getLsbD q := by
  unfold words3
  rw [chunk_bit c M5 f5 (n := 3) (nb := 12) shapeCasts_S1x1x12x128_S12x128 bitcasts_S12x128_w8_S3x128_w32 rfl
    0 g _ (by omega) (by decide) ⟨slot nx i, hs⟩ l (bitAt nx i q) (by unfold bitAt; omega)]
  unfold bitAt slot at *
  exact codeAt_congr _ _ _ _ (by first | rfl | omega | (dsimp only; omega)) (by first | rfl | omega | (dsimp only; omega)) (by omega)
end Stored

end Cert.KernelIdeal.Hand

end
-- ==== Proof.Leaf.lean ====
module

public import proofs.«01_k».proof.Proof.Stored
public import proofs.«01_k».proof.Proof.EqWords
public import proofs.«01_k».proof.Proof.Tabs

@[expose] public section

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

/-! A word read back: the one stored at its row and slot. -/

/-- The cell of the words' scratch that holds slot `t` of row `m` for the window row `r`. -/
abbrev wcell (r : Fin 8) (m : Fin 10) (t : Fin 8) (l : Fin 128) : S728x128.Idx :=
  ix2 (⟨(m.val * 8 + r.val) * 9 + t.val, by omega⟩ : Fin 728) l

theorem wpiece_at {n : Nat} {r : Fin 8} {m : Fin 10} {hn : n ≤ 8} {v : IVec ⟨2, ![n, 128]⟩ 32} (x : (⟨2, ![n, 128]⟩ : Shape).Idx)
    (r0 : Fin 8) (m0 : Fin 10) (t0 : Fin 8) (l0 : Fin 128) (h : (wpiece (F := F) n r m hn v).1.emb x = wcell r0 m0 t0 l0) :
    m = m0 ∧ r = r0 ∧ ∃ ht : t0.val < n, x = ix2 ⟨t0.val, ht⟩ l0 := by
  have e0 : (m.val * 8 + r.val) * 9 + 1 * (x 0).val = (m0.val * 8 + r0.val) * 9 + t0.val := congrArg Fin.val (congrFun h 0)
  have e1 : 0 + 1 * (x 1).val = l0.val := congrArg Fin.val (congrFun h 1)
  have hx : (x 0).val < n := (x 0).isLt
  refine ⟨Fin.ext (by omega), Fin.ext (by omega), by omega, ?_⟩
  have hx0 : (x 0).val = t0.val := by omega
  funext a
  match a with
  | ⟨0, _⟩ => exact Fin.ext hx0
  | ⟨1, _⟩ => exact Fin.ext (by show (x 1).val = l0.val; omega)

theorem wpiece_mem {n : Nat} {r : Fin 8} {m : Fin 10} {hn : n ≤ 8} {v : IVec ⟨2, ![n, 128]⟩ 32} (t0 : Fin 8) (l0 : Fin 128) (ht : t0.val < n) :
    wcell r m t0 l0 ∈ (wpiece (F := F) n r m hn v).1.set := by
  have e : (wpiece (F := F) n r m hn v).1.idx (ix2 (⟨t0.val, ht⟩ : Fin n) l0) = wcell r m t0 l0 := by
    funext a
    match a with
    | ⟨0, _⟩ => exact Fin.ext (by show (m.val * 8 + r.val) * 9 + 1 * t0.val = (m.val * 8 + r.val) * 9 + t0.val; omega)
    | ⟨1, _⟩ => exact Fin.ext (by show 0 + 1 * l0.val = l0.val; omega)
  rw [← e]
  exact LoadRect.idx_mem _ _

section Group
variable (xs ys : IVec S8x128 32)

/-- What is stored at a row and slot for a window row. -/
structure Holds (g : Fin 2) (r0 : Fin 8) (m0 : Fin 10) (t0 : Fin 8) (l0 : Fin 128) (v : BitVec 32) : Prop where
  h0 : g.val * 4 = r0.val → words0 c M2 f2 xs ys g m0.val (ix2 t0 l0) = v
  h1 : g.val * 4 + 1 = r0.val → words1 c M3 f3 xs ys g m0.val (ix2 t0 l0) = v
  h2 : g.val * 4 + 2 = r0.val → ∀ ht : t0.val < 6, words2 c M4 f4 ys g m0.val (ix2 ⟨t0.val, ht⟩ l0) = v
  h3 : g.val * 4 + 3 = r0.val → ∀ ht : t0.val < 3, words3 c M5 f5 g m0.val (ix2 ⟨t0.val, ht⟩ l0) = v

theorem wgroup_allAt (g : Fin 2) (r0 : Fin 8) (m0 : Fin 10) (t0 : Fin 8) (l0 : Fin 128) (v : BitVec 32)
    (H : Holds c M2 M3 M4 M5 f2 f3 f4 f5 xs ys g r0 m0 t0 l0 v) :
    View.AllAt (Val := Elt F) (wgroup c M2 M3 M4 M5 f2 f3 f4 f5 xs ys g) (wcell r0 m0 t0 l0) v := by
  intro p hp x hx
  unfold wgroup at hp
  rcases List.mem_append.mp hp with hp | hp
  · obtain ⟨m, _, rfl⟩ := List.mem_map.mp hp
    obtain ⟨rfl, hr, ht, rfl⟩ := wpiece_at x r0 m0 t0 l0 hx
    exact (congrFun (shapeCast_self _ _) _).trans (H.h3 (congrArg Fin.val hr) ht)
  rcases List.mem_append.mp hp with hp | hp
  · obtain ⟨m, _, rfl⟩ := List.mem_map.mp hp
    obtain ⟨rfl, hr, ht, rfl⟩ := wpiece_at x r0 m0 t0 l0 hx
    exact (congrFun (shapeCast_self _ _) _).trans (H.h2 (congrArg Fin.val hr) ht)
  rcases List.mem_append.mp hp with hp | hp
  · obtain ⟨m, _, rfl⟩ := List.mem_map.mp hp
    obtain ⟨rfl, hr, ht, rfl⟩ := wpiece_at x r0 m0 t0 l0 hx
    exact (congrFun (shapeCast_self _ _) _).trans (H.h1 (congrArg Fin.val hr))
  · obtain ⟨m, _, rfl⟩ := List.mem_map.mp hp
    obtain ⟨rfl, hr, ht, rfl⟩ := wpiece_at x r0 m0 t0 l0 hx
    exact (congrFun (shapeCast_self _ _) _).trans (H.h0 (congrArg Fin.val hr))

theorem mem_down10 (m : Fin 10) : m ∈ down10 := by revert m; decide

/-- The window row of a level and group. -/
abbrev wr8 (g : Fin 2) (lev : Fin 4) : Fin 8 := ⟨g.val * 4 + lev.val, by omega⟩
/-- A level's words to a row. -/
abbrev nw4 (lev : Fin 4) : Nat := (![8, 8, 6, 3] : Fin 4 → Nat) lev

theorem wgroup_cover (g : Fin 2) (lev : Fin 4) (m : Fin 10) (t : Fin 8) (l : Fin 128) (ht : t.val < nw4 lev) (hm : lev = 3 → m.val < 5) :
    ∃ p ∈ wgroup (F := F) c M2 M3 M4 M5 f2 f3 f4 f5 xs ys g, wcell (wr8 g lev) m t l ∈ p.1.set := by
  unfold wgroup
  match lev with
  | ⟨0, _⟩ => exact ⟨_, List.mem_append_right _ (List.mem_append_right _ (List.mem_append_right _ (List.mem_map.mpr ⟨m, mem_down10 m, rfl⟩))), wpiece_mem t l ht⟩
  | ⟨1, _⟩ => exact ⟨_, List.mem_append_right _ (List.mem_append_right _ (List.mem_append_left _ (List.mem_map.mpr ⟨m, mem_down10 m, rfl⟩))), wpiece_mem t l ht⟩
  | ⟨2, _⟩ => exact ⟨_, List.mem_append_right _ (List.mem_append_left _ (List.mem_map.mpr ⟨m, mem_down10 m, rfl⟩)), wpiece_mem t l ht⟩
  | ⟨3, _⟩ =>
    have h5 : ∀ m : Fin 10, m.val < 5 → m ∈ ([4, 3, 2, 1, 0] : List (Fin 10)) := by decide
    exact ⟨_, List.mem_append_left _ (List.mem_map.mpr ⟨m, h5 m (hm rfl), rfl⟩), wpiece_mem t l ht⟩

end Group

variable (i : grid0.Coords) (M7 : Memref sig .tc .vmem S1x2x256 .f32) (M9 : Memref sig .tc .vmem S728x128 .i32)
  (f7 : Bf (F := F) c M7) (f9 : Bf (F := F) c M9)

/-- A word read back is what every store that holds its cell put there. -/
theorem wleaf_eq (g : Fin 2) (lev : Fin 4) (m : Fin 10) (t : Fin 8) (l : Fin 128) (ht : t.val < nw4 lev) (hm : lev = 3 → m.val < 5) (v : BitVec 32)
    (H : ∀ g', Holds c M2 M3 M4 M5 f2 f3 f4 f5 (xs8 i (x7of c M7 f7)) (ys8 i (x7of c M7 f7)) g' (wr8 g lev) m t l v) :
    wleaf c M2 M3 M4 M5 f2 f3 f4 f5 i M7 M9 f7 f9 m.val t.val (ix2 (wr8 g lev) l) = v := by
  have cov : ∃ p ∈ kernelRun.sl.H9_70 c i M2 M3 M4 M5 M7 f2 f3 f4 f5 f7, wcell (wr8 g lev) m t l ∈ p.1.set := by
    rw [H9_eq]
    obtain ⟨p, hp, h⟩ := wgroup_cover c M2 M3 M4 M5 f2 f3 f4 f5 (xs8 i (x7of c M7 f7)) (ys8 i (x7of c M7 f7)) g lev m t l ht hm
    refine ⟨p, ?_, h⟩
    match g with
    | ⟨0, _⟩ => exact List.mem_append_right _ hp
    | ⟨1, _⟩ => exact List.mem_append_left _ hp
  have hv : View.canon (kernelRun.sl.H9_70 c i M2 M3 M4 M5 M7 f2 f3 f4 f5 f7) (wcell (wr8 g lev) m t l) = v := by
    refine View.canon_eq_of_allAt _ _ _ cov ?_
    rw [H9_eq]
    intro p hp
    rcases List.mem_append.mp hp with hp | hp
    · exact wgroup_allAt c M2 M3 M4 M5 f2 f3 f4 f5 _ _ 1 _ m t l v (H 1) p hp
    · exact wgroup_allAt c M2 M3 M4 M5 f2 f3 f4 f5 _ _ 0 _ m t l v (H 0) p hp
  have hidx (B : LoadRect S728x128) (h0 : B.size = S8x128.size) (x : B.shape.Idx)
      (e : ∀ a, ((B.idx x) a).val = (wcell (wr8 g lev) m t l a).val) : B.idx x = wcell (wr8 g lev) m t l := funext fun a => Fin.ext (e a)
  unfold wleaf
  rw [dif_pos ⟨m.isLt, t.isLt⟩]
  split
  · rw [View.readCov_eq_canon']
    refine Eq.trans (congrArg _ (hidx _ rfl _ fun a => ?_)) hv
    match a with
    | ⟨0, _⟩ => show m.val * 72 + t.val + 9 * (g.val * 4 + lev.val) = (m.val * 8 + (g.val * 4 + lev.val)) * 9 + t.val; omega
    | ⟨1, _⟩ => show 0 + 1 * l.val = l.val; omega
  · rw [View.readAt_apply]
    refine Eq.trans (congrArg _ (hidx _ rfl _ fun a => ?_)) ((View.read_writes_apply_eq_canon _ _ _ _ cov).trans hv)
    match a with
    | ⟨0, _⟩ => show m.val * 72 + t.val + 9 * (g.val * 4 + lev.val) = (m.val * 8 + (g.val * 4 + lev.val)) * 9 + t.val; omega
    | ⟨1, _⟩ => show 0 + 1 * l.val = l.val; omega

/-- A level's height, width, and a byte of its block. -/
abbrev Hl (lev : Fin 4) : Nat := (![46, 23, 11, 5] : Fin 4 → Nat) lev
abbrev Wl (lev : Fin 4) : Nat := (![96, 48, 24, 12] : Fin 4 → Nat) lev
def codeL (lev : Fin 4) (y x : Nat) (l : Fin 256) : BitVec 8 :=
  match lev with
  | ⟨0, _⟩ => codeAt c M2 f2 y x l
  | ⟨1, _⟩ => codeAt c M3 f3 y x l
  | ⟨2, _⟩ => codeAt c M4 f4 y x l
  | ⟨3, _⟩ => codeAt c M5 f5 y x l

/-- The window's byte, in the words read back. -/
theorem wleaf_bit (g : Fin 2) (lev : Fin 4) (l : Fin 128) (nx ny wr j : Nat) (hnx : nx < 107) (hny : ny < 57) (hwr : wr < 10) (hj : j < 10)
    (hx : xs8 i (x7of c M7 f7) (ix2 (wr8 g lev) l) = xOf nx) (hy : ys8 i (x7of c M7 f7) (ix2 (wr8 g lev) l) = xOf ny)
    (hy0 : 10 ≤ ny + wr) (hx0 : 10 ≤ nx + j) (hH : ny + wr < Hl lev + 10) (hW : nx + j < Wl lev + 10) (q : Nat) (hq : q < 8) :
    (wleaf c M2 M3 M4 M5 f2 f3 f4 f5 i M7 M9 f7 f9 ((wr + ny) % 10) (slot nx j) (ix2 (wr8 g lev) l)).getLsbD (bitAt nx j q)
      = (codeL c M2 M3 M4 M5 f2 f3 f4 f5 lev (ny + wr - 10) (nx + j - 10) (gl g l)).getLsbD q := by
  have hs8 : slot nx j < 8 := Nat.mod_lt _ (by decide)
  have leaf := wleaf_eq c M2 M3 M4 M5 f2 f3 f4 f5 i M7 M9 f7 f9 g lev ⟨(wr + ny) % 10, Nat.mod_lt _ (by decide)⟩ ⟨slot nx j, hs8⟩ l
  have gg (g' : Fin 2) (a b : Nat) (ha : a < 4) (hb : b < 4) (h : g'.val * 4 + a = g.val * 4 + b) : g' = g ∧ a = b :=
    ⟨Fin.ext (by omega), by omega⟩
  have cases4 : ∀ lev : Fin 4, lev = 0 ∨ lev = 1 ∨ lev = 2 ∨ lev = 3 := by decide
  rcases cases4 lev with rfl | rfl | rfl | rfl
  · have hH : ny + wr < 46 + 10 := hH
    have hW : nx + j < 96 + 10 := hW
    rw [leaf hs8 (fun h => absurd h (by decide)) _ fun g' => ⟨fun h => by obtain ⟨rfl, _⟩ := gg g' 0 0 (by decide) (by decide) h; rfl,
      fun h => absurd (gg g' 1 0 (by decide) (by decide) h).2 (by decide), fun h => absurd (gg g' 2 0 (by decide) (by decide) h).2 (by decide),
      fun h => absurd (gg g' 3 0 (by decide) (by decide) h).2 (by decide)⟩]
    exact words0_bit c M2 f2 _ _ g l nx ny wr j hnx hny hwr hj hy0 hx0 q hq hx hy hH hW
  · have hH : ny + wr < 23 + 10 := hH
    have hW : nx + j < 48 + 10 := hW
    rw [leaf hs8 (fun h => absurd h (by decide)) _ fun g' => ⟨fun h => absurd (gg g' 0 1 (by decide) (by decide) h).2 (by decide),
      fun h => by obtain ⟨rfl, _⟩ := gg g' 1 1 (by decide) (by decide) h; rfl, fun h => absurd (gg g' 2 1 (by decide) (by decide) h).2 (by decide),
      fun h => absurd (gg g' 3 1 (by decide) (by decide) h).2 (by decide)⟩]
    exact words1_bit c M3 f3 _ _ g l nx ny wr j hnx hny hwr hj hy0 hx0 q hq hx hy hH hW
  · have hH : ny + wr < 11 + 10 := hH
    have hW : nx + j < 24 + 10 := hW
    have hs : slot nx j < 6 := by unfold slot; omega
    rw [leaf hs (fun h => absurd h (by decide)) (words2 c M4 f4 (ys8 i (x7of c M7 f7)) g ((wr + ny) % 10) (ix2 ⟨slot nx j, hs⟩ l)) fun g' => ⟨fun h => absurd (gg g' 0 2 (by decide) (by decide) h).2 (by decide),
      fun h => absurd (gg g' 1 2 (by decide) (by decide) h).2 (by decide), fun h _ => by obtain ⟨rfl, _⟩ := gg g' 2 2 (by decide) (by decide) h; rfl,
      fun h => absurd (gg g' 3 2 (by decide) (by decide) h).2 (by decide)⟩]
    exact words2_bit c M4 f4 _ g l nx ny wr j hnx hny hwr hj hy0 hx0 q hq hy hH hW hs
  · have hH : ny + wr < 5 + 10 := hH
    have hW : nx + j < 12 + 10 := hW
    have hs : slot nx j < 3 := by unfold slot; omega
    rw [leaf hs (fun _ => by dsimp only; omega) (words3 c M5 f5 g ((wr + ny) % 10) (ix2 ⟨slot nx j, hs⟩ l)) fun g' => ⟨fun h => absurd (gg g' 0 3 (by decide) (by decide) h).2 (by decide),
      fun h => absurd (gg g' 1 3 (by decide) (by decide) h).2 (by decide), fun h => absurd (gg g' 2 3 (by decide) (by decide) h).2 (by decide),
      fun h _ => by obtain ⟨rfl, _⟩ := gg g' 3 3 (by decide) (by decide) h; rfl⟩]
    exact words3_bit c M5 f5 g l nx ny wr j hnx hny hwr hj hy0 hx0 q hq hH hW hs

end Cert.KernelIdeal.Hand

end
-- ==== Proof.EqOut.lean ====
module

public import proofs.«01_k».proof.Proof.Spec

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-! The stores to the output block: sixteen rows of the blends at a time, rounded. -/

/-- One store of `n` rows, from row `16 k` of group `g`. -/
def opiece (H : List (View.Piece (Elt F) S648x128 .f32)) (n : Nat)
    (hc : (⟨2, ![n, 128]⟩ : Shape).ShapeCasts ⟨3, ![1, n, 128]⟩) (g : Fin 2) (k : Nat) (hk : k * 16 + n ≤ 324) :
    View.Piece (Elt F) S1x324x256 .bf16 :=
  ⟨Rect.unit (s := S1x324x256) ![0, k * 16, g.val * 128] ![1, n, 128] (by
      intro a; fin_cases a
      · show 0 + 1 ≤ 1; omega
      · show k * 16 + n ≤ 324; omega
      · show g.val * 128 + 128 ≤ 256; omega),
    shapeCast ⟨3, ![1, n, 128]⟩ (truncf .bf16 (M10.view.readCov H (Rect.unit (s := S648x128) ![g.val * 324 + k * 16, 0] ![n, 128] (by
      intro a; fin_cases a
      · show g.val * 324 + k * 16 + n ≤ 648; omega
      · show 0 + 128 ≤ 128; omega)).toLoadRect) bitsLt_bf16_f32) hc⟩

/-- The stores of one group, the last first. -/
def ogroup (H : List (View.Piece (Elt F) S648x128 .f32)) (g : Fin 2) : List (View.Piece (Elt F) S1x324x256 .bf16) :=
  opiece M10 H 4 shapeCasts_S4x128_S1x4x128 g 20 (by omega) ::
    (([19, 18, 17, 16, 15, 14, 13, 12, 11, 10, 9, 8, 7, 6, 5, 4, 3, 2, 1, 0] : List (Fin 20)).map fun k =>
      opiece M10 H 16 shapeCasts_S16x128_S1x16x128 g k.val (by omega))

set_option maxHeartbeats 4000000 in
theorem H8_eq : kernelRun.sl.H8_42 c i M2 M3 M4 M5 M6 M7 M9 M10 f2 f3 f4 f5 f6 f7 f9
    = ogroup M10 (kernelRun.sl.H10_81 c i M2 M3 M4 M5 M6 M7 M9 f2 f3 f4 f5 f6 f7 f9) 1
      ++ ogroup M10 (kernelRun.sl.H10_81 c i M2 M3 M4 M5 M6 M7 M9 f2 f3 f4 f5 f6 f7 f9) 0 := by rfl

end Cert.KernelIdeal.Hand
end
-- ==== Proof.EqVals.lean ====
module

public import proofs.«01_k».proof.Proof.Tabs

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-! The stores of blends the body makes are the ones written down. -/

set_option maxHeartbeats 4000000 in
theorem H10_eq : kernelRun.sl.H10_81 c i M2 M3 M4 M5 M6 M7 M9 f2 f3 f4 f5 f6 f7 f9
    = vpieces i (x6of c M6 f6) (x7of c M7 f7) (tab1 c M2 M3 M4 M5 f2 f3 f4 f5 i M7 M9 f7 f9) := by rfl

end Cert.KernelIdeal.Hand
end
-- ==== Proof.OutVal.lean ====
module

public import proofs.«01_k».proof.Proof.Leaf
public import proofs.«01_k».proof.Proof.EqOut
public import proofs.«01_k».proof.Proof.EqVals
public import proofs.«01_k».proof.Proof.EqWords
public import proofs.«01_k».proof.Proof.Tabs

@[expose] public section

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

/-! The output block, cell by cell: the blend of its window, rounded. -/

section Blends
variable (i : grid0.Coords) (x6 : FVec F S1x4x256 .f32) (x7 : FVec F S1x2x256 .f32) (R : Nat → Nat → IVec S8x128 32)

abbrev vcell (r : Fin 8) (k j : Fin 9) (l : Fin 128) : S648x128.Idx := ix2 (⟨81 * r.val + (k.val * 9 + j.val), by omega⟩ : Fin 648) l

theorem mem_down9 (m : Fin 9) : m ∈ down9 := by revert m; decide

theorem vpieces_canon (r : Fin 8) (k j : Fin 9) (l : Fin 128) :
    View.canon (Val := Elt F) (vpieces i x6 x7 R) (vcell r k j l) = v8 i x6 x7 R k.val j.val (ix2 r l) := by
  refine View.canon_eq_of_allAt _ _ _ ?_ ?_
  · refine ⟨_, List.mem_flatMap.mpr ⟨j, mem_down9 j, List.mem_map.mpr ⟨k, mem_down9 k, rfl⟩⟩, ?_⟩
    have e : (vpiece i x6 x7 R j k).1.idx (ix2 r l) = vcell r k j l := by
      funext a
      match a with
      | ⟨0, _⟩ => exact Fin.ext (by show k.val * 9 + j.val + 81 * r.val = 81 * r.val + (k.val * 9 + j.val); omega)
      | ⟨1, _⟩ => exact Fin.ext (by show 0 + 1 * l.val = l.val; omega)
    rw [← e]
    exact LoadRect.idx_mem _ _
  · intro p hp x hx
    obtain ⟨j', _, hp⟩ := List.mem_flatMap.mp hp
    obtain ⟨k', _, rfl⟩ := List.mem_map.mp hp
    have e0 : k'.val * 9 + j'.val + 81 * (x 0).val = 81 * r.val + (k.val * 9 + j.val) := congrArg Fin.val (congrFun hx 0)
    have e1 : 0 + 1 * (x 1).val = l.val := congrArg Fin.val (congrFun hx 1)
    have hx0 : (x 0).val = r.val := by omega
    obtain rfl : k' = k := Fin.ext (by omega)
    obtain rfl : j' = j := Fin.ext (by omega)
    refine (congrFun (shapeCast_self (v8 i x6 x7 R k'.val j'.val) (by decide)) x).trans (congrArg _ ?_)
    funext a
    match a with
    | ⟨0, _⟩ => exact Fin.ext hx0
    | ⟨1, _⟩ => exact Fin.ext (by show (x 1).val = l.val; omega)
end Blends

section Out
variable (M10 : Memref sig .tc .vmem S648x128 .f32) (Hs : List (View.Piece (Elt F) S648x128 .f32))

/-- What is stored at a cell of the output block. -/
def outV (g : Fin 2) (ch : Nat) (l : Fin 128) : Elt F .bf16 :=
  if h : ch < 324 then FloatOps.truncf (F := F) (φ := .f32) .bf16 bitsLt_bf16_f32 (View.canon Hs (ix2 (⟨g.val * 324 + ch, by omega⟩ : Fin 648) l)) else FloatOps.ofBits .bf16 0#16

theorem opiece_at {n : Nat} (hc : (⟨2, ![n, 128]⟩ : Shape).ShapeCasts ⟨3, ![1, n, 128]⟩) (g : Fin 2) (k : Nat) (hk : k * 16 + n ≤ 324)
    (x : (⟨3, ![1, n, 128]⟩ : Shape).Idx) (g0 : Fin 2) (ch : Fin 324) (l : Fin 128)
    (h : (opiece M10 Hs n hc g k hk).1.emb x = ix3 (0 : Fin 1) ch (gl g0 l)) : (opiece M10 Hs n hc g k hk).2 x = outV Hs g0 ch.val l := by
  have e1 : k * 16 + 1 * (x 1).val = ch.val := congrArg Fin.val (congrFun h 1)
  have e2 : g.val * 128 + 1 * (x 2).val = g0.val * 128 + l.val := congrArg Fin.val (congrFun h 2)
  have h2 : (x 2).val < 128 := (x 2).isLt
  obtain rfl : g = g0 := Fin.ext (by omega)
  have e0 : (x 0).val = 0 := by have : (x 0).val < 1 := (x 0).isLt; omega
  unfold outV
  rw [dif_pos ch.isLt]
  unfold opiece
  dsimp only
  rw [shapeCast_apply _ hc x (ix2 (x 1 : Fin n) (x 2 : Fin 128)) (by
    rw [Shape.rowMajor_val_two, Shape.rowMajor_val_three]
    show (x 1).val * 128 + (x 2).val = ((x 0).val * n + (x 1).val) * 128 + (x 2).val
    rw [e0]; omega)]
  show FloatOps.truncf (F := F) (φ := .f32) .bf16 bitsLt_bf16_f32 _ = _
  rw [View.readCov_eq_canon']
  refine congrArg _ (congrArg _ ?_)
  funext a
  match a with
  | ⟨0, _⟩ => exact Fin.ext (by show g.val * 324 + k * 16 + 1 * (x 1).val = g.val * 324 + ch.val; omega)
  | ⟨1, _⟩ => exact Fin.ext (by show 0 + 1 * (x 2).val = l.val; omega)

theorem opiece_mem {n : Nat} (hc : (⟨2, ![n, 128]⟩ : Shape).ShapeCasts ⟨3, ![1, n, 128]⟩) (g : Fin 2) (k : Nat) (hk : k * 16 + n ≤ 324)
    (ch : Fin 324) (l : Fin 128) (h : k * 16 ≤ ch.val) (h' : ch.val < k * 16 + n) :
    ix3 (0 : Fin 1) ch (gl g l) ∈ (opiece M10 Hs n hc g k hk).1.set := by
  have e : (opiece M10 Hs n hc g k hk).1.idx (ix3 (0 : Fin 1) (⟨ch.val - k * 16, by omega⟩ : Fin n) l) = ix3 (0 : Fin 1) ch (gl g l) := by
    funext a
    match a with
    | ⟨0, _⟩ => exact Fin.ext (by show 0 + 1 * 0 = 0; omega)
    | ⟨1, _⟩ => exact Fin.ext (by show k * 16 + 1 * (ch.val - k * 16) = ch.val; omega)
    | ⟨2, _⟩ => exact Fin.ext (by show g.val * 128 + 1 * l.val = g.val * 128 + l.val; omega)
  rw [← e]
  exact LoadRect.idx_mem _ _

theorem ogroup_allAt (g g0 : Fin 2) (ch : Fin 324) (l : Fin 128) :
    View.AllAt (Val := Elt F) (ogroup M10 Hs g) (ix3 (0 : Fin 1) ch (gl g0 l)) (outV Hs g0 ch.val l) := by
  intro p hp x hx
  rcases List.mem_cons.mp hp with rfl | hp
  · exact opiece_at M10 Hs _ g _ _ x g0 ch l hx
  · obtain ⟨k, _, rfl⟩ := List.mem_map.mp hp
    exact opiece_at M10 Hs _ g _ _ x g0 ch l hx

theorem ogroup_cover (g : Fin 2) (ch : Fin 324) (l : Fin 128) : ∃ p ∈ ogroup M10 Hs g, ix3 (0 : Fin 1) ch (gl g l) ∈ p.1.set := by
  by_cases h : ch.val < 320
  · have hm : ∀ k : Fin 20, k ∈ ([19, 18, 17, 16, 15, 14, 13, 12, 11, 10, 9, 8, 7, 6, 5, 4, 3, 2, 1, 0] : List (Fin 20)) := by decide
    exact ⟨_, List.mem_cons_of_mem _ (List.mem_map.mpr ⟨⟨ch.val / 16, by omega⟩, hm _, rfl⟩), opiece_mem M10 Hs _ g _ _ ch l (by dsimp only; omega) (by dsimp only; omega)⟩
  · exact ⟨_, List.mem_cons_self, opiece_mem M10 Hs _ g _ _ ch l (by omega) (by omega)⟩

theorem out_canon (g : Fin 2) (ch : Fin 324) (l : Fin 128) :
    View.canon (Val := Elt F) (ogroup M10 Hs 1 ++ ogroup M10 Hs 0) (ix3 (0 : Fin 1) ch (gl g l)) = outV Hs g ch.val l := by
  refine View.canon_eq_of_allAt _ _ _ ?_ fun p hp => ?_
  · obtain ⟨p, hp, h⟩ := ogroup_cover M10 Hs g ch l
    refine ⟨p, ?_, h⟩
    have h2 : ∀ g : Fin 2, g = 0 ∨ g = 1 := by decide
    rcases h2 g with rfl | rfl
    · exact List.mem_append_right _ hp
    · exact List.mem_append_left _ hp
  · rcases List.mem_append.mp hp with hp | hp
    · exact ogroup_allAt M10 Hs 1 g ch l p hp
    · exact ogroup_allAt M10 Hs 0 g ch l p hp
end Out

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-- A channel's level and offsets. -/
abbrev chOf (lev : Fin 4) (k j : Fin 9) : Fin 324 := ⟨lev.val * 81 + (k.val * 9 + j.val), by omega⟩

theorem H8_canon (g : Fin 2) (lev : Fin 4) (k j : Fin 9) (l : Fin 128) :
    View.canon (Val := Elt F) (kernelRun.sl.H8_42 c i M2 M3 M4 M5 M6 M7 M9 M10 f2 f3 f4 f5 f6 f7 f9) (ix3 (0 : Fin 1) (chOf lev k j) (gl g l))
      = FloatOps.truncf (F := F) (φ := .f32) .bf16 bitsLt_bf16_f32 (v8 i (x6of c M6 f6) (x7of c M7 f7)
          (tab1 c M2 M3 M4 M5 f2 f3 f4 f5 i M7 M9 f7 f9) k.val j.val (ix2 (wr8 g lev) l)) := by
  rw [H8_eq, out_canon, H10_eq]
  unfold outV
  rw [dif_pos (chOf lev k j).isLt, ← vpieces_canon]
  refine congrArg _ (congrArg _ ?_)
  funext a
  match a with
  | ⟨0, _⟩ => exact Fin.ext (by show g.val * 324 + (lev.val * 81 + (k.val * 9 + j.val)) = 81 * (g.val * 4 + lev.val) + (k.val * 9 + j.val); omega)
  | ⟨1, _⟩ => rfl

end Cert.KernelIdeal.Hand

end
-- ==== Proof.EqRows.lean ====
module

public import proofs.«01_k».proof.Proof.Tabs

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F]

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := F) c M2) (f3 : Bf (F := F) c M3) (f4 : Bf (F := F) c M4) (f5 : Bf (F := F) c M5)

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := F) c M6) (f7 : Bf (F := F) c M7) (f9 : Bf (F := F) c M9)

/-! The body's rotated words are the ones written down. -/

theorem tab0_eq (m : Fin 10) (t : Fin 3) : tab0 c M2 M3 M4 M5 f2 f3 f4 f5 i M7 M9 f7 f9 m.val t.val = funnel (xs8 i (x7of c M7 f7)) (wleaf c M2 M3 M4 M5 f2 f3 f4 f5 i M7 M9 f7 f9) m.val t.val := by
  fin_cases m <;> fin_cases t <;> rfl

theorem tab8_eq (m : Fin 10) (t : Fin 3) : tab8 c M2 M3 M4 M5 f2 f3 f4 f5 i M7 M9 f7 f9 m.val t.val = round (ys8 i (x7of c M7 f7)) 8 (tab0 c M2 M3 M4 M5 f2 f3 f4 f5 i M7 M9 f7 f9) m.val t.val := by
  fin_cases m <;> fin_cases t <;> rfl

theorem tab4_eq (m : Fin 10) (t : Fin 3) : tab4 c M2 M3 M4 M5 f2 f3 f4 f5 i M7 M9 f7 f9 m.val t.val = round (ys8 i (x7of c M7 f7)) 4 (tab8 c M2 M3 M4 M5 f2 f3 f4 f5 i M7 M9 f7 f9) m.val t.val := by
  fin_cases m <;> fin_cases t <;> rfl

theorem tab1_eq (m : Fin 10) (t : Fin 3) :
    tab1 c M2 M3 M4 M5 f2 f3 f4 f5 i M7 M9 f7 f9 m.val t.val = round (ys8 i (x7of c M7 f7)) 1 (round (ys8 i (x7of c M7 f7)) 2 (tab4 c M2 M3 M4 M5 f2 f3 f4 f5 i M7 M9 f7 f9)) m.val t.val := by
  fin_cases m <;> fin_cases t <;> rfl

theorem rows_eq (m t : Nat) (hm : m < 10) (ht : t < 3) : tab1 c M2 M3 M4 M5 f2 f3 f4 f5 i M7 M9 f7 f9 m t = rows (xs8 i (x7of c M7 f7)) (ys8 i (x7of c M7 f7)) (wleaf c M2 M3 M4 M5 f2 f3 f4 f5 i M7 M9 f7 f9) m t := by
  have e (b n : Nat) : (n + b) % 10 < 10 := Nat.mod_lt _ (by decide)
  have h0 (m : Nat) (hm : m < 10) := tab0_eq c M2 M3 M4 M5 f2 f3 f4 f5 i M7 M9 f7 f9 ⟨m, hm⟩ ⟨t, ht⟩
  have h8 (m : Nat) (hm : m < 10) := tab8_eq c M2 M3 M4 M5 f2 f3 f4 f5 i M7 M9 f7 f9 ⟨m, hm⟩ ⟨t, ht⟩
  have h4 (m : Nat) (hm : m < 10) := tab4_eq c M2 M3 M4 M5 f2 f3 f4 f5 i M7 M9 f7 f9 ⟨m, hm⟩ ⟨t, ht⟩
  have h1 := tab1_eq c M2 M3 M4 M5 f2 f3 f4 f5 i M7 M9 f7 f9 ⟨m, hm⟩ ⟨t, ht⟩
  dsimp only at h0 h8 h4 h1
  rw [h1]
  simp only [rows, round, h4 _ hm, h4 _ (e _ _), h8 _ hm, h8 _ (e _ _), h0 _ hm, h0 _ (e _ _)]

end Cert.KernelIdeal.Hand
end
-- ==== Proof.Axis.lean ====
module

public import proofs.«01_k».proof.Proof.Bits
public import Idealize.ShloMosaic.Lib.IdealHost

@[expose] public section

/-! One axis of a window over extended reals, and the blend of four codes. -/

noncomputable section

namespace Cert.Axis

open Idealize.ShloMosaic
open Cert.KernelIdeal.Hand (xOf w32n)

/-- A position of the window: the centre's whole part and an offset. -/
def refPos (c : EReal) (y : Nat) : BitVec 32 :=
  IntOp.addi (Ideal.fptosi 32 (Ideal.liftRound Int.floor c)) (IntOp.subi (BitVec.ofNat 32 y) (BitVec.ofNat 32 4))
/-- The window's start, clipped: `n` is the axis' length. -/
def kerStart (n : ℝ) (c : EReal) : BitVec 32 := Ideal.fptosi 32 (min (n : EReal) (max ((-10 : ℝ) : EReal) (Ideal.liftRound Int.floor c - ((4 : ℝ) : EReal))))

theorem toInt_ofNat_lt (n : Nat) (h : n < 2147483648) : (BitVec.ofNat 32 n).toInt = n := by
  rw [BitVec.toInt_eq_toNat_of_lt] <;> rw [BitVec.toNat_ofNat] <;> omega

theorem toInt_ofInt_in (z : Int) (h0 : -2147483648 ≤ z) (h1 : z < 2147483648) : (BitVec.ofInt 32 z).toInt = z := by
  rw [BitVec.toInt_ofInt, Int.bmod_def]; omega

theorem toInt_addi (x y : BitVec 32) : (IntOp.addi x y).toInt
    = if (x.toInt + y.toInt) % 4294967296 < 2147483648 then (x.toInt + y.toInt) % 4294967296 else (x.toInt + y.toInt) % 4294967296 - 4294967296 := by
  show (x + y).toInt = _
  rw [BitVec.toInt_add, Int.bmod_def]; rfl

theorem toInt_offs (y : Nat) (h : y < 10) : (IntOp.subi (BitVec.ofNat 32 y) (BitVec.ofNat 32 4)).toInt = (y : Int) - 4 := by
  have : ∀ y : Fin 10, (IntOp.subi (BitVec.ofNat 32 y.val) (BitVec.ofNat 32 4)).toInt = (y.val : Int) - 4 := by decide
  exact this ⟨y, h⟩

theorem toInt_xOf (n : Nat) (h : n < 107) : (xOf n).toInt = (n : Int) - 10 := by
  have : ∀ n : Fin 107, (xOf n.val).toInt = (n.val : Int) - 10 := by decide
  exact this ⟨n, h⟩

/-- The centre's whole part as a word. -/
def whole (c : EReal) : Int := Ideal.toIntClamped (-2147483648) 2147483647 (Ideal.liftRound Int.floor c)

theorem whole_range (c : EReal) : -2147483648 ≤ whole c ∧ whole c < 2147483648 := by
  induction c with
  | bot => simp [whole]
  | top => simp [whole]
  | coe r =>
    unfold whole
    rw [Ideal.liftRound_coe, Ideal.toIntClamped_coe]
    omega

theorem fptosi_floor (c : EReal) : Ideal.fptosi 32 (Ideal.liftRound Int.floor c) = BitVec.ofInt 32 (whole c) := rfl

theorem clamp_int (z : Int) : Ideal.toIntClamped (-2147483648) 2147483647 ((z : ℝ) : EReal) = max (-2147483648) (min 2147483647 z) := by
  rw [Ideal.toIntClamped_coe, Int.floor_intCast, Int.ceil_intCast, ite_self]

theorem kerStart_eq (N : Nat) (hN : N ≤ 96) (c : EReal) : kerStart (N : ℝ) c = BitVec.ofInt 32 (min N (max (-10) (whole c - 4))) := by
  show BitVec.ofInt 32 (Ideal.toIntClamped (-2147483648) 2147483647 _) = _
  congr 1
  have hh : (((N : ℕ) : ℝ) : EReal) = (((N : Int) : ℝ) : EReal) := by norm_cast
  have h10 : ((-10 : ℝ) : EReal) = (((-10 : Int) : ℝ) : EReal) := by norm_cast
  have mx (a b : Int) : max (((a : Int) : ℝ) : EReal) ((b : ℝ) : EReal) = ((max a b : Int) : ℝ) := by
    rw [Int.cast_max]; exact (EReal.coe_strictMono.monotone.map_max).symm
  have mn (a b : Int) : min (((a : Int) : ℝ) : EReal) ((b : ℝ) : EReal) = ((min a b : Int) : ℝ) := by
    rw [Int.cast_min]; exact (EReal.coe_strictMono.monotone.map_min).symm
  induction c with
  | bot =>
    rw [Ideal.liftRound_bot, EReal.bot_sub, max_eq_left bot_le, hh, h10, mn, clamp_int]
    simp only [whole, Ideal.liftRound_bot, Ideal.toIntClamped_bot]; omega
  | top =>
    rw [Ideal.liftRound_top, EReal.top_sub_coe, max_eq_right le_top, min_eq_left le_top, hh, clamp_int]
    simp only [whole, Ideal.liftRound_top, Ideal.toIntClamped_top]; omega
  | coe r =>
    have e4 : (((⌊r⌋ : Int) : ℝ) : EReal) - ((4 : ℝ) : EReal) = (((⌊r⌋ - 4 : Int) : ℝ) : EReal) := by norm_cast
    rw [Ideal.liftRound_coe, e4, hh, h10, mx, mn, clamp_int]
    simp only [whole, Ideal.liftRound_coe, clamp_int]; omega

/-- The two sides name the same places of the map. -/
theorem axis (N : Nat) (hN : N ≤ 96) (c : EReal) : ∃ n : Nat, n ≤ N + 10 ∧ kerStart (N : ℝ) c = xOf n ∧ ∀ y : Nat, y < 10 →
    ((0 ≤ (refPos c y).toInt ∧ (refPos c y).toInt < N) ↔ (10 ≤ n + y ∧ n + y < N + 10))
      ∧ (10 ≤ n + y → n + y < N + 10 → refPos c y = BitVec.ofNat 32 (n + y - 10)) := by
  obtain ⟨h0, h1⟩ := whole_range c
  have hp (y : Nat) (hy : y < 10) := toInt_addi (Ideal.fptosi 32 (Ideal.liftRound Int.floor c)) (IntOp.subi (BitVec.ofNat 32 y) (BitVec.ofNat 32 4))
  rw [fptosi_floor, toInt_ofInt_in _ h0 h1] at hp
  refine ⟨(min (N : Int) (max (-10) (whole c - 4)) + 10).toNat, by omega, ?_, fun y hy => ?_⟩
  · rw [kerStart_eq N hN]
    apply BitVec.eq_of_toInt_eq
    rw [toInt_ofInt_in _ (by omega) (by omega), toInt_xOf _ (by omega)]
    omega
  · have hp := hp y hy
    rw [toInt_offs y hy] at hp
    have hr : (refPos c y).toInt = _ := hp
    have iff : (0 ≤ (refPos c y).toInt ∧ (refPos c y).toInt < N)
        ↔ (10 ≤ (min (N : Int) (max (-10) (whole c - 4)) + 10).toNat + y ∧ (min (N : Int) (max (-10) (whole c - 4)) + 10).toNat + y < N + 10) := by
      rw [hr]; split <;> omega
    refine ⟨iff, fun a b => ?_⟩
    apply BitVec.eq_of_toInt_eq
    rw [toInt_ofNat_lt _ (by omega), hr]
    split <;> omega

/-- The mask of the window's start. -/
def okW (N : Nat) (x : BitVec 32) (k : Nat) : BitVec 1 :=
  IntOp.andi (IntOp.cmpi .sge (IntOp.addi x (w32n k)) (w32n 0)) (IntOp.cmpi .slt (IntOp.addi x (w32n k)) (w32n N))

theorem okW_eq (N n k : Nat) (hN : N ≤ 96) (hn : n < 107) (hk : k < 10) : okW N (xOf n) k = BitVec.ofBool (decide (10 ≤ n + k ∧ n + k < N + 10)) := by
  have e : (IntOp.addi (xOf n) (w32n k)).toInt = (n : Int) + k - 10 := by
    rw [toInt_addi, toInt_xOf n hn, toInt_ofNat_lt k (by omega)]; split <;> omega
  unfold okW IntOp.cmpi
  dsimp only
  rw [BitVec.sle, BitVec.slt, e, toInt_ofNat_lt N (by omega), toInt_ofNat_lt 0 (by omega)]
  have ab : ∀ a b : Bool, IntOp.andi (BitVec.ofBool a) (BitVec.ofBool b) = BitVec.ofBool (a && b) := by decide
  rw [ab, ← Bool.decide_and]
  congr 2
  apply propext
  constructor <;> intro h <;> omega

/-! ## The blend -/

/-- The kernel's blend. -/
def kerBlend (fx fy u : EReal) (a0 a1 b0 b1 : Bool) (w00 w01 w10 w11 : Int) : EReal :=
  (((w00 : ℝ) : EReal) * (if a0 then (1 - fx) * u else 0) + ((w01 : ℝ) : EReal) * (if a1 then fx * u else 0)) * (if b0 then 1 - fy else 0)
    + (((w10 : ℝ) : EReal) * (if a0 then (1 - fx) * u else 0) + ((w11 : ℝ) : EReal) * (if a1 then fx * u else 0)) * (if b1 then fy else 0)
/-- The reference's. -/
def refBlend (fx fy q00 q01 q10 q11 : EReal) : EReal :=
  (1 - fy) * (1 - fx) * q00 + (1 - fy) * fx * q01 + fy * (1 - fx) * q10 + fy * fx * q11
/-- A code, or nothing. -/
def codeAtMap (ok : Bool) (e : Int) : EReal := if ok then ((e : ℝ) : EReal) else 0

theorem blend_real (φ ψ σ : ℝ) (a0 a1 b0 b1 : Bool) (w00 w01 w10 w11 e00 e01 e10 e11 : Int)
    (h00 : b0 = true → a0 = true → w00 = e00 * 16777216) (h01 : b0 = true → a1 = true → w01 = e01 * 16777216)
    (h10 : b1 = true → a0 = true → w10 = e10 * 16777216) (h11 : b1 = true → a1 = true → w11 = e11 * 16777216) :
    kerBlend φ ψ ((σ : EReal) * ((1 / 16777216 : ℝ) : EReal)) a0 a1 b0 b1 w00 w01 w10 w11
      = σ * refBlend φ ψ (codeAtMap (b0 && a0) e00) (codeAtMap (b0 && a1) e01) (codeAtMap (b1 && a0) e10) (codeAtMap (b1 && a1) e11) := by
  have i (b : Bool) (x : ℝ) : (if b = true then (x : EReal) else 0) = ((if b = true then x else 0 : ℝ) : EReal) := by cases b <;> simp
  unfold kerBlend refBlend codeAtMap
  simp only [← EReal.coe_one, ← EReal.coe_sub, ← EReal.coe_mul, i, ← EReal.coe_add]
  congr 1
  cases a0 <;> cases a1 <;> cases b0 <;> cases b1 <;> simp_all <;> push_cast <;> ring

theorem blend_off (fx fy u σ : EReal) (a0 a1 b0 b1 : Bool) (w00 w01 w10 w11 e00 e01 e10 e11 : Int)
    (h : (a0 = false ∧ a1 = false) ∨ (b0 = false ∧ b1 = false)) :
    kerBlend fx fy u a0 a1 b0 b1 w00 w01 w10 w11
      = σ * refBlend fx fy (codeAtMap (b0 && a0) e00) (codeAtMap (b0 && a1) e01) (codeAtMap (b1 && a0) e10) (codeAtMap (b1 && a1) e11) := by
  unfold kerBlend refBlend codeAtMap
  rcases h with ⟨rfl, rfl⟩ | ⟨rfl, rfl⟩ <;> simp

theorem blend (cx cy : EReal) (σ : ℝ) (a0 a1 b0 b1 : Bool) (w00 w01 w10 w11 e00 e01 e10 e11 : Int)
    (hx : (∃ r : ℝ, cx = r) ∨ (a0 = false ∧ a1 = false)) (hy : (∃ r : ℝ, cy = r) ∨ (b0 = false ∧ b1 = false))
    (h00 : b0 = true → a0 = true → w00 = e00 * 16777216) (h01 : b0 = true → a1 = true → w01 = e01 * 16777216)
    (h10 : b1 = true → a0 = true → w10 = e10 * 16777216) (h11 : b1 = true → a1 = true → w11 = e11 * 16777216) :
    kerBlend (cx - Ideal.liftRound Int.floor cx) (cy - Ideal.liftRound Int.floor cy) ((σ : EReal) * ((1 / 16777216 : ℝ) : EReal)) a0 a1 b0 b1 w00 w01 w10 w11
      = σ * refBlend (cx - Ideal.liftRound Int.floor cx) (cy - Ideal.liftRound Int.floor cy)
          (codeAtMap (b0 && a0) e00) (codeAtMap (b0 && a1) e01) (codeAtMap (b1 && a0) e10) (codeAtMap (b1 && a1) e11) := by
  rcases hx with ⟨r, rfl⟩ | hx
  · rcases hy with ⟨q, rfl⟩ | hy
    · rw [Ideal.liftRound_coe, Ideal.liftRound_coe, ← EReal.coe_sub, ← EReal.coe_sub]
      exact blend_real _ _ σ a0 a1 b0 b1 _ _ _ _ _ _ _ _ h00 h01 h10 h11
    · exact blend_off _ _ _ _ a0 a1 b0 b1 _ _ _ _ _ _ _ _ (Or.inr hy)
  · exact blend_off _ _ _ _ a0 a1 b0 b1 _ _ _ _ _ _ _ _ (Or.inl hx)

/-- An infinite centre has no place on the map. -/
theorem refPos_inf (c : EReal) (y N : Nat) (hy : y < 10) (hN : N ≤ 96) (h : ¬ ∃ r : ℝ, c = r) :
    ¬ (0 ≤ (refPos c y).toInt ∧ (refPos c y).toInt < N) := by
  have hp := toInt_addi (Ideal.fptosi 32 (Ideal.liftRound Int.floor c)) (IntOp.subi (BitVec.ofNat 32 y) (BitVec.ofNat 32 4))
  obtain ⟨h0, h1⟩ := whole_range c
  rw [fptosi_floor, toInt_ofInt_in _ h0 h1, toInt_offs y hy] at hp
  have hr : (refPos c y).toInt = _ := hp
  have hw : whole c = -2147483648 ∨ whole c = 2147483647 := by
    induction c with
    | bot => exact Or.inl rfl
    | top => exact Or.inr rfl
    | coe r => exact absurd ⟨r, rfl⟩ h
  rw [hr]
  split <;> omega

/-! ## The grid -/

theorem grid_row (p : Nat) (hp : p < 4352) : ⌊((p : ℝ) + 1 / 2) * (11184811 / 1073741824)⌋ = ((p / 96 : Nat) : Int) := by
  rw [Int.floor_eq_iff]
  have h : p = 96 * (p / 96) + p % 96 := (Nat.div_add_mod p 96).symm
  have h2 : p % 96 < 96 := Nat.mod_lt _ (by decide)
  have hc : (p : ℝ) = 96 * ((p / 96 : Nat) : ℝ) + ((p % 96 : Nat) : ℝ) := by exact_mod_cast h
  have hm : ((p % 96 : Nat) : ℝ) ≤ 95 := by exact_mod_cast (by omega : p % 96 ≤ 95)
  have hm0 : (0 : ℝ) ≤ ((p % 96 : Nat) : ℝ) := Nat.cast_nonneg _
  have hd : ((p / 96 : Nat) : ℝ) ≤ 45 := by exact_mod_cast (by omega : p / 96 ≤ 45)
  have hd0 : (0 : ℝ) ≤ ((p / 96 : Nat) : ℝ) := Nat.cast_nonneg _
  rw [Int.cast_natCast, hc]
  constructor <;> nlinarith

theorem ofBits_half : Ideal.ofBits .f32 0x3F000000#32 = ((1 / 2 : ℝ) : EReal) := by simp [Ideal.ofBits, Ideal.ieee, -EReal.coe_mul]; norm_num
theorem ofBits_quarter : Ideal.ofBits .f32 0x3E800000#32 = ((1 / 4 : ℝ) : EReal) := by simp [Ideal.ofBits, Ideal.ieee, -EReal.coe_mul]; norm_num
theorem ofBits_eighth : Ideal.ofBits .f32 0x3E000000#32 = ((1 / 8 : ℝ) : EReal) := by simp [Ideal.ofBits, Ideal.ieee, -EReal.coe_mul]; norm_num
theorem ofBits_96th : Ideal.ofBits .f32 0x3C2AAAAB#32 = ((11184811 / 1073741824 : ℝ) : EReal) := by simp [Ideal.ofBits, Ideal.ieee, -EReal.coe_mul]; norm_num
theorem ofBits_96 : Ideal.ofBits .f32 0x42C00000#32 = ((96 : ℝ) : EReal) := by simp [Ideal.ofBits, Ideal.ieee, -EReal.coe_mul]; norm_num
theorem ofBits_m10 : Ideal.ofBits .f32 0xC1200000#32 = ((-10 : ℝ) : EReal) := by simp [Ideal.ofBits, Ideal.ieee, -EReal.coe_mul]; norm_num
theorem ofBits_4 : Ideal.ofBits .f32 0x40800000#32 = ((4 : ℝ) : EReal) := by simp [Ideal.ofBits, Ideal.ieee, -EReal.coe_mul]; norm_num
theorem ofBits_unit : Ideal.ofBits .f32 0x33800000#32 = ((1 / 16777216 : ℝ) : EReal) := by simp [Ideal.ofBits, Ideal.ieee, -EReal.coe_mul]; norm_num

/-! ## One number of the lookup -/

/-- A level's step. -/
def stepBits (lev : Fin 4) : BitVec 32 := (![0x3F800000#32, 0x3F000000#32, 0x3E800000#32, 0x3E000000#32] : Fin 4 → BitVec 32) lev

/-- The centre along an axis. -/
def centre (n : Nat) (flow : EReal) (lev : Fin 4) : EReal := (((n : ℝ) : EReal) + flow) * Ideal.ofBits .f32 (stepBits lev)

/-- The code the reference reads at a window's corner, or nothing off the map. -/
def corner (cx cy : EReal) (H W : Nat) (code : Nat → Nat → BitVec 8) (y z : Nat) : EReal :=
  codeAtMap (decide (0 ≤ (refPos cy y).toInt ∧ (refPos cy y).toInt < H) && decide (0 ≤ (refPos cx z).toInt ∧ (refPos cx z).toInt < W))
    (code (refPos cy y).toNat (refPos cx z).toNat).toInt

/-- One number of the lookup: the scale times the blend of four corners. -/
def cell (cx cy : EReal) (H W : Nat) (code : Nat → Nat → BitVec 8) (σ : EReal) (k j : Nat) : EReal :=
  σ * refBlend (cx - Ideal.liftRound Int.floor cx) (cy - Ideal.liftRound Int.floor cy)
    (corner cx cy H W code j k) (corner cx cy H W code j (k + 1)) (corner cx cy H W code (j + 1) k) (corner cx cy H W code (j + 1) (k + 1))

end Cert.Axis

end
-- ==== Proof.Cell.lean ====
module

public import proofs.«01_k».proof.Proof.Leaf
public import proofs.«01_k».proof.Proof.OutVal
public import proofs.«01_k».proof.Proof.EqRows
public import proofs.«01_k».proof.Proof.Axis
public import proofs.«01_k».proof.Proof.EqVals
public import proofs.«01_k».proof.Proof.EqWords
public import proofs.«01_k».proof.Proof.Tabs

@[expose] public section

/-! One cell of the kernel's blend, over extended reals. -/

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx
open Cert.Axis

variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := Ideal) c M2) (f3 : Bf (F := Ideal) c M3) (f4 : Bf (F := Ideal) c M4) (f5 : Bf (F := Ideal) c M5)

variable (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := Ideal) c M6) (f7 : Bf (F := Ideal) c M7) (f9 : Bf (F := Ideal) c M9)

/-! ## The parts -/

section Parts
variable (x6 : FVec Ideal S1x4x256 .f32) (x7 : FVec Ideal S1x2x256 .f32)
  (g : Fin 2) (lev : Fin 4) (l : Fin 128)

theorem four (lev : Fin 4) : lev = 0 ∨ lev = 1 ∨ lev = 2 ∨ lev = 3 := by revert lev; decide
theorem two (g : Fin 2) : g = 0 ∨ g = 1 := by revert g; decide

theorem sub8_at (r : Fin 8) : sub8 (ix2 r l) = BitVec.ofNat 32 r.val := iota_single_apply .tc S8x128 32 (0 : Fin 2) iota_S8x128_d0_w32 _
theorem lev8_at : lev8 (ix2 (wr8 g lev) l) = w32n lev.val := by
  show IntOp.andi (sub8 (ix2 (wr8 g lev) l)) (w32n 3) = _
  rw [sub8_at]
  revert g lev; decide
theorem first8_at : first8 (ix2 (wr8 g lev) l) = BitVec.ofBool (decide (g = 0)) := by
  show IntOp.cmpi .slt (sub8 (ix2 (wr8 g lev) l)) (w32n 4) = _
  rw [sub8_at]
  revert g lev; decide

theorem perLevel_at {α : Type} (a0 a1 a2 a3 : S8x128.Idx → α) :
    perLevel a0 a1 a2 a3 (ix2 (wr8 g lev) l) = (![a0, a1, a2, a3] : Fin 4 → S8x128.Idx → α) lev (ix2 (wr8 g lev) l) := by
  show Scalar.select (IntOp.cmpi .eq (lev8 _) (w32n 3)) _ (Scalar.select (IntOp.cmpi .eq (lev8 _) (w32n 2)) _ (Scalar.select (IntOp.cmpi .eq (lev8 _) (w32n 1)) _ _)) = _
  rw [lev8_at]
  rcases four lev with rfl | rfl | rfl | rfl <;> rfl

theorem wmax8_at : wmax8 (ix2 (wr8 g lev) l) = w32n (Wl lev) := by
  unfold wmax8; rw [perLevel_at]; rcases four lev with rfl | rfl | rfl | rfl <;> rfl
theorem hmax8_at : hmax8 (ix2 (wr8 g lev) l) = w32n (Hl lev) := by
  unfold hmax8; rw [perLevel_at]; rcases four lev with rfl | rfl | rfl | rfl <;> rfl

theorem step8_at : step8 (F := Ideal) (ix2 (wr8 g lev) l) = Ideal.ofBits .f32 (stepBits lev) := by
  unfold step8; rw [perLevel_at]; rcases four lev with rfl | rfl | rfl | rfl <;> rfl

theorem scale8_at : scale8 x6 (ix2 (wr8 g lev) l) = x6 (ix3 (0 : Fin 1) lev (gl g l)) := by
  unfold scale8
  have cast (a : Fin 256) : shapeCast S4x256 x6 shapeCasts_S1x4x256_S4x256 (ix2 lev a) = x6 (ix3 (0 : Fin 1) lev a) :=
    shapeCast_apply _ _ _ _ (by
      rw [Shape.rowMajor_val_two, Shape.rowMajor_val_three]
      show (0 * 4 + lev.val) * 256 + a.val = lev.val * 256 + a.val; omega)
  rcases two g with rfl | rfl
  · rw [concatenate_pair_apply_left (t := S8x128) (s₁ := S4x128) (s₂ := S4x128) (0 : Fin 2) _ _ concatenates_S4x128_S4x128_S8x128_d0 (ix2 (wr8 0 lev) l) rfl (ix2 lev l)
      (fun a => match a with | ⟨0, _⟩ => by show lev.val = 0 * 4 + lev.val; omega | ⟨1, _⟩ => rfl)]
    rw [extractStridedSlice_apply _ _ _ _ (ix2 lev (gl 0 l)) (fun a => match a with
      | ⟨0, _⟩ => by show lev.val = 0 + lev.val; omega
      | ⟨1, _⟩ => by show 0 * 128 + l.val = 0 + l.val; omega), cast]
  · rw [concatenate_pair_apply_right (t := S8x128) (s₁ := S4x128) (s₂ := S4x128) (0 : Fin 2) _ _ concatenates_S4x128_S4x128_S8x128_d0 (ix2 (wr8 1 lev) l) rfl rfl (ix2 lev l)
      (fun a ha => match a, ha with | ⟨0, _⟩, ha => absurd rfl ha | ⟨1, _⟩, _ => rfl)
      (by show lev.val + 4 = 1 * 4 + lev.val; omega)]
    rw [extractStridedSlice_apply _ _ _ _ (ix2 lev (gl 1 l)) (fun a => match a with
      | ⟨0, _⟩ => by show lev.val = 0 + lev.val; omega
      | ⟨1, _⟩ => by show 1 * 128 + l.val = 128 + l.val; omega), cast]

theorem flow_at (o : Fin 2) (h0 : S2x128.Slices ![o.val, 0] S1x128) :
    select first8
      (broadcastTo S8x128 (shapeCast S1x128 (extractStridedSlice S1x128 ![o.val, 0] (extractStridedSlice (s := S2x256) S2x128 ![0, 0]
        (shapeCast S2x256 x7 shapeCasts_S1x2x256_S2x256) slices_S2x256_o0_0_S2x128) h0) shapeCasts_S1x128_S1x128) broadcasts_S1x128_S8x128)
      (broadcastTo S8x128 (shapeCast S1x128 (extractStridedSlice S1x128 ![o.val, 0] (extractStridedSlice (s := S2x256) S2x128 ![0, 128]
        (shapeCast S2x256 x7 shapeCasts_S1x2x256_S2x256) slices_S2x256_o0_128_S2x128) h0) shapeCasts_S1x128_S1x128) broadcasts_S1x128_S8x128)
      (ix2 (wr8 g lev) l) = x7 (ix3 (0 : Fin 1) o (gl g l)) := by
  have cast (a : Fin 256) : shapeCast S2x256 x7 shapeCasts_S1x2x256_S2x256 (ix2 o a) = x7 (ix3 (0 : Fin 1) o a) :=
    shapeCast_apply _ _ _ _ (by
      rw [Shape.rowMajor_val_two, Shape.rowMajor_val_three]
      show (0 * 2 + o.val) * 256 + a.val = o.val * 256 + a.val; omega)
  have row (y : S2x128.Idx → Elt Ideal .f32) : broadcastTo S8x128 (shapeCast S1x128 (extractStridedSlice S1x128 ![o.val, 0] y h0) shapeCasts_S1x128_S1x128)
      broadcasts_S1x128_S8x128 (ix2 (wr8 g lev) l) = y (ix2 o l) := by
    rw [broadcastTo_apply _ _ _ (ix2 (0 : Fin 1) l) (fun a => match a with | ⟨0, _⟩ => rfl | ⟨1, _⟩ => rfl), shapeCast_self]
    exact extractStridedSlice_apply _ _ _ _ _ (fun a => match a with
      | ⟨0, _⟩ => by show o.val = o.val + 0; omega
      | ⟨1, _⟩ => by show l.val = 0 + l.val; omega)
  show Scalar.select (first8 (ix2 (wr8 g lev) l)) _ _ = _
  rw [first8_at, row, row]
  rcases two g with rfl | rfl
  · rw [show decide ((0 : Fin 2) = 0) = true from rfl, show ∀ a b : Elt Ideal .f32, Scalar.select (BitVec.ofBool true) a b = a from fun _ _ => rfl, extractStridedSlice_apply _ _ _ _ (ix2 o (gl 0 l)) (fun a => match a with
      | ⟨0, _⟩ => by show o.val = 0 + o.val; omega
      | ⟨1, _⟩ => by show 0 * 128 + l.val = 0 + l.val; omega), cast]
  · rw [show decide ((1 : Fin 2) = 0) = false from rfl, show ∀ a b : Elt Ideal .f32, Scalar.select (BitVec.ofBool false) a b = b from fun _ _ => rfl, extractStridedSlice_apply _ _ _ _ (ix2 o (gl 1 l)) (fun a => match a with
      | ⟨0, _⟩ => by show o.val = 0 + o.val; omega
      | ⟨1, _⟩ => by show 1 * 128 + l.val = 128 + l.val; omega), cast]
theorem flowX_at : flowX x7 (ix2 (wr8 g lev) l) = x7 (ix3 (0 : Fin 1) (0 : Fin 2) (gl g l)) := flow_at x7 g lev l 0 _
theorem flowY_at : flowY x7 (ix2 (wr8 g lev) l) = x7 (ix3 (0 : Fin 1) (1 : Fin 2) (gl g l)) := flow_at x7 g lev l 1 _

/-- The query's number. -/
abbrev qnum (i : grid0.Coords) (g : Fin 2) (l : Fin 128) : Nat := (i 1).val * 256 + (g.val * 128 + l.val)
theorem qnum_lt : qnum i g l < 4352 := by
  have : (i 1).val < 17 := (i 1).isLt
  show (i 1).val * 256 + (g.val * 128 + l.val) < 4352
  omega

theorem pos8_at : pos8 i (ix2 (wr8 g lev) l) = BitVec.ofNat 32 (qnum i g l) := by
  show IntOp.addi (IntOp.addi (BitVec.ofNat 32 (i 1).val * 256#32) (iota .tc S8x128 32 [1] iota_S8x128_d1_w32 (ix2 (wr8 g lev) l))) (Scalar.select (first8 (ix2 (wr8 g lev) l)) (w32n 0) (w32n 128)) = _
  rw [first8_at, iota_single_apply .tc S8x128 32 (1 : Fin 2) iota_S8x128_d1_w32]
  show (BitVec.ofNat 32 (i 1).val * BitVec.ofNat 32 256 + BitVec.ofNat 32 l.val) + _ = _
  have e : Scalar.select (BitVec.ofBool (decide (g = 0))) (w32n 0) (w32n 128) = BitVec.ofNat 32 (g.val * 128) := by
    rcases two g with rfl | rfl <;> rfl
  rw [e, ← BitVec.ofNat_mul, ← BitVec.ofNat_add, ← BitVec.ofNat_add]
  congr 1
  show (i 1).val * 256 + l.val + g.val * 128 = (i 1).val * 256 + (g.val * 128 + l.val)
  omega

/-- The grid row and column of a query. -/
theorem gy8_at : gy8 (F := Ideal) i (ix2 (wr8 g lev) l) = ((((qnum i g l / 96 : Nat) : ℝ)) : EReal) := by
  show Ideal.liftRound Int.floor (((((pos8 i (ix2 (wr8 g lev) l)).toInt : ℝ) : EReal) + Ideal.ofBits .f32 0x3F000000#32) * Ideal.ofBits .f32 0x3C2AAAAB#32) = _
  rw [pos8_at, toInt_ofNat_lt _ (by have := qnum_lt i g l; omega), ofBits_half, ofBits_96th, ← EReal.coe_add, ← EReal.coe_mul, Ideal.liftRound_coe,
    Int.cast_natCast, grid_row _ (qnum_lt i g l), Int.cast_natCast]
theorem gx8_at : gx8 (F := Ideal) i (ix2 (wr8 g lev) l) = ((((qnum i g l % 96 : Nat) : ℝ)) : EReal) := by
  show (((pos8 i (ix2 (wr8 g lev) l)).toInt : ℝ) : EReal) - gy8 (F := Ideal) i (ix2 (wr8 g lev) l) * Ideal.ofBits .f32 0x42C00000#32 = _
  rw [pos8_at, toInt_ofNat_lt _ (by have := qnum_lt i g l; omega), gy8_at, ofBits_96, ← EReal.coe_mul, ← EReal.coe_sub, Int.cast_natCast]
  congr 1
  have h : ((qnum i g l : Nat) : ℝ) = 96 * ((qnum i g l / 96 : Nat) : ℝ) + ((qnum i g l % 96 : Nat) : ℝ) := by
    exact_mod_cast (Nat.div_add_mod (qnum i g l) 96).symm
  rw [h]; ring

theorem cx8_at : cx8 i x7 (ix2 (wr8 g lev) l) = centre (qnum i g l % 96) (x7 (ix3 (0 : Fin 1) (0 : Fin 2) (gl g l))) lev := by
  show (gx8 (F := Ideal) i (ix2 (wr8 g lev) l) + flowX x7 (ix2 (wr8 g lev) l)) * step8 (F := Ideal) (ix2 (wr8 g lev) l) = _
  rw [gx8_at, flowX_at, step8_at]; rfl
theorem cy8_at : cy8 i x7 (ix2 (wr8 g lev) l) = centre (qnum i g l / 96) (x7 (ix3 (0 : Fin 1) (1 : Fin 2) (gl g l))) lev := by
  show (gy8 (F := Ideal) i (ix2 (wr8 g lev) l) + flowY x7 (ix2 (wr8 g lev) l)) * step8 (F := Ideal) (ix2 (wr8 g lev) l) = _
  rw [gy8_at, flowY_at, step8_at]; rfl

theorem Wl_le : Wl lev ≤ 96 := by revert lev; decide
theorem Hl_le : Hl lev ≤ 46 := by revert lev; decide

theorem xs8_at : xs8 i x7 (ix2 (wr8 g lev) l) = kerStart ((Wl lev : Nat) : ℝ) (cx8 i x7 (ix2 (wr8 g lev) l)) := by
  show Ideal.fptosi 32 (min ((((wmax8 (ix2 (wr8 g lev) l)).toInt : ℝ)) : EReal) (max (Ideal.ofBits .f32 0xC1200000#32)
    (Ideal.liftRound Int.floor (cx8 i x7 (ix2 (wr8 g lev) l)) - Ideal.ofBits .f32 0x40800000#32))) = _
  rw [wmax8_at, toInt_ofNat_lt _ (by have := Wl_le lev; omega), ofBits_m10, ofBits_4, Int.cast_natCast]
  rfl
theorem ys8_at : ys8 i x7 (ix2 (wr8 g lev) l) = kerStart ((Hl lev : Nat) : ℝ) (cy8 i x7 (ix2 (wr8 g lev) l)) := by
  show Ideal.fptosi 32 (min ((((hmax8 (ix2 (wr8 g lev) l)).toInt : ℝ)) : EReal) (max (Ideal.ofBits .f32 0xC1200000#32)
    (Ideal.liftRound Int.floor (cy8 i x7 (ix2 (wr8 g lev) l)) - Ideal.ofBits .f32 0x40800000#32))) = _
  rw [hmax8_at, toInt_ofNat_lt _ (by have := Hl_le lev; omega), ofBits_m10, ofBits_4, Int.cast_natCast]
  rfl

theorem okx_at (k : Nat) : okx i x7 k (ix2 (wr8 g lev) l) = okW (Wl lev) (xs8 i x7 (ix2 (wr8 g lev) l)) k := by
  show IntOp.andi (IntOp.cmpi .sge _ _) (IntOp.cmpi .slt _ (wmax8 (ix2 (wr8 g lev) l))) = _
  rw [wmax8_at]; rfl
theorem oky_at (k : Nat) : oky i x7 k (ix2 (wr8 g lev) l) = okW (Hl lev) (ys8 i x7 (ix2 (wr8 g lev) l)) k := by
  show IntOp.andi (IntOp.cmpi .sge _ _) (IntOp.cmpi .slt _ (hmax8 (ix2 (wr8 g lev) l))) = _
  rw [hmax8_at]; rfl

theorem q8_at (R : Nat → Nat → IVec S8x128 32) (r j : Nat) (z : S8x128.Idx) :
    q8 (F := Ideal) R r j z = ((((qW (fun m t => R m t z) r j).toInt : ℝ)) : EReal) := by
  unfold q8 qW
  split
  · rfl
  split <;> rfl

theorem select_bool {α : Type} (b : Bool) (x y : α) : Scalar.select (BitVec.ofBool b) x y = if b then x else y := by cases b <;> rfl

theorem v8_at (R : Nat → Nat → IVec S8x128 32) (k j : Nat) (a0 a1 b0 b1 : Bool)
    (h0 : okx i x7 k (ix2 (wr8 g lev) l) = BitVec.ofBool a0) (h1 : okx i x7 (k + 1) (ix2 (wr8 g lev) l) = BitVec.ofBool a1)
    (h2 : oky i x7 j (ix2 (wr8 g lev) l) = BitVec.ofBool b0) (h3 : oky i x7 (j + 1) (ix2 (wr8 g lev) l) = BitVec.ofBool b1) :
    v8 i x6 x7 R k j (ix2 (wr8 g lev) l)
      = kerBlend (cx8 i x7 (ix2 (wr8 g lev) l) - Ideal.liftRound Int.floor (cx8 i x7 (ix2 (wr8 g lev) l)))
          (cy8 i x7 (ix2 (wr8 g lev) l) - Ideal.liftRound Int.floor (cy8 i x7 (ix2 (wr8 g lev) l)))
          (x6 (ix3 (0 : Fin 1) lev (gl g l)) * ((1 / 16777216 : ℝ) : EReal)) a0 a1 b0 b1
          (qW (fun m t => R m t (ix2 (wr8 g lev) l)) j k).toInt (qW (fun m t => R m t (ix2 (wr8 g lev) l)) j (k + 1)).toInt
          (qW (fun m t => R m t (ix2 (wr8 g lev) l)) (j + 1) k).toInt (qW (fun m t => R m t (ix2 (wr8 g lev) l)) (j + 1) (k + 1)).toInt := by
  have one := Ideal.ofBits_one_f32
  have zero := Ideal.ofBits_zero_f32
  show (q8 (F := Ideal) R j k _ * Scalar.select (okx i x7 k _) ((Ideal.ofBits .f32 0x3F800000#32 - (cx8 i x7 _ - Ideal.liftRound Int.floor (cx8 i x7 _))) * (scale8 x6 _ * Ideal.ofBits .f32 0x33800000#32)) (Ideal.ofBits .f32 0x00000000#32)
      + q8 (F := Ideal) R j (k + 1) _ * Scalar.select (okx i x7 (k + 1) _) ((cx8 i x7 _ - Ideal.liftRound Int.floor (cx8 i x7 _)) * (scale8 x6 _ * Ideal.ofBits .f32 0x33800000#32)) (Ideal.ofBits .f32 0x00000000#32))
        * Scalar.select (oky i x7 j _) (Ideal.ofBits .f32 0x3F800000#32 - (cy8 i x7 _ - Ideal.liftRound Int.floor (cy8 i x7 _))) (Ideal.ofBits .f32 0x00000000#32)
    + (q8 (F := Ideal) R (j + 1) k _ * Scalar.select (okx i x7 k _) ((Ideal.ofBits .f32 0x3F800000#32 - (cx8 i x7 _ - Ideal.liftRound Int.floor (cx8 i x7 _))) * (scale8 x6 _ * Ideal.ofBits .f32 0x33800000#32)) (Ideal.ofBits .f32 0x00000000#32)
      + q8 (F := Ideal) R (j + 1) (k + 1) _ * Scalar.select (okx i x7 (k + 1) _) ((cx8 i x7 _ - Ideal.liftRound Int.floor (cx8 i x7 _)) * (scale8 x6 _ * Ideal.ofBits .f32 0x33800000#32)) (Ideal.ofBits .f32 0x00000000#32))
        * Scalar.select (oky i x7 (j + 1) _) (cy8 i x7 _ - Ideal.liftRound Int.floor (cy8 i x7 _)) (Ideal.ofBits .f32 0x00000000#32) = _
  rw [h0, h1, h2, h3, q8_at, q8_at, q8_at, q8_at, one, zero, ofBits_unit, scale8_at]
  simp only [select_bool]
  rfl
end Parts

theorem v8_cell (g : Fin 2) (lev : Fin 4) (l : Fin 128) (k j : Nat) (hk : k < 9) (hj : j < 9) (σ : ℝ)
    (hσ : x6of c M6 f6 (ix3 (0 : Fin 1) lev (gl g l)) = (σ : EReal)) :
    v8 i (x6of c M6 f6) (x7of c M7 f7) (tab1 c M2 M3 M4 M5 f2 f3 f4 f5 i M7 M9 f7 f9) k j (ix2 (wr8 g lev) l)
      = cell (centre (qnum i g l % 96) (x7of c M7 f7 (ix3 (0 : Fin 1) (0 : Fin 2) (gl g l))) lev)
          (centre (qnum i g l / 96) (x7of c M7 f7 (ix3 (0 : Fin 1) (1 : Fin 2) (gl g l))) lev)
          (Hl lev) (Wl lev) (fun y z => codeL c M2 M3 M4 M5 f2 f3 f4 f5 lev y z (gl g l)) σ k j := by
  have hxs := xs8_at i (x7of c M7 f7) g lev l
  have hys := ys8_at i (x7of c M7 f7) g lev l
  have hcx := cx8_at i (x7of c M7 f7) g lev l
  have hcy := cy8_at i (x7of c M7 f7) g lev l
  obtain ⟨nx, hnx, hkx, hpx⟩ := axis (Wl lev) (Wl_le lev) (cx8 i (x7of c M7 f7) (ix2 (wr8 g lev) l))
  obtain ⟨ny, hny, hky, hpy⟩ := axis (Hl lev) (by have := Hl_le lev; omega) (cy8 i (x7of c M7 f7) (ix2 (wr8 g lev) l))
  rw [hkx] at hxs
  rw [hky] at hys
  have hW := Wl_le lev
  have hH := Hl_le lev
  have mx (k : Nat) (hk : k < 10) : okx i (x7of c M7 f7) k (ix2 (wr8 g lev) l)
      = BitVec.ofBool (decide (0 ≤ (refPos (cx8 i (x7of c M7 f7) (ix2 (wr8 g lev) l)) k).toInt ∧ (refPos (cx8 i (x7of c M7 f7) (ix2 (wr8 g lev) l)) k).toInt < Wl lev)) := by
    rw [okx_at, hxs, okW_eq _ _ _ hW (by omega) hk, decide_eq_decide.2 (hpx k hk).1.symm]
  have my (k : Nat) (hk : k < 10) : oky i (x7of c M7 f7) k (ix2 (wr8 g lev) l)
      = BitVec.ofBool (decide (0 ≤ (refPos (cy8 i (x7of c M7 f7) (ix2 (wr8 g lev) l)) k).toInt ∧ (refPos (cy8 i (x7of c M7 f7) (ix2 (wr8 g lev) l)) k).toInt < Hl lev)) := by
    rw [oky_at, hys, okW_eq _ _ _ (by omega) (by omega) hk, decide_eq_decide.2 (hpy k hk).1.symm]
  have byte (y z : Nat) (hy : y < 10) (hz : z < 10)
      (oy : decide (0 ≤ (refPos (cy8 i (x7of c M7 f7) (ix2 (wr8 g lev) l)) y).toInt ∧ (refPos (cy8 i (x7of c M7 f7) (ix2 (wr8 g lev) l)) y).toInt < Hl lev) = true)
      (ox : decide (0 ≤ (refPos (cx8 i (x7of c M7 f7) (ix2 (wr8 g lev) l)) z).toInt ∧ (refPos (cx8 i (x7of c M7 f7) (ix2 (wr8 g lev) l)) z).toInt < Wl lev) = true) :
      (qW (fun m t => tab1 c M2 M3 M4 M5 f2 f3 f4 f5 i M7 M9 f7 f9 m t (ix2 (wr8 g lev) l)) y z).toInt
        = (codeL c M2 M3 M4 M5 f2 f3 f4 f5 lev (refPos (cy8 i (x7of c M7 f7) (ix2 (wr8 g lev) l)) y).toNat
            (refPos (cx8 i (x7of c M7 f7) (ix2 (wr8 g lev) l)) z).toNat (gl g l)).toInt * 16777216 := by
    have iy := (hpy y hy).1.1 (of_decide_eq_true oy)
    have ix := (hpx z hz).1.1 (of_decide_eq_true ox)
    have e : qW (fun m t => tab1 c M2 M3 M4 M5 f2 f3 f4 f5 i M7 M9 f7 f9 m t (ix2 (wr8 g lev) l)) y z
        = qW (fun m t => rows (xs8 i (x7of c M7 f7)) (ys8 i (x7of c M7 f7)) (wleaf c M2 M3 M4 M5 f2 f3 f4 f5 i M7 M9 f7 f9) m t (ix2 (wr8 g lev) l)) y z := by
      unfold qW
      beta_reduce
      rw [rows_eq c M2 M3 M4 M5 f2 f3 f4 f5 i M7 M9 f7 f9 y (z / 4) hy (by omega)]
    rw [e, (hpy y hy).2 iy.1 iy.2, (hpx z hz).2 ix.1 ix.2, BitVec.toNat_ofNat, BitVec.toNat_ofNat,
      Nat.mod_eq_of_lt (by omega), Nat.mod_eq_of_lt (by omega)]
    exact q_byte _ _ _ _ nx ny y z (by omega) (by omega) hy hz hxs hys _ fun q hq =>
      wleaf_bit c M2 M3 M4 M5 f2 f3 f4 f5 i M7 M9 f7 f9 g lev l nx ny y z (by omega) (by omega) hy hz hxs hys iy.1 ix.1 iy.2 ix.2 q hq
  rw [v8_at i _ _ g lev l _ k j _ _ _ _ (mx k (by omega)) (mx (k + 1) (by omega)) (my j (by omega)) (my (j + 1) (by omega)), hσ, ← hcx, ← hcy]
  refine blend _ _ σ _ _ _ _ _ _ _ _ _ _ _ _ ?_ ?_ (byte j k (by omega) (by omega)) (byte j (k + 1) (by omega) (by omega))
    (byte (j + 1) k (by omega) (by omega)) (byte (j + 1) (k + 1) (by omega) (by omega))
  · by_cases h : ∃ r : ℝ, cx8 i (x7of c M7 f7) (ix2 (wr8 g lev) l) = r
    · exact Or.inl h
    · exact Or.inr ⟨decide_eq_false (refPos_inf _ _ _ (by omega) hW h), decide_eq_false (refPos_inf _ _ _ (by omega) hW h)⟩
  · by_cases h : ∃ r : ℝ, cy8 i (x7of c M7 f7) (ix2 (wr8 g lev) l) = r
    · exact Or.inl h
    · exact Or.inr ⟨decide_eq_false (refPos_inf _ _ _ (by omega) (by omega) h), decide_eq_false (refPos_inf _ _ _ (by omega) (by omega) h)⟩

end Cert.KernelIdeal.Hand

end
-- ==== Proof.Table.lean ====
module

public import proofs.«01_k».proof.Proof.Axis
public import Idealize.ShloMosaic.Lib.Pipeline.ValueKit
public import Idealize.ShloMosaic.Lib.ValueIdx
public import Idealize.ShloMosaic.Lib.ReduceAll

@[expose] public section

/-! The table of results, as the arguments give it. -/

noncomputable section

namespace Cert.Axis

open Idealize.ShloMosaic hiding ix1 ix2 ix3 ix4
open Idealize.ShloMosaic.ValueIdx

/-- A map's entry, or nothing. -/
def mapAt {H W : Nat} (x : IVec ⟨4, ![18, 4352, H + 1, W + 1]⟩ 8) (b : Fin 18) (s : Fin 4352) (y z : Nat) : BitVec 8 :=
  if h : y < H + 1 ∧ z < W + 1 then x (ix4 b s ⟨y, h.1⟩ ⟨z, h.2⟩) else 0#8

section
variable (x0 : IVec ⟨4, ![18, 4352, 46, 96]⟩ 8) (x1 : IVec ⟨4, ![18, 4352, 23, 48]⟩ 8) (x2 : IVec ⟨4, ![18, 4352, 11, 24]⟩ 8)
  (x3 : IVec ⟨4, ![18, 4352, 5, 12]⟩ 8) (x4 : FVec Ideal ⟨3, ![18, 4352, 4]⟩ .f32) (x5 : FVec Ideal ⟨3, ![18, 4352, 2]⟩ .f32)

/-- A level's map of a query. -/
def mapL (lev : Fin 4) (b : Fin 18) (s : Fin 4352) : Nat → Nat → BitVec 8 :=
  match lev with
  | ⟨0, _⟩ => mapAt (H := 45) (W := 95) x0 b s
  | ⟨1, _⟩ => mapAt (H := 22) (W := 47) x1 b s
  | ⟨2, _⟩ => mapAt (H := 10) (W := 23) x2 b s
  | ⟨3, _⟩ => mapAt (H := 4) (W := 11) x3 b s

/-- One number of the table: query `s` of image `b`, level `lev`, column `k` and row `j` of the window. -/
def tableAt (b : Fin 18) (s : Fin 4352) (lev : Fin 4) (k j : Fin 9) : EReal :=
  cell (centre (s.val % 96) (x5 (ix3 b s (0 : Fin 2))) lev) (centre (s.val / 96) (x5 (ix3 b s (1 : Fin 2))) lev)
    ((![46, 23, 11, 5] : Fin 4 → Nat) lev) ((![96, 48, 24, 12] : Fin 4 → Nat) lev) (mapL x0 x1 x2 x3 lev b s) (x4 (ix3 b s lev)) k.val j.val

/-- The level, column and row of a channel. -/
abbrev chLev (ch : Fin 324) : Fin 4 := ⟨ch.val / 81, by omega⟩
abbrev chK (ch : Fin 324) : Fin 9 := ⟨ch.val % 81 / 9, by omega⟩
abbrev chJ (ch : Fin 324) : Fin 9 := ⟨ch.val % 9, by omega⟩

/-- The table, channels last. -/
def table (q : (⟨3, ![18, 4352, 324]⟩ : Shape).Idx) : EReal :=
  tableAt x0 x1 x2 x3 x4 x5 (q 0) (q 1) (chLev (q 2)) (chK (q 2)) (chJ (q 2))
end

end Cert.Axis

end
-- ==== Proof.Blocks.lean ====
module

public import proofs.«01_k».proof.Proof.FrameI
public import proofs.«01_k».proof.Proof.Table
public import Idealize.ShloMosaic.Lib.Pipeline.Covers

@[expose] public section

/-! The blocks the windows move: which entries of the arrays a grid point sees, and where its result goes. -/

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx

variable {F : FTy → Type} [FloatOps F]
variable (m : (ℓ : Loc nD τ sig) → Buf (Elt F) ℓ)

theorem lt0 (i : grid0.Coords) : (i 0).val < 18 := (i 0).isLt
theorem lt1 (i : grid0.Coords) : (i 1).val < 17 := (i 1).isLt

/-- The image of a grid point. -/
def bI (t : Fin cfg0.N) : Fin 18 := ⟨(grid0.coords t 0).val, lt0 _⟩
/-- The query of a lane at a grid point. -/
def sI (t : Fin cfg0.N) (a : Fin 256) : Fin 4352 :=
  ⟨(grid0.coords t 1).val * 256 + a.val, by have := lt1 (grid0.coords t); omega⟩

theorem nat0 (t : Fin cfg0.N) : (BitVec.ofNat 32 (grid0.coords t 0).val).toNat = (bI t).val := by
  have := lt0 (grid0.coords t)
  rw [BitVec.toNat_ofNat, Nat.mod_eq_of_lt (by omega)]
  rfl
theorem nat1 (t : Fin cfg0.N) (a : Fin 256) : (BitVec.ofNat 32 (grid0.coords t 1).val).toNat * 256 + 1 * a.val = (sI t a).val := by
  have := lt1 (grid0.coords t)
  rw [BitVec.toNat_ofNat, Nat.mod_eq_of_lt (by omega), Nat.one_mul]
  rfl
theorem sum0 (n : Nat) : n * 1 + 1 * 0 = n := by omega
theorem sumz (n k : Nat) : 0 * k + 1 * n = n := by omega

theorem emb0 (t : Fin cfg0.N) (y : Fin 46) (x : Fin 96) (a : Fin 256) :
    ((cfg0.win 0).blk t).view.emb (ix4 (0 : Fin 1) y x a) = ix4 (bI t) y x (sI t a) :=
  funext fun d => Fin.ext (match d with
    | ⟨0, _⟩ => (sum0 _).trans (nat0 t) | ⟨1, _⟩ => sumz _ _ | ⟨2, _⟩ => sumz _ _ | ⟨3, _⟩ => nat1 t a)

theorem emb1 (t : Fin cfg0.N) (y : Fin 23) (x : Fin 48) (a : Fin 256) :
    ((cfg0.win 1).blk t).view.emb (ix4 (0 : Fin 1) y x a) = ix4 (bI t) y x (sI t a) :=
  funext fun d => Fin.ext (match d with
    | ⟨0, _⟩ => (sum0 _).trans (nat0 t) | ⟨1, _⟩ => sumz _ _ | ⟨2, _⟩ => sumz _ _ | ⟨3, _⟩ => nat1 t a)

theorem emb2 (t : Fin cfg0.N) (y : Fin 11) (x : Fin 24) (a : Fin 256) :
    ((cfg0.win 2).blk t).view.emb (ix4 (0 : Fin 1) y x a) = ix4 (bI t) y x (sI t a) :=
  funext fun d => Fin.ext (match d with
    | ⟨0, _⟩ => (sum0 _).trans (nat0 t) | ⟨1, _⟩ => sumz _ _ | ⟨2, _⟩ => sumz _ _ | ⟨3, _⟩ => nat1 t a)

theorem emb3 (t : Fin cfg0.N) (y : Fin 5) (x : Fin 12) (a : Fin 256) :
    ((cfg0.win 3).blk t).view.emb (ix4 (0 : Fin 1) y x a) = ix4 (bI t) y x (sI t a) :=
  funext fun d => Fin.ext (match d with
    | ⟨0, _⟩ => (sum0 _).trans (nat0 t) | ⟨1, _⟩ => sumz _ _ | ⟨2, _⟩ => sumz _ _ | ⟨3, _⟩ => nat1 t a)

theorem emb4 (t : Fin cfg0.N) (l : Fin 4) (a : Fin 256) :
    ((cfg0.win 4).blk t).view.emb (ix3 (0 : Fin 1) l a) = ix3 (bI t) l (sI t a) :=
  funext fun d => Fin.ext (match d with
    | ⟨0, _⟩ => (sum0 _).trans (nat0 t) | ⟨1, _⟩ => sumz _ _ | ⟨2, _⟩ => nat1 t a)

theorem emb5 (t : Fin cfg0.N) (l : Fin 2) (a : Fin 256) :
    ((cfg0.win 5).blk t).view.emb (ix3 (0 : Fin 1) l a) = ix3 (bI t) l (sI t a) :=
  funext fun d => Fin.ext (match d with
    | ⟨0, _⟩ => (sum0 _).trans (nat0 t) | ⟨1, _⟩ => sumz _ _ | ⟨2, _⟩ => nat1 t a)

theorem emb6 (t : Fin cfg0.N) (l : Fin 324) (a : Fin 256) :
    ((cfg0.win 6).blk t).view.emb (ix3 (0 : Fin 1) l a) = ix3 (bI t) l (sI t a) :=
  funext fun d => Fin.ext (match d with
    | ⟨0, _⟩ => (sum0 _).trans (nat0 t) | ⟨1, _⟩ => sumz _ _ | ⟨2, _⟩ => nat1 t a)

theorem V_v0 (c : Dev nD) : V m c main_v0 = transpose S18x46x96x4352 [0, 2, 3, 1] (m ((c : Thread nD τ).loc main_arg0))
    transposes_S18x4352x46x96_S18x46x96x4352_0_2_3_1 := by
  show StableHlo.after hostOps0 _ (Proc.devRef .tc main_v0) = _
  after_results

theorem iblk0_at (c : Dev nD) (t : Fin cfg0.N) (y : Fin 46) (x : Fin 96) (a : Fin 256) :
    iblk m c 0 t (ix4 (0 : Fin 1) y x a) = m ((c : Thread nD τ).loc main_arg0) (ix4 (bI t) (sI t a) y x) := by
  show V m c main_v0 (((cfg0.win 0).blk t).view.emb (ix4 (0 : Fin 1) y x a)) = _
  rw [emb0, V_v0]
  exact transpose_apply _ _ _ _ (ix4 (bI t) (sI t a) y x) (fun b => by fin_cases b <;> rfl)

theorem V_v1 (c : Dev nD) : V m c main_v1 = transpose S18x23x48x4352 [0, 2, 3, 1] (m ((c : Thread nD τ).loc main_arg1))
    transposes_S18x4352x23x48_S18x23x48x4352_0_2_3_1 := by
  show StableHlo.after hostOps0 _ (Proc.devRef .tc main_v1) = _
  after_results

theorem iblk1_at (c : Dev nD) (t : Fin cfg0.N) (y : Fin 23) (x : Fin 48) (a : Fin 256) :
    iblk m c 1 t (ix4 (0 : Fin 1) y x a) = m ((c : Thread nD τ).loc main_arg1) (ix4 (bI t) (sI t a) y x) := by
  show V m c main_v1 (((cfg0.win 1).blk t).view.emb (ix4 (0 : Fin 1) y x a)) = _
  rw [emb1, V_v1]
  exact transpose_apply _ _ _ _ (ix4 (bI t) (sI t a) y x) (fun b => by fin_cases b <;> rfl)

theorem V_v2 (c : Dev nD) : V m c main_v2 = transpose S18x11x24x4352 [0, 2, 3, 1] (m ((c : Thread nD τ).loc main_arg2))
    transposes_S18x4352x11x24_S18x11x24x4352_0_2_3_1 := by
  show StableHlo.after hostOps0 _ (Proc.devRef .tc main_v2) = _
  after_results

theorem iblk2_at (c : Dev nD) (t : Fin cfg0.N) (y : Fin 11) (x : Fin 24) (a : Fin 256) :
    iblk m c 2 t (ix4 (0 : Fin 1) y x a) = m ((c : Thread nD τ).loc main_arg2) (ix4 (bI t) (sI t a) y x) := by
  show V m c main_v2 (((cfg0.win 2).blk t).view.emb (ix4 (0 : Fin 1) y x a)) = _
  rw [emb2, V_v2]
  exact transpose_apply _ _ _ _ (ix4 (bI t) (sI t a) y x) (fun b => by fin_cases b <;> rfl)

theorem V_v3 (c : Dev nD) : V m c main_v3 = transpose S18x5x12x4352 [0, 2, 3, 1] (m ((c : Thread nD τ).loc main_arg3))
    transposes_S18x4352x5x12_S18x5x12x4352_0_2_3_1 := by
  show StableHlo.after hostOps0 _ (Proc.devRef .tc main_v3) = _
  after_results

theorem iblk3_at (c : Dev nD) (t : Fin cfg0.N) (y : Fin 5) (x : Fin 12) (a : Fin 256) :
    iblk m c 3 t (ix4 (0 : Fin 1) y x a) = m ((c : Thread nD τ).loc main_arg3) (ix4 (bI t) (sI t a) y x) := by
  show V m c main_v3 (((cfg0.win 3).blk t).view.emb (ix4 (0 : Fin 1) y x a)) = _
  rw [emb3, V_v3]
  exact transpose_apply _ _ _ _ (ix4 (bI t) (sI t a) y x) (fun b => by fin_cases b <;> rfl)

theorem V_v4 (c : Dev nD) : V m c main_v4 = transpose S18x4x4352 [0, 2, 1] (m ((c : Thread nD τ).loc main_arg4))
    transposes_S18x4352x4_S18x4x4352_0_2_1 := by
  show StableHlo.after hostOps0 _ (Proc.devRef .tc main_v4) = _
  after_results

theorem iblk4_at (c : Dev nD) (t : Fin cfg0.N) (l : Fin 4) (a : Fin 256) :
    iblk m c 4 t (ix3 (0 : Fin 1) l a) = m ((c : Thread nD τ).loc main_arg4) (ix3 (bI t) (sI t a) l) := by
  show V m c main_v4 (((cfg0.win 4).blk t).view.emb (ix3 (0 : Fin 1) l a)) = _
  rw [emb4, V_v4]
  exact transpose_apply _ _ _ _ (ix3 (bI t) (sI t a) l) (fun b => by fin_cases b <;> rfl)

theorem V_v5 (c : Dev nD) : V m c main_v5 = transpose S18x2x4352 [0, 2, 1] (m ((c : Thread nD τ).loc main_arg5))
    transposes_S18x4352x2_S18x2x4352_0_2_1 := by
  show StableHlo.after hostOps0 _ (Proc.devRef .tc main_v5) = _
  after_results

theorem iblk5_at (c : Dev nD) (t : Fin cfg0.N) (l : Fin 2) (a : Fin 256) :
    iblk m c 5 t (ix3 (0 : Fin 1) l a) = m ((c : Thread nD τ).loc main_arg5) (ix3 (bI t) (sI t a) l) := by
  show V m c main_v5 (((cfg0.win 5).blk t).view.emb (ix3 (0 : Fin 1) l a)) = _
  rw [emb5, V_v5]
  exact transpose_apply _ _ _ _ (ix3 (bI t) (sI t a) l) (fun b => by fin_cases b <;> rfl)

/-- The blocks of the result cover it. -/
theorem covered6 (q : S18x324x4352.Idx) :
    ∃ t : Fin cfg0.N, (cfg0.win 6).flush t = true ∧ q ∈ ((cfg0.win 6).blk t).view.set := by
  obtain ⟨t, ht⟩ := grid0.coords_surjective (fun a => match a with
    | ⟨0, _⟩ => ⟨(q 0).val, (q 0).isLt⟩
    | ⟨1, _⟩ => ⟨(q 2).val / 256, by have : (q 2).val < 4352 := (q 2).isLt; show _ < 17; omega⟩)
  refine ⟨t, flush0_6 t, ?_⟩
  have h (l : Fin 324) (a : Fin 256) : ix3 (bI t) l (sI t a) ∈ ((cfg0.win 6).blk t).view.set := by
    rw [← emb6]
    exact ((cfg0.win 6).blk t).view.emb_mem_set _
  have e : ix3 (bI t) (q 1) (sI t ⟨(q 2).val % 256, Nat.mod_lt _ (by decide)⟩) = q := by
    funext d
    apply Fin.ext
    match d with
    | ⟨0, _⟩ => show (grid0.coords t 0).val = (q 0).val; rw [ht]
    | ⟨1, _⟩ => rfl
    | ⟨2, _⟩ =>
      show (grid0.coords t 1).val * 256 + (q 2).val % 256 = (q 2).val
      rw [ht]
      show (q 2).val / 256 * 256 + (q 2).val % 256 = (q 2).val
      omega
  exact e ▸ h (q 1) _

end Cert.KernelIdeal.Hand

end
-- ==== Proof.Exact.lean ====
module

public import proofs.«01_k».proof.Proof.FrameI
public import Idealize.ShloMosaic.Lib.Pipeline.FrameSuffix

@[expose] public section

/-! The run with the result's array known: every grid point leaves the block `G` of it. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)
variable (G : (c : Dev nD) → Fin cfg0.N → S1x324x256.Idx → Elt F .bf16)

/-- What the body is handed at point `t`, the result's window at what the data say of it. -/
def bodyPreX (c : Dev nD) (t : Fin cfg0.N) : sProp (MT nD τ sig Unit (Elt F) ℕ (UR sig nD τ) ℕ) :=
  iprop(Pipeline.ΦA spec0 c ∗ (dats m G 0 c).owesAt () t.castSucc
    ∗ (∃ d, owns (c : Thread nD τ) ((cfg0.win 0).stage (cfg0.slots t 0)) fullShare ((dats m G 0 c).before 0 t d))
    ∗ (∃ d, owns (c : Thread nD τ) ((cfg0.win 1).stage (cfg0.slots t 1)) fullShare ((dats m G 0 c).before 1 t d))
    ∗ (∃ d, owns (c : Thread nD τ) ((cfg0.win 2).stage (cfg0.slots t 2)) fullShare ((dats m G 0 c).before 2 t d))
    ∗ (∃ d, owns (c : Thread nD τ) ((cfg0.win 3).stage (cfg0.slots t 3)) fullShare ((dats m G 0 c).before 3 t d))
    ∗ (∃ d, owns (c : Thread nD τ) ((cfg0.win 4).stage (cfg0.slots t 4)) fullShare ((dats m G 0 c).before 4 t d))
    ∗ (∃ d, owns (c : Thread nD τ) ((cfg0.win 5).stage (cfg0.slots t 5)) fullShare ((dats m G 0 c).before 5 t d))
    ∗ (∃ d, owns (c : Thread nD τ) ((cfg0.win 6).stage (cfg0.slots t 6)) fullShare ((dats m G 0 c).before 6 t d)))

theorem bodyPre_of (c : Dev nD) (t : Fin cfg0.N) : bodyPreX m G c t ⊢ bodyPre m G c t := by
  unfold bodyPreX bodyPre
  iintro ⟨HΦ, Ho, H2, H3, H4, H5, H6, H7, ⟨%d, H8⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  iexists _; iexact H8

/-- What the body leaves with the result's block at `G`. -/
def bodyPostX (c : Dev nD) (t : Fin cfg0.N) : sProp (MT nD τ sig Unit (Elt F) ℕ (UR sig nD τ) ℕ) :=
  iprop(Pipeline.ΦA spec0 c ∗ (dats m G 0 c).owesAt () t.castSucc
    ∗ owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ owns (c : Thread nD τ) ((cfg0.win 6).stage (cfg0.slots t 6)) fullShare (G c t))

theorem bodyPost_exact (c : Dev nD) (t : Fin cfg0.N) : bodyPost m G (· = G c t) c t ⊢ bodyPostX m G c t := by
  unfold bodyPost bodyPostX
  iintro ⟨HΦ, Ho, H2, H3, H4, H5, H6, H7, ⟨%X, %hX, H8⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  subst hX
  iexact H8

/-- What a point must leave for the result to be `G`: from its blocks, its block of `G`. -/
def Leaves (c : Dev nD) (t : Fin cfg0.N) : Prop := ∀ f2 f3 f4 f5 f6 f7 f9,
      ((cfg0.win 0).stage (cfg0.slots t 0)).view.read (Elt F) f2 = iblk m c 0 t →
      ((cfg0.win 1).stage (cfg0.slots t 1)).view.read (Elt F) f3 = iblk m c 1 t →
      ((cfg0.win 2).stage (cfg0.slots t 2)).view.read (Elt F) f4 = iblk m c 2 t →
      ((cfg0.win 3).stage (cfg0.slots t 3)).view.read (Elt F) f5 = iblk m c 3 t →
      ((cfg0.win 4).stage (cfg0.slots t 4)).view.read (Elt F) f6 = iblk m c 4 t →
      ((cfg0.win 5).stage (cfg0.slots t 5)).view.read (Elt F) f7 = iblk m c 5 t →
      ((cfg0.win 6).stage (cfg0.slots t 6)).view.read (Elt F) (outAt c t f2 f3 f4 f5 f6 f7 f9) = G c t

/-- The body obligation with the result's contents kept. -/
theorem body_exact (c : Dev nD) (hG : ∀ t, Leaves m G c t) :
    BodyObligationLoose (dats m G 0 c) (defs₀ (F := F)) Variants.none () Set.univ := fun t => by
  rw [bigSep_W, bigSep_W]
  exact (show _ ⊢ bodyPreX m G c t from .rfl).trans ((bodyPre_of m G c t).trans ((sound_body m G (· = G c t) c t (hG t)).trans
    (wp_mono _ _ _ fun _ => (bodyPost_exact m G c t).trans (show bodyPostX m G c t ⊢ _ from .rfl))))

/-- The run: every array of the region as the data leave it, the rest after the host line that follows. -/
theorem run_exact (hG : ∀ c t, Leaves m G c t) :
    θ_run defs (onTc (τ := τ) (main (F := F))) ⟨m, fun _ => 0, ρ⟩
      (Pipeline.FramePost cfgs (dats m G) 0 (Pipeline.afterTail₀ cfgs (dats m G) 0 (V0 m) [hostOps1])) :=
  Pipeline.θ_run_frame_around cfgs (dats m G) 0 launch0 defs₀ Variants.none m ρ main
    (hbody := fun c => body_exact m G c (hG c)) (hshare := fun c => (dats m G 0 c).share_full fun _ => rfl) (howed := fun _ _ => rfl)
    (V₀ := V0 m) (opss := [hostOps1]) (hsub := sfx_sub) (hfresh := sfx_fresh) (hkeep := sfx_keeps)
    (hmain := hmain m Variants.none) (hA := A_eq m G) (hΦ := fun _ _ => rfl)

end Cert.KernelIdeal.Hand

end
-- ==== Proof.Value.lean ====
module

public import proofs.«01_k».proof.Proof.Cell
public import proofs.«01_k».proof.Proof.Blocks
public import proofs.«01_k».proof.Proof.Exact

@[expose] public section

/-! The kernel's result over extended reals: the table of its arguments. -/

noncomputable section

namespace Cert.KernelIdeal.Hand

open Cert.KernelIdeal Cert.KernelIdeal.Gen
open Idealize.ShloMosaic hiding ix1 ix2 ix3 ix4
open Idealize.ShloMosaic.TcCoe
open Idealize.SL Idealize.SL.Sem
open Idealize.ShloMosaic.ValueIdx
open Cert.Axis

section Point
variable (c : Dev nD) (M2 : Memref sig .tc .vmem S1x46x96x256 .i8) (M3 : Memref sig .tc .vmem S1x23x48x256 .i8)
  (M4 : Memref sig .tc .vmem S1x11x24x256 .i8) (M5 : Memref sig .tc .vmem S1x5x12x256 .i8)
  (f2 : Bf (F := Ideal) c M2) (f3 : Bf (F := Ideal) c M3) (f4 : Bf (F := Ideal) c M4) (f5 : Bf (F := Ideal) c M5)
  (i : grid0.Coords) (M6 : Memref sig .tc .vmem S1x4x256 .f32) (M7 : Memref sig .tc .vmem S1x2x256 .f32)
  (M9 : Memref sig .tc .vmem S728x128 .i32) (M10 : Memref sig .tc .vmem S648x128 .f32)
  (f6 : Bf (F := Ideal) c M6) (f7 : Bf (F := Ideal) c M7) (f9 : Bf (F := Ideal) c M9)

theorem x6of_at (lev : Fin 4) (a : Fin 256) : x6of c M6 f6 (ix3 (0 : Fin 1) lev a) = M6.view.read (Elt Ideal) f6 (ix3 (0 : Fin 1) lev a) :=
  congrArg (M6.view.read (Elt Ideal) f6) (funext fun d => Fin.ext (match d with
    | ⟨0, _⟩ => rfl | ⟨1, _⟩ => (show 0 + 1 * lev.val = lev.val by omega) | ⟨2, _⟩ => (show 0 + 1 * a.val = a.val by omega)))

theorem x7of_at (l : Fin 2) (a : Fin 256) : x7of c M7 f7 (ix3 (0 : Fin 1) l a) = M7.view.read (Elt Ideal) f7 (ix3 (0 : Fin 1) l a) :=
  congrArg (M7.view.read (Elt Ideal) f7) (funext fun d => Fin.ext (match d with
    | ⟨0, _⟩ => rfl | ⟨1, _⟩ => (show 0 + 1 * l.val = l.val by omega) | ⟨2, _⟩ => (show 0 + 1 * a.val = a.val by omega)))

/-- What the run leaves in the result's buffer, read cell by cell. -/
theorem run_read (h2 : M2.IsWhole) (h3 : M3.IsWhole) (h4 : M4.IsWhole) (h5 : M5.IsWhole) (h6 : M6.IsWhole) (h7 : M7.IsWhole)
    (M8 : Memref sig .tc .vmem S1x324x256 .bf16) (h8 : M8.IsWhole) (h9 : M9.IsWhole) (h10 : M10.IsWhole) (q : S1x324x256.Idx) :
    M8.view.read (Elt Ideal) (kernelRun c i M2 h2 M3 h3 M4 h4 M5 h5 M6 h6 M7 h7 M8 h8 M9 h9 M10 h10 f2 f3 f4 f5 f6 f7 f9).1 q
      = View.canon (Val := Elt Ideal) (kernelRun.sl.H8_42 c i M2 M3 M4 M5 M6 M7 M9 M10 f2 f3 f4 f5 f6 f7 f9) q :=
  View.read_writes_junk_apply_eq_canon M8.view q _

variable (x0 : IVec ⟨4, ![18, 4352, 46, 96]⟩ 8) (x1 : IVec ⟨4, ![18, 4352, 23, 48]⟩ 8) (x2 : IVec ⟨4, ![18, 4352, 11, 24]⟩ 8)
  (x3 : IVec ⟨4, ![18, 4352, 5, 12]⟩ 8) (x4 : FVec Ideal ⟨3, ![18, 4352, 4]⟩ .f32) (x5 : FVec Ideal ⟨3, ![18, 4352, 2]⟩ .f32)
  (b : Fin 18) (s : Fin 4352) (g : Fin 2) (l : Fin 128)

/-- The bytes of a lane are the maps of its query. -/
theorem codeL_eq (h2 : ∀ y x, M2.view.read (Elt Ideal) f2 (ix4 (0 : Fin 1) y x (gl g l)) = x0 (ix4 b s y x))
    (h3 : ∀ y x, M3.view.read (Elt Ideal) f3 (ix4 (0 : Fin 1) y x (gl g l)) = x1 (ix4 b s y x))
    (h4 : ∀ y x, M4.view.read (Elt Ideal) f4 (ix4 (0 : Fin 1) y x (gl g l)) = x2 (ix4 b s y x))
    (h5 : ∀ y x, M5.view.read (Elt Ideal) f5 (ix4 (0 : Fin 1) y x (gl g l)) = x3 (ix4 b s y x)) (lev : Fin 4) :
    (fun y z => codeL c M2 M3 M4 M5 f2 f3 f4 f5 lev y z (gl g l)) = mapL x0 x1 x2 x3 lev b s := by
  funext y z
  match lev with
  | ⟨0, _⟩ => show codeAt c M2 f2 y z (gl g l) = mapAt (H := 45) (W := 95) x0 b s y z; unfold codeAt mapAt; split; exact h2 _ _; rfl
  | ⟨1, _⟩ => show codeAt c M3 f3 y z (gl g l) = mapAt (H := 22) (W := 47) x1 b s y z; unfold codeAt mapAt; split; exact h3 _ _; rfl
  | ⟨2, _⟩ => show codeAt c M4 f4 y z (gl g l) = mapAt (H := 10) (W := 23) x2 b s y z; unfold codeAt mapAt; split; exact h4 _ _; rfl
  | ⟨3, _⟩ => show codeAt c M5 f5 y z (gl g l) = mapAt (H := 4) (W := 11) x3 b s y z; unfold codeAt mapAt; split; exact h5 _ _; rfl

/-- A cell of the block a point leaves is the table's number for its query. -/
theorem out_at (h2 : ∀ y x, M2.view.read (Elt Ideal) f2 (ix4 (0 : Fin 1) y x (gl g l)) = x0 (ix4 b s y x))
    (h3 : ∀ y x, M3.view.read (Elt Ideal) f3 (ix4 (0 : Fin 1) y x (gl g l)) = x1 (ix4 b s y x))
    (h4 : ∀ y x, M4.view.read (Elt Ideal) f4 (ix4 (0 : Fin 1) y x (gl g l)) = x2 (ix4 b s y x))
    (h5 : ∀ y x, M5.view.read (Elt Ideal) f5 (ix4 (0 : Fin 1) y x (gl g l)) = x3 (ix4 b s y x))
    (h6 : ∀ lev, M6.view.read (Elt Ideal) f6 (ix3 (0 : Fin 1) lev (gl g l)) = x4 (ix3 b s lev))
    (h7 : ∀ o, M7.view.read (Elt Ideal) f7 (ix3 (0 : Fin 1) o (gl g l)) = x5 (ix3 b s o))
    (hs : qnum i g l = s.val) (lev : Fin 4) (hx : ∃ σ : ℝ, x4 (ix3 b s lev) = (σ : EReal)) (k j : Fin 9) :
    View.canon (Val := Elt Ideal) (kernelRun.sl.H8_42 c i M2 M3 M4 M5 M6 M7 M9 M10 f2 f3 f4 f5 f6 f7 f9)
        (ix3 (0 : Fin 1) (chOf lev k j) (gl g l))
      = tableAt x0 x1 x2 x3 x4 x5 b s lev k j := by
  obtain ⟨σ, hσ⟩ := hx
  rw [H8_canon]
  refine (v8_cell c M2 M3 M4 M5 f2 f3 f4 f5 i M6 M7 M9 f6 f7 f9 g lev l k.val j.val k.isLt j.isLt σ
    ((x6of_at c M6 f6 lev _).trans ((h6 lev).trans hσ))).trans ?_
  rw [codeL_eq c M2 M3 M4 M5 f2 f3 f4 f5 x0 x1 x2 x3 b s g l h2 h3 h4 h5, x7of_at, x7of_at, h7, h7, hs, ← hσ]
  rfl
end Point

variable (m : (ℓ : Loc nD τ sig) → Buf (Elt Ideal) ℓ) (ρ : Dev nD → PrngReg)

/-- The scales are real numbers. -/
def RealScales (c : Dev nD) : Prop :=
  ∀ (b : Fin 18) (s : Fin 4352) (lev : Fin 4), ∃ σ : ℝ, m ((c : Thread nD τ).loc main_arg4) (ix3 b s lev) = (σ : EReal)

/-- The table of the launch's arguments. -/
def tab (c : Dev nD) : S18x4352x324.Idx → EReal :=
  table (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The same with the channels before the queries, as the region leaves it. -/
def tabT (c : Dev nD) : S18x324x4352.Idx → EReal := fun q => tab m c (ix3 (q 0) (q 2) (q 1))

/-- A point's block of it. -/
def Gt (c : Dev nD) (t : Fin cfg0.N) : S1x324x256.Idx → Elt Ideal .bf16 := fun j => tabT m c (((cfg0.win 6).blk t).view.emb j)

theorem Gt_at (c : Dev nD) (t : Fin cfg0.N) (lev : Fin 4) (k j : Fin 9) (a : Fin 256) :
    Gt m c t (ix3 (0 : Fin 1) (chOf lev k j) a)
      = tableAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (bI t) (sI t a) lev k j := by
  unfold Gt
  rw [emb6]
  show tableAt _ _ _ _ _ _ (bI t) (sI t a) (chLev (chOf lev k j)) (chK (chOf lev k j)) (chJ (chOf lev k j)) = _
  rw [show chLev (chOf lev k j) = lev from Fin.ext (by show (lev.val * 81 + (k.val * 9 + j.val)) / 81 = lev.val; omega),
    show chK (chOf lev k j) = k from Fin.ext (by show (lev.val * 81 + (k.val * 9 + j.val)) % 81 / 9 = k.val; omega),
    show chJ (chOf lev k j) = j from Fin.ext (by show (lev.val * 81 + (k.val * 9 + j.val)) % 9 = j.val; omega)]

/-- Every index of a block is a level, a cell of its window and a lane of a group. -/
theorem idx_cases (q : S1x324x256.Idx) : ∃ (lev : Fin 4) (k j : Fin 9) (g : Fin 2) (l : Fin 128), q = ix3 (0 : Fin 1) (chOf lev k j) (gl g l) := by
  have h1 : (q 1).val < 324 := (q 1).isLt
  have h2 : (q 2).val < 256 := (q 2).isLt
  refine ⟨⟨(q 1).val / 81, by omega⟩, ⟨(q 1).val % 81 / 9, by omega⟩, ⟨(q 1).val % 9, by omega⟩, ⟨(q 2).val / 128, by omega⟩,
    ⟨(q 2).val % 128, by omega⟩, ?_⟩
  funext d
  apply Fin.ext
  match d with
  | ⟨0, _⟩ => have h0 : (q 0).val < 1 := (q 0).isLt; show (q 0).val = 0; omega
  | ⟨1, _⟩ => show (q 1).val = (q 1).val / 81 * 81 + ((q 1).val % 81 / 9 * 9 + (q 1).val % 9); omega
  | ⟨2, _⟩ => show (q 2).val = (q 2).val / 128 * 128 + (q 2).val % 128; omega

set_option maxHeartbeats 4000000 in
/-- A point leaves its block of the table. -/
theorem leaves (c : Dev nD) (hx : RealScales m c) (t : Fin cfg0.N) : Leaves m (Gt m) c t := by
  intro f2 f3 f4 f5 f6 f7 f9 h2 h3 h4 h5 h6 h7
  funext q
  obtain ⟨lev, k, j, g, l, rfl⟩ := idx_cases q
  rw [Gt_at]
  refine (run_read c (win0_0.stage (cfg0.slots t 0)) (win0_1.stage (cfg0.slots t 1)) (win0_2.stage (cfg0.slots t 2)) (win0_3.stage (cfg0.slots t 3)) f2 f3 f4 f5
    (grid0.coords t) (win0_4.stage (cfg0.slots t 4)) (win0_5.stage (cfg0.slots t 5)) (Memref.whole cc0_scratch0) (Memref.whole cc0_scratch1) f6 f7 f9
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (win0_6.stage (cfg0.slots t 6)) (hstage0_6 ((cfg0.slots t 6).cast nbuf0_6)) (Memref.isWhole_whole _) (Memref.isWhole_whole _) _).trans ?_
  exact out_at c (win0_0.stage (cfg0.slots t 0)) (win0_1.stage (cfg0.slots t 1)) (win0_2.stage (cfg0.slots t 2)) (win0_3.stage (cfg0.slots t 3)) f2 f3 f4 f5
    (grid0.coords t) (win0_4.stage (cfg0.slots t 4)) (win0_5.stage (cfg0.slots t 5)) (Memref.whole cc0_scratch0) (Memref.whole cc0_scratch1) f6 f7 f9
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (bI t) (sI t (gl g l)) g l
    (fun y x => (congrFun h2 _).trans (iblk0_at m c t y x _)) (fun y x => (congrFun h3 _).trans (iblk1_at m c t y x _))
    (fun y x => (congrFun h4 _).trans (iblk2_at m c t y x _)) (fun y x => (congrFun h5 _).trans (iblk3_at m c t y x _))
    (fun o => (congrFun h6 _).trans (iblk4_at m c t o _)) (fun o => (congrFun h7 _).trans (iblk5_at m c t o _)) rfl lev (hx _ _ _) k j

/-- The region's result is the table, channels before queries. -/
theorem final6 (c : Dev nD) : (dats m (Gt m) 0 c).arrAt 6 cfg0.N = tabT m c :=
  (dats m (Gt m) 0 c).arrAt_eq_of_cover 6 (tabT m c) (fun _ _ => rfl) covered6

/-- The host line after the region turns it channels last. -/
theorem W_v7 (c : Dev nD) : Pipeline.afterTail₀ cfgs (dats m (Gt m)) 0 (V0 m) [hostOps1] c main_v7 = tab m c := by
  have e : Pipeline.withArrays spec0 c (V0 m c) (fun w => (dats m (Gt m) 0 c).arrAt w cfg0.N) (Proc.devRef .tc main_v6) = tabT m c :=
    (Pipeline.withArrays_arr spec0 launch0.win.arr_inj c (V0 m c) (fun w => (dats m (Gt m) 0 c).arrAt w cfg0.N) 6).trans (final6 m c)
  unfold Pipeline.afterTail₀
  show StableHlo.after hostOps1 _ (Proc.devRef .tc main_v7) = _
  after_results
  funext q
  refine (transpose_apply _ _ _ q (ix3 (q 0) (q 2) (q 1)) (fun b => by fin_cases b <;> rfl)).trans ?_
  refine (congrFun e _).trans ?_
  exact congrArg (tab m c) (funext fun d => match d with | ⟨0, _⟩ => rfl | ⟨1, _⟩ => rfl | ⟨2, _⟩ => rfl)

/-- The run of the kernel: the result is the table of the arguments, which stay as they were. -/
theorem run (hx : ∀ c, RealScales m c) : θ_run defs (onTc (τ := τ) (main (F := Ideal))) ⟨m, fun _ => 0, ρ⟩ (fun r => ∀ c : Dev nD,
      r.2.mem ((c.tc : Thread nD τ).loc main_v7) = tab m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have k (b : Ref sig .tc) (hs : b.isScoped = false) (hw : ∀ w, (spec0 w).arr.view.ref ≠ b) := (h c).2 b (Pipeline.mem_restRefs_of b hs hw)
    ⟨(k main_v7 (by decide) (by decide)).trans (W_v7 m c),
      (k main_arg0 (by decide) (by decide)).trans (W_main_arg0 m (dats m (Gt m)) c),
      (k main_arg1 (by decide) (by decide)).trans (W_main_arg1 m (dats m (Gt m)) c),
      (k main_arg2 (by decide) (by decide)).trans (W_main_arg2 m (dats m (Gt m)) c),
      (k main_arg3 (by decide) (by decide)).trans (W_main_arg3 m (dats m (Gt m)) c),
      (k main_arg4 (by decide) (by decide)).trans (W_main_arg4 m (dats m (Gt m)) c),
      (k main_arg5 (by decide) (by decide)).trans (W_main_arg5 m (dats m (Gt m)) c)⟩)
    (run_exact m ρ (Gt m) fun c t => leaves m c (hx c) t)

end Cert.KernelIdeal.Hand

end
-- ==== Proof.RefLevel.lean ====
module

public import proofs.«01_k».proof.Proof.Gen.ReferenceIdeal.Read
public import Idealize.ShloMosaic.Lib.Pipeline.ValueKit
public import Idealize.ShloMosaic.Lib.ValueIdx
public import Idealize.ShloMosaic.Lib.ReduceAll

@[expose] public section

/-! One level of the reference, written once for any size of its map. -/

noncomputable section

namespace Cert.ReferenceIdeal.Hand

open Cert.ReferenceIdeal Cert.ReferenceIdeal.Gen Cert.ReferenceIdeal.Read
open Idealize.ShloMosaic hiding ix1 ix2 ix3 ix4
open Idealize.ShloMosaic.TcCoe
open Idealize.SL.Sem
open Idealize.ShloMosaic.StableHlo
open Idealize.ShloMosaic.ValueIdx

variable {F : FTy → Type} [FloatOps F]

/-- The dimension numbers of a take along the last axis, over two batching axes. -/
abbrev takeLast (N : Nat)
    (wf : GatherDims.WF ⟨3, ![18, 4352, N]⟩ S18x4352x100x1 S18x4352x100 [] [2] [0, 1] [2] [0, 1] 3 ![1, 1, 1]) :
    GatherDims ⟨3, ![18, 4352, N]⟩ S18x4352x100x1 S18x4352x100 where
  offsetDims := []
  collapsedSliceDims := [2]
  operandBatchingDims := [0, 1]
  startIndicesBatchingDims := [0, 1]
  startIndexMap := [2]
  indexVectorDim := 3
  sliceSizes := ![1, 1, 1]
  wf := wf

abbrev sc2 (st : BitVec 32) : FVec F S18x4352 .f32 := broadcastInDim S18x4352 ![] bcast_S_S18x4352 (constant S_ .f32 st)
abbrev k10 (n : Nat) : IVec S18x4352x10 32 := broadcastInDim S18x4352x10 ![] bcast_S_S18x4352x10 (constantI S_ 32 (BitVec.ofNat 32 n))

/-- The window's centre. -/
def cxR (st : BitVec 32) (x5 : FVec F S18x4352x2 .f32) : FVec F S18x4352 .f32 := mulf (val_main_v12 (F := F) x5) (sc2 st)
def cyR (st : BitVec 32) (x5 : FVec F S18x4352x2 .f32) : FVec F S18x4352 .f32 := mulf (val_main_v19 (F := F) x5) (sc2 st)

/-- The window's ten positions along one axis. -/
def posR (c : FVec F S18x4352 .f32) : IVec S18x4352x10 32 :=
  addi (broadcastInDim S18x4352x10 ![0, 1, 2] bcast_S18x4352x1_S18x4352x10_0_1_2
    (broadcastInDim S18x4352x1 ![0, 1] bcast_S18x4352_S18x4352x1_0_1 (fptosi 32 (Host.floor c)))) (val_main_v36 (F := F))
/-- Whether a position lies on the map. -/
def inR (n : Nat) (p : IVec S18x4352x10 32) : IVec S18x4352x10 1 := andi (cmpi .sge p (k10 0)) (cmpi .slt p (k10 n))
/-- A position moved onto the map: `n` is the last one. -/
def clipR (n : Nat) (p : IVec S18x4352x10 32) : IVec S18x4352x10 32 := minsi (k10 n) (maxsi (k10 0) p)

/-- A value per row, and a value per column, of the window. -/
abbrev perRow {α : Type} (x : S18x4352x10.Idx → α) : S18x4352x10x10.Idx → α :=
  broadcastInDim S18x4352x10x10 ![0, 1, 2, 3] bcast_S18x4352x10x1_S18x4352x10x10_0_1_2_3
    (broadcastInDim S18x4352x10x1 ![0, 1, 2] bcast_S18x4352x10_S18x4352x10x1_0_1_2 x)
abbrev perCol {α : Type} (x : S18x4352x10.Idx → α) : S18x4352x10x10.Idx → α :=
  broadcastInDim S18x4352x10x10 ![0, 1, 2, 3] bcast_S18x4352x1x10_S18x4352x10x10_0_1_2_3
    (broadcastInDim S18x4352x1x10 ![0, 1, 3] bcast_S18x4352x10_S18x4352x1x10_0_1_3 x)

/-- The flat place of each position. -/
def flatR (H W : Nat) (px py : IVec S18x4352x10 32) : IVec S18x4352x100 32 :=
  shapeCast _ (addi
    (broadcastInDim S18x4352x10x10 ![0, 1, 2, 3] bcast_S18x4352x10x1_S18x4352x10x10_0_1_2_3
      (muli (broadcastInDim S18x4352x10x1 ![0, 1, 2] bcast_S18x4352x10_S18x4352x10x1_0_1_2 (clipR H py))
        (broadcastInDim S18x4352x10x1 ![] bcast_S_S18x4352x10x1 (constantI S_ 32 (BitVec.ofNat 32 (W + 1))))))
    (perCol (clipR W px))) shapeCasts_S18x4352x10x10_S18x4352x100
/-- The same, a negative one counted from the end. -/
def startR (N : Nat) (fl : IVec S18x4352x100 32) : IVec S18x4352x100x1 32 :=
  shapeCast _ (select (cmpi .slt fl (broadcastInDim S18x4352x100 ![] bcast_S_S18x4352x100 (constantI S_ 32 0#32)))
    (addi fl (broadcastInDim S18x4352x100 ![] bcast_S_S18x4352x100 (constantI S_ 32 (BitVec.ofNat 32 (N + 1))))) fl) shapeCasts_S18x4352x100_S18x4352x100x1
/-- Whether the place is one of the map's. -/
def insideR (N : Nat) (s : IVec S18x4352x100x1 32) : IVec S18x4352x100 1 :=
  Host.reduce IntOp.andi (andi
      (cmpi .sge s (broadcastInDim S18x4352x100x1 ![] bcast_S_S18x4352x100x1 (constantI S_ 32 0#32)))
      (cmpi .sle s (broadcastInDim S18x4352x100x1 ![0, 1, 2, 3] bcast_S1x1x1x1_S18x4352x100x1_0_1_2_3
        (broadcastInDim S1x1x1x1 ![3] bcast_S1_S1x1x1x1_3 (constantI S1 32 (BitVec.ofNat 32 N))))))
    (constantI S_ 1 1#1) reducesTo_S18x4352x100x1_S18x4352x100_d3 h_S_

section Level
variable (H W N : Nat) (hc : (⟨4, ![18, 4352, H + 1, W + 1]⟩ : Shape).ShapeCasts ⟨3, ![18, 4352, N + 1]⟩)
  (wf : GatherDims.WF ⟨3, ![18, 4352, N + 1]⟩ S18x4352x100x1 S18x4352x100 [] [2] [0, 1] [2] [0, 1] 3 ![1, 1, 1])
  (x : IVec ⟨4, ![18, 4352, H + 1, W + 1]⟩ 8)

def takeR (s : IVec S18x4352x100x1 32) : IVec S18x4352x100 8 :=
  select (insideR N s) (Host.gather (takeLast (N + 1) wf) (shapeCast ⟨3, ![18, 4352, N + 1]⟩ x hc) s)
    (broadcastInDim S18x4352x100 ![] bcast_S_S18x4352x100 (constantI S_ 8 128#8))

/-- The window's codes. -/
def codesR (px py : IVec S18x4352x10 32) : FVec F S18x4352x10x10 .f32 :=
  select (andi (perRow (inR (H + 1) py)) (perCol (inR (W + 1) px)))
    (sitofp .f32 (extsi 32 (shapeCast S18x4352x10x10 (takeR H W N hc wf x (startR N (flatR H W px py))) shapeCasts_S18x4352x100_S18x4352x10x10) natLt_8_32))
    (broadcastInDim S18x4352x10x10 ![] bcast_S_S18x4352x10x10 (constant S_ .f32 0x00000000#32))
end Level

/-- The fraction of a centre. -/
def fracR (c : FVec F S18x4352 .f32) : FVec F S18x4352x1x1 .f32 :=
  broadcastInDim S18x4352x1x1 ![0, 1] bcast_S18x4352_S18x4352x1x1_0_1 (subf c (Host.floor c))
def restR (f : FVec F S18x4352x1x1 .f32) : FVec F S18x4352x1x1 .f32 :=
  subf (broadcastInDim S18x4352x1x1 ![] bcast_S_S18x4352x1x1 (constant S_ .f32 0x3F800000#32)) f
abbrev all9 (x : FVec F S18x4352x1x1 .f32) : FVec F S18x4352x9x9 .f32 :=
  broadcastInDim S18x4352x9x9 ![0, 1, 2, 3] bcast_S18x4352x1x1_S18x4352x9x9_0_1_2_3 x

/-- The blend of four codes. -/
def blendR (fx fy : FVec F S18x4352x1x1 .f32) (q : FVec F S18x4352x10x10 .f32) : FVec F S18x4352x9x9 .f32 :=
  addf (addf (addf
    (mulf (all9 (mulf (restR fy) (restR fx))) (extractStridedSlice S18x4352x9x9 ![0, 0, 0, 0] q slices_S18x4352x10x10_S18x4352x9x9_0_0_0_0))
    (mulf (all9 (mulf (restR fy) fx)) (extractStridedSlice S18x4352x9x9 ![0, 0, 0, 1] q slices_S18x4352x10x10_S18x4352x9x9_0_0_0_1)))
    (mulf (all9 (mulf fy (restR fx))) (extractStridedSlice S18x4352x9x9 ![0, 0, 1, 0] q slices_S18x4352x10x10_S18x4352x9x9_0_0_1_0)))
    (mulf (all9 (mulf fy fx)) (extractStridedSlice S18x4352x9x9 ![0, 0, 1, 1] q slices_S18x4352x10x10_S18x4352x9x9_0_0_1_1))

/-- A level's result, scaled. -/
def levelR (sc : FVec F S18x4352x1 .f32) (v : FVec F S18x4352x9x9 .f32) : FVec F S18x4352x81 .f32 :=
  mulf (broadcastInDim S18x4352x81 ![0, 1, 2] bcast_S18x4352x1_S18x4352x81_0_1_2
      (broadcastInDim S18x4352x1 ![0, 1] bcast_S18x4352_S18x4352x1_0_1 (shapeCast S18x4352 sc shapeCasts_S18x4352x1_S18x4352)))
    (shapeCast S18x4352x81 (transpose S18x4352x9x9 [0, 1, 3, 2] v transposes_S18x4352x9x9_S18x4352x9x9_0_1_3_2) shapeCasts_S18x4352x9x9_S18x4352x81)

/-- The whole of a level. -/
def lookR (H W N : Nat) (hc : (⟨4, ![18, 4352, H + 1, W + 1]⟩ : Shape).ShapeCasts ⟨3, ![18, 4352, N + 1]⟩)
    (wf : GatherDims.WF ⟨3, ![18, 4352, N + 1]⟩ S18x4352x100x1 S18x4352x100 [] [2] [0, 1] [2] [0, 1] 3 ![1, 1, 1])
    (x : IVec ⟨4, ![18, 4352, H + 1, W + 1]⟩ 8) (st : BitVec 32) (sc : FVec F S18x4352x1 .f32) (x5 : FVec F S18x4352x2 .f32) : FVec F S18x4352x81 .f32 :=
  levelR sc (blendR (fracR (cxR st x5)) (fracR (cyR st x5)) (codesR H W N hc wf x (posR (cxR st x5)) (posR (cyR st x5))))

variable (x0 : IVec S18x4352x46x96 8) (x1 : IVec S18x4352x23x48 8) (x2 : IVec S18x4352x11x24 8) (x3 : IVec S18x4352x5x12 8)
  (x4 : FVec F S18x4352x4 .f32) (x5 : FVec F S18x4352x2 .f32)

theorem level0_eq : val_main_v105 (F := F) x0 x4 x5 = lookR 45 95 4415 shapeCasts_S18x4352x46x96_S18x4352x4416
    gather_S18x4352x4416_S18x4352x100x1_S18x4352x100_n_2_01_01_2_3_111_wf x0 0x3F800000#32
    (extractStridedSlice S18x4352x1 ![0, 0, 0] x4 slices_S18x4352x4_S18x4352x1_0_0_0) x5 := by rfl
theorem level1_eq : val_main_v205 (F := F) x1 x4 x5 = lookR 22 47 1103 shapeCasts_S18x4352x23x48_S18x4352x1104
    gather_S18x4352x1104_S18x4352x100x1_S18x4352x100_n_2_01_01_2_3_111_wf x1 0x3F000000#32
    (extractStridedSlice S18x4352x1 ![0, 0, 1] x4 slices_S18x4352x4_S18x4352x1_0_0_1) x5 := by rfl
theorem level2_eq : val_main_v305 (F := F) x2 x4 x5 = lookR 10 23 263 shapeCasts_S18x4352x11x24_S18x4352x264
    gather_S18x4352x264_S18x4352x100x1_S18x4352x100_n_2_01_01_2_3_111_wf x2 0x3E800000#32
    (extractStridedSlice S18x4352x1 ![0, 0, 2] x4 slices_S18x4352x4_S18x4352x1_0_0_2) x5 := by rfl
theorem level3_eq : val_main_v405 (F := F) x3 x4 x5 = lookR 4 11 59 shapeCasts_S18x4352x5x12_S18x4352x60
    gather_S18x4352x60_S18x4352x100x1_S18x4352x100_n_2_01_01_2_3_111_wf x3 0x3E000000#32
    (extractStridedSlice S18x4352x1 ![0, 0, 3] x4 slices_S18x4352x4_S18x4352x1_0_0_3) x5 := by rfl

end Cert.ReferenceIdeal.Hand

end
-- ==== Proof.RefCell.lean ====
module

public import proofs.«01_k».proof.Proof.RefLevel

@[expose] public section

/-! One cell of a level of the reference. -/

noncomputable section

namespace Cert.ReferenceIdeal.Hand

open Cert.ReferenceIdeal Cert.ReferenceIdeal.Gen Cert.ReferenceIdeal.Read
open Idealize.ShloMosaic hiding ix1 ix2 ix3 ix4
open Idealize.ShloMosaic.TcCoe
open Idealize.SL.Sem
open Idealize.ShloMosaic.StableHlo
open Idealize.ShloMosaic.ValueIdx

variable {F : FTy → Type} [FloatOps F]

/-! ## Layout -/

section Layout
variable {α : Type} (b : Fin 18) (s : Fin 4352)

theorem bc_a (h : S18x4352.BroadcastsInDim S18x4352x1 ![0, 1]) (x : S18x4352.Idx → α) (z : Fin 1) :
    broadcastInDim S18x4352x1 ![0, 1] h x (ix3 b s z) = x (ix2 b s) :=
  broadcastInDim_apply _ h x _ _ fun a => match a with | ⟨0, _⟩ => rfl | ⟨1, _⟩ => rfl
theorem bc_b (h : S18x4352x1.BroadcastsInDim S18x4352x10 ![0, 1, 2]) (x : S18x4352x1.Idx → α) (k : Fin 10) :
    broadcastInDim S18x4352x10 ![0, 1, 2] h x (ix3 b s k) = x (ix3 b s (0 : Fin 1)) :=
  broadcastInDim_apply _ h x _ _ fun a => match a with | ⟨0, _⟩ => rfl | ⟨1, _⟩ => rfl | ⟨2, _⟩ => rfl
theorem bc_c (h : S18x4352x1.BroadcastsInDim S18x4352x81 ![0, 1, 2]) (x : S18x4352x1.Idx → α) (k : Fin 81) :
    broadcastInDim S18x4352x81 ![0, 1, 2] h x (ix3 b s k) = x (ix3 b s (0 : Fin 1)) :=
  broadcastInDim_apply _ h x _ _ fun a => match a with | ⟨0, _⟩ => rfl | ⟨1, _⟩ => rfl | ⟨2, _⟩ => rfl
theorem bc_d (h : S18x4352x10.BroadcastsInDim S18x4352x10x1 ![0, 1, 2]) (x : S18x4352x10.Idx → α) (y : Fin 10) (z : Fin 1) :
    broadcastInDim S18x4352x10x1 ![0, 1, 2] h x (ix4 b s y z) = x (ix3 b s y) :=
  broadcastInDim_apply _ h x _ _ fun a => match a with | ⟨0, _⟩ => rfl | ⟨1, _⟩ => rfl | ⟨2, _⟩ => rfl
theorem bc_e (h : S18x4352x10x1.BroadcastsInDim S18x4352x10x10 ![0, 1, 2, 3]) (x : S18x4352x10x1.Idx → α) (y k : Fin 10) :
    broadcastInDim S18x4352x10x10 ![0, 1, 2, 3] h x (ix4 b s y k) = x (ix4 b s y (0 : Fin 1)) :=
  broadcastInDim_apply _ h x _ _ fun a => match a with | ⟨0, _⟩ => rfl | ⟨1, _⟩ => rfl | ⟨2, _⟩ => rfl | ⟨3, _⟩ => rfl
theorem bc_f (h : S18x4352x10.BroadcastsInDim S18x4352x1x10 ![0, 1, 3]) (x : S18x4352x10.Idx → α) (z : Fin 1) (k : Fin 10) :
    broadcastInDim S18x4352x1x10 ![0, 1, 3] h x (ix4 b s z k) = x (ix3 b s k) :=
  broadcastInDim_apply _ h x _ _ fun a => match a with | ⟨0, _⟩ => rfl | ⟨1, _⟩ => rfl | ⟨2, _⟩ => rfl
theorem bc_g (h : S18x4352x1x10.BroadcastsInDim S18x4352x10x10 ![0, 1, 2, 3]) (x : S18x4352x1x10.Idx → α) (y k : Fin 10) :
    broadcastInDim S18x4352x10x10 ![0, 1, 2, 3] h x (ix4 b s y k) = x (ix4 b s (0 : Fin 1) k) :=
  broadcastInDim_apply _ h x _ _ fun a => match a with | ⟨0, _⟩ => rfl | ⟨1, _⟩ => rfl | ⟨2, _⟩ => rfl | ⟨3, _⟩ => rfl
theorem bc_h (h : S18x4352.BroadcastsInDim S18x4352x1x1 ![0, 1]) (x : S18x4352.Idx → α) (y z : Fin 1) :
    broadcastInDim S18x4352x1x1 ![0, 1] h x (ix4 b s y z) = x (ix2 b s) :=
  broadcastInDim_apply _ h x _ _ fun a => match a with | ⟨0, _⟩ => rfl | ⟨1, _⟩ => rfl
theorem bc_i (h : S18x4352x1x1.BroadcastsInDim S18x4352x9x9 ![0, 1, 2, 3]) (x : S18x4352x1x1.Idx → α) (y k : Fin 9) :
    broadcastInDim S18x4352x9x9 ![0, 1, 2, 3] h x (ix4 b s y k) = x (ix4 b s (0 : Fin 1) (0 : Fin 1)) :=
  broadcastInDim_apply _ h x _ _ fun a => match a with | ⟨0, _⟩ => rfl | ⟨1, _⟩ => rfl | ⟨2, _⟩ => rfl | ⟨3, _⟩ => rfl

theorem perRow_at (x : S18x4352x10.Idx → α) (y k : Fin 10) : perRow x (ix4 b s y k) = x (ix3 b s y) := (bc_e b s _ _ y k).trans (bc_d b s _ x y 0)
theorem perCol_at (x : S18x4352x10.Idx → α) (y k : Fin 10) : perCol x (ix4 b s y k) = x (ix3 b s k) := (bc_g b s _ _ y k).trans (bc_f b s _ x 0 k)
theorem all9_at (x : FVec F S18x4352x1x1 .f32) (y k : Fin 9) : all9 x (ix4 b s y k) = x (ix4 b s (0 : Fin 1) (0 : Fin 1)) := bc_i b s _ x y k

/-- The flat number of a window's place. -/
abbrev at100 (y k : Fin 10) : Fin 100 := ⟨y.val * 10 + k.val, by omega⟩

theorem sc_a (h : S18x4352x10x10.ShapeCasts S18x4352x100) (x : S18x4352x10x10.Idx → α) (y k : Fin 10) :
    shapeCast S18x4352x100 x h (ix3 b s (at100 y k)) = x (ix4 b s y k) :=
  shapeCast_apply _ h _ _ (by
    rw [Shape.rowMajor_val_three, Shape.rowMajor_val_four]
    show ((b.val * 4352 + s.val) * 10 + y.val) * 10 + k.val = (b.val * 4352 + s.val) * 100 + (y.val * 10 + k.val); omega)
theorem sc_b (h : S18x4352x100.ShapeCasts S18x4352x10x10) (x : S18x4352x100.Idx → α) (y k : Fin 10) :
    shapeCast S18x4352x10x10 x h (ix4 b s y k) = x (ix3 b s (at100 y k)) :=
  shapeCast_apply _ h _ _ (by
    rw [Shape.rowMajor_val_three, Shape.rowMajor_val_four]
    show (b.val * 4352 + s.val) * 100 + (y.val * 10 + k.val) = ((b.val * 4352 + s.val) * 10 + y.val) * 10 + k.val; omega)
theorem sc_c (h : S18x4352x100.ShapeCasts S18x4352x100x1) (x : S18x4352x100.Idx → α) (n : Fin 100) (z : Fin 1) :
    shapeCast S18x4352x100x1 x h (ix4 b s n z) = x (ix3 b s n) :=
  shapeCast_apply _ h _ _ (by
    rw [Shape.rowMajor_val_three, Shape.rowMajor_val_four]
    show (b.val * 4352 + s.val) * 100 + n.val = ((b.val * 4352 + s.val) * 100 + n.val) * 1 + z.val; omega)
theorem sc_d (h : S18x4352x9x9.ShapeCasts S18x4352x81) (x : S18x4352x9x9.Idx → α) (k j : Fin 9) :
    shapeCast S18x4352x81 x h (ix3 b s (⟨k.val * 9 + j.val, by omega⟩ : Fin 81)) = x (ix4 b s k j) :=
  shapeCast_apply _ h _ _ (by
    rw [Shape.rowMajor_val_three, Shape.rowMajor_val_four]
    show ((b.val * 4352 + s.val) * 9 + k.val) * 9 + j.val = (b.val * 4352 + s.val) * 81 + (k.val * 9 + j.val); omega)
theorem sc_e (h : S18x4352x1.ShapeCasts S18x4352) (x : S18x4352x1.Idx → α) :
    shapeCast S18x4352 x h (ix2 b s) = x (ix3 b s (0 : Fin 1)) :=
  shapeCast_apply _ h _ _ (by
    rw [Shape.rowMajor_val_three, Shape.rowMajor_val_two]
    show (b.val * 4352 + s.val) * 1 + 0 = b.val * 4352 + s.val; omega)
theorem sc_f {H W N : Nat} (hN : H * W = N) (h : (⟨4, ![18, 4352, H, W]⟩ : Shape).ShapeCasts ⟨3, ![18, 4352, N]⟩)
    (x : (⟨4, ![18, 4352, H, W]⟩ : Shape).Idx → α) (y : Fin H) (k : Fin W) (n : Fin N) (hn : n.val = y.val * W + k.val) :
    shapeCast ⟨3, ![18, 4352, N]⟩ x h (ix3 b s n) = x (ix4 b s y k) :=
  shapeCast_apply _ h _ _ (by
    rw [Shape.rowMajor_val_three, Shape.rowMajor_val_four]
    show ((b.val * 4352 + s.val) * H + y.val) * W + k.val = (b.val * 4352 + s.val) * N + n.val
    rw [hn, ← hN]; ring)

theorem tr_a (h : S18x4352x9x9.Transposes [0, 1, 3, 2] S18x4352x9x9) (x : S18x4352x9x9.Idx → α) (k j : Fin 9) :
    transpose S18x4352x9x9 [0, 1, 3, 2] x h (ix4 b s k j) = x (ix4 b s j k) :=
  transpose_apply _ x h _ _ fun a => match a with | ⟨0, _⟩ => rfl | ⟨1, _⟩ => rfl | ⟨2, _⟩ => rfl | ⟨3, _⟩ => rfl

theorem sl_a (dy dx : Nat) (h : S18x4352x10x10.Slices ![0, 0, dy, dx] S18x4352x9x9) (x : S18x4352x10x10.Idx → α) (y k : Fin 9)
    (y' k' : Fin 10) (hy : y'.val = dy + y.val) (hk : k'.val = dx + k.val) :
    extractStridedSlice S18x4352x9x9 ![0, 0, dy, dx] x h (ix4 b s y k) = x (ix4 b s y' k') :=
  extractStridedSlice_apply _ _ h _ _ fun a => match a with
    | ⟨0, _⟩ => by show b.val = 0 + b.val; omega
    | ⟨1, _⟩ => by show s.val = 0 + s.val; omega
    | ⟨2, _⟩ => hy
    | ⟨3, _⟩ => hk
end Layout

theorem gather_last {α : Type} {w : Nat} (N : Nat) (wf : GatherDims.WF ⟨3, ![18, 4352, N + 1]⟩ S18x4352x100x1 S18x4352x100 [] [2] [0, 1] [2] [0, 1] 3 ![1, 1, 1])
    (x : (⟨3, ![18, 4352, N + 1]⟩ : Shape).Idx → α) (idx : IVec S18x4352x100x1 w) (b : Fin 18) (s : Fin 4352) (n : Fin 100)
    (m : Fin (N + 1)) (hm : (idx (ix4 b s n (0 : Fin 1))).toInt = m.val) :
    Host.gather (takeLast (N + 1) wf) x idx (ix3 b s n) = x (ix3 b s m) := by
  unfold Host.gather
  congr 1
  funext a
  refine Fin.ext ?_
  show (takeLast (N + 1) wf).start (ix3 b s n) idx a + (takeLast (N + 1) wf).batchCoord (ix3 b s n) a
      + (takeLast (N + 1) wf).offCoord (ix3 b s n) a = _
  have h3 : ∀ a : Fin 3, a = 0 ∨ a = 1 ∨ a = 2 := by decide
  rcases h3 a with rfl | rfl | rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (by simp))]
    simp only [Nat.add_zero]
    unfold GatherDims.start
    rw [dif_pos (by simp)]
    have hsi : (takeLast (N + 1) wf).siIdx (ix3 b s n) ⟨List.idxOf (2 : Fin 3) (takeLast (N + 1) wf).startIndexMap,
        List.idxOf_lt_length_iff.2 (by simp)⟩ = ix4 b s n (0 : Fin 1) := by
      funext b; refine Fin.ext ?_
      match b with
      | ⟨0, _⟩ => rfl
      | ⟨1, _⟩ => rfl
      | ⟨2, _⟩ => rfl
      | ⟨3, _⟩ => rfl
    rw [hsi, hm]
    show min (m.val : Int).toNat (N + 1 - 1) = m.val
    have := m.isLt
    rw [Int.toNat_natCast]; omega

/-! ## Words -/

theorem toInt_small (n : Nat) (h : n < 2147483648) : (BitVec.ofNat 32 n).toInt = n := by
  rw [BitVec.toInt_eq_toNat_of_lt] <;> rw [BitVec.toNat_ofNat] <;> omega

theorem eq_of_toInt (p : BitVec 32) (n : Nat) (h : n < 2147483648) (e : p.toInt = n) : p = BitVec.ofNat 32 n :=
  BitVec.eq_of_toInt_eq (e.trans (toInt_small n h).symm)

theorem clip_word (p : BitVec 32) (n : Nat) (hn : n < 128) :
    ∃ m : Nat, m ≤ n ∧ IntOp.minsi (BitVec.ofNat 32 n) (IntOp.maxsi (BitVec.ofNat 32 0) p) = BitVec.ofNat 32 m
      ∧ ∀ m', m' ≤ n → p = BitVec.ofNat 32 m' → m = m' := by
  have e := toInt_small n (by omega)
  have e0 := toInt_small 0 (by omega)
  have hm : (IntOp.maxsi (BitVec.ofNat 32 0) p).toInt = if p.toInt < 0 then 0 else p.toInt := by
    unfold IntOp.maxsi
    rw [BitVec.slt, e0]
    by_cases h : p.toInt < 0
    · simp [h]
    · simp [h]
  have hmin : (IntOp.minsi (BitVec.ofNat 32 n) (IntOp.maxsi (BitVec.ofNat 32 0) p)).toInt
      = if (n : Int) < (if p.toInt < 0 then 0 else p.toInt) then (n : Int) else (if p.toInt < 0 then 0 else p.toInt) := by
    unfold IntOp.minsi
    rw [BitVec.slt, e, hm]
    by_cases h : (n : Int) < (if p.toInt < 0 then 0 else p.toInt)
    · simp only [h, decide_true, if_true]; exact e
    · simp only [h, decide_false, if_false]; exact hm
  refine ⟨(if (n : Int) < (if p.toInt < 0 then 0 else p.toInt) then (n : Int) else (if p.toInt < 0 then 0 else p.toInt)).toNat, ?_, ?_, ?_⟩
  · split <;> split <;> omega
  · apply eq_of_toInt
    · split <;> split <;> omega
    · rw [hmin]; split <;> split <;> omega
  · rintro m' hm' rfl
    rw [toInt_small m' (by omega)]
    split <;> split <;> omega

/-- Whether a position is one of `n`. -/
def onMap (n : Nat) (p : BitVec 32) : BitVec 1 := IntOp.andi (IntOp.cmpi .sge p (BitVec.ofNat 32 0)) (IntOp.cmpi .slt p (BitVec.ofNat 32 n))

theorem and_ofBool (a b : Bool) : IntOp.andi (BitVec.ofBool a) (BitVec.ofBool b) = BitVec.ofBool (a && b) := by
  revert a b; decide

theorem onMap_eq (n : Nat) (hn : n < 128) (p : BitVec 32) : onMap n p = BitVec.ofBool (decide (0 ≤ p.toInt ∧ p.toInt < n)) := by
  have e := toInt_small n (by omega)
  have e0 := toInt_small 0 (by omega)
  unfold onMap IntOp.cmpi
  rw [and_ofBool]
  dsimp only
  rw [BitVec.sle, BitVec.slt, e, e0, Bool.decide_and]
  rfl

/-! ## The cells -/

section Cells
variable (b : Fin 18) (s : Fin 4352)

theorem posR_at (c : FVec F S18x4352 .f32) (y : Fin 10) :
    posR c (ix3 b s y) = IntOp.addi (FloatOps.fptosi 32 (Host.floor c (ix2 b s))) (IntOp.subi (BitVec.ofNat 32 y.val) (BitVec.ofNat 32 4)) := by
  unfold posR
  show IntOp.addi _ _ = _
  rw [bc_b, bc_a]
  rfl

theorem inR_at (n : Nat) (p : IVec S18x4352x10 32) (y : Fin 10) : inR n p (ix3 b s y) = onMap n (p (ix3 b s y)) := rfl

theorem clipR_at (n : Nat) (p : IVec S18x4352x10 32) (y : Fin 10) :
    clipR n p (ix3 b s y) = IntOp.minsi (BitVec.ofNat 32 n) (IntOp.maxsi (BitVec.ofNat 32 0) (p (ix3 b s y))) := rfl

theorem flatR_at (H W : Nat) (px py : IVec S18x4352x10 32) (y k : Fin 10) (hH : H < 100) (hW : W < 100) :
    ∃ r q : Nat, r ≤ H ∧ q ≤ W ∧ flatR H W px py (ix3 b s (at100 y k)) = BitVec.ofNat 32 (r * (W + 1) + q)
      ∧ (∀ r', r' ≤ H → py (ix3 b s y) = BitVec.ofNat 32 r' → r = r') ∧ (∀ q', q' ≤ W → px (ix3 b s k) = BitVec.ofNat 32 q' → q = q') := by
  obtain ⟨r, hr, er, ur⟩ := clip_word (py (ix3 b s y)) H (by omega)
  obtain ⟨q, hq, eq, uq⟩ := clip_word (px (ix3 b s k)) W (by omega)
  refine ⟨r, q, hr, hq, ?_, ur, uq⟩
  unfold flatR
  rw [sc_a]
  show IntOp.addi _ _ = _
  rw [bc_e, perCol_at]
  show IntOp.addi (IntOp.muli _ (BitVec.ofNat 32 (W + 1))) _ = _
  rw [bc_d, clipR_at, clipR_at, er, eq]
  show BitVec.ofNat 32 r * BitVec.ofNat 32 (W + 1) + BitVec.ofNat 32 q = _
  rw [← BitVec.ofNat_mul, ← BitVec.ofNat_add]

theorem ix100 (n : Fin 100) : ∃ y k : Fin 10, n = at100 y k := ⟨⟨n.val / 10, by omega⟩, ⟨n.val % 10, by omega⟩, Fin.ext (by show n.val = n.val / 10 * 10 + n.val % 10; omega)⟩

theorem startR_at (N : Nat) (fl : IVec S18x4352x100 32) (n : Fin 100) (m : Nat) (hm : m < 2147483648) (h : fl (ix3 b s n) = BitVec.ofNat 32 m) :
    startR N fl (ix4 b s n (0 : Fin 1)) = BitVec.ofNat 32 m := by
  unfold startR
  rw [sc_c]
  show Scalar.select (IntOp.cmpi .slt (fl (ix3 b s n)) (BitVec.ofNat 32 0)) _ (fl (ix3 b s n)) = _
  rw [h]
  have : IntOp.cmpi .slt (BitVec.ofNat 32 m) (BitVec.ofNat 32 0) = 0#1 := by
    unfold IntOp.cmpi
    dsimp only
    rw [BitVec.slt, toInt_small m hm, toInt_small 0 (by omega), decide_eq_false (by omega)]
    rfl
  rw [this]
  rfl

theorem insideR_at (N : Nat) (hN : N < 10000) (st : IVec S18x4352x100x1 32) (h : ∀ i, ∃ m : Nat, m ≤ N ∧ st i = BitVec.ofNat 32 m)
    (i : S18x4352x100.Idx) : insideR N st i = 1#1 := by
  unfold insideR
  refine Host.reduce_andi_one _ _ _ _ _ rfl fun i => ?_
  obtain ⟨m, hm, e⟩ := h i
  show IntOp.andi (IntOp.cmpi .sge (st i) (BitVec.ofNat 32 0)) (IntOp.cmpi .sle (st i) (BitVec.ofNat 32 N)) = _
  rw [e]
  unfold IntOp.cmpi
  rw [and_ofBool]
  dsimp only
  rw [BitVec.sle, BitVec.sle, toInt_small m (by omega), toInt_small 0 (by omega), toInt_small N (by omega), decide_eq_true (by omega), decide_eq_true (by omega)]
  rfl

variable (H W N : Nat) (hc : (⟨4, ![18, 4352, H + 1, W + 1]⟩ : Shape).ShapeCasts ⟨3, ![18, 4352, N + 1]⟩)
  (wf : GatherDims.WF ⟨3, ![18, 4352, N + 1]⟩ S18x4352x100x1 S18x4352x100 [] [2] [0, 1] [2] [0, 1] 3 ![1, 1, 1])
  (x : IVec ⟨4, ![18, 4352, H + 1, W + 1]⟩ 8) (px py : IVec S18x4352x10 32)

theorem flat_le (hN : (H + 1) * (W + 1) = N + 1) (r q : Nat) (hr : r ≤ H) (hq : q ≤ W) : r * (W + 1) + q ≤ N := by
  have : r * (W + 1) ≤ H * (W + 1) := Nat.mul_le_mul_right _ hr
  have : (H + 1) * (W + 1) = H * (W + 1) + (W + 1) := by ring
  omega

theorem codesR_on (hN : (H + 1) * (W + 1) = N + 1) (hH : H < 100) (hW : W < 100) (hN' : N < 10000) (y k : Fin 10) (r : Fin (H + 1)) (q : Fin (W + 1))
    (hr : py (ix3 b s y) = BitVec.ofNat 32 r.val) (hq : px (ix3 b s k) = BitVec.ofNat 32 q.val) :
    codesR (F := F) H W N hc wf x px py (ix4 b s y k) = FloatOps.sitofp .f32 (BitVec.signExtend 32 (x (ix4 b s r q))) := by
  unfold codesR
  show Scalar.select (IntOp.andi _ _) (FloatOps.sitofp .f32 (BitVec.signExtend 32 _)) _ = _
  rw [perRow_at, perCol_at, inR_at, inR_at, onMap_eq _ (by omega), onMap_eq _ (by omega), and_ofBool, hr, hq,
    toInt_small _ (by have := r.isLt; omega), toInt_small _ (by have := q.isLt; omega),
    decide_eq_true (by have := r.isLt; omega), decide_eq_true (by have := q.isLt; omega), sc_b]
  show FloatOps.sitofp .f32 (BitVec.signExtend 32 _) = _
  refine congrArg _ (congrArg _ ?_)
  unfold takeR
  show Scalar.select (insideR N _ _) (Host.gather _ _ _ _) _ = _
  rw [insideR_at N hN' _ (fun i => by
    obtain ⟨b, s, n, z, rfl⟩ : ∃ (b : Fin 18) (s : Fin 4352) (n : Fin 100) (z : Fin 1), i = ix4 b s n z := ⟨i 0, i 1, i 2, i 3, ValueIdx.eq_ix4 i⟩
    obtain ⟨y, k, rfl⟩ := ix100 n
    obtain rfl : z = 0 := Subsingleton.elim _ _
    obtain ⟨r, q, hr, hq, e, _, _⟩ := flatR_at b s H W px py y k hH hW
    have := flat_le H W N hN r q hr hq
    exact ⟨_, this, startR_at b s N _ _ _ (by omega) e⟩)]
  obtain ⟨r', q', hr', hq', e, ur, uq⟩ := flatR_at b s H W px py y k hH hW
  obtain rfl := ur r.val (by have := r.isLt; omega) hr
  obtain rfl := uq q.val (by have := q.isLt; omega) hq
  have hle := flat_le H W N hN r.val q.val hr' hq'
  have s1 : ∀ a b : BitVec 8, Scalar.select 1#1 a b = a := fun _ _ => rfl
  rw [s1, gather_last N wf _ _ b s (at100 y k) ⟨r.val * (W + 1) + q.val, by omega⟩ (by
    rw [startR_at b s N _ _ _ (by omega) e, toInt_small _ (by omega)]), sc_f b s hN hc x r q _ rfl]

theorem codesR_off (hH : H < 100) (hW : W < 100) (y k : Fin 10)
    (h : ¬ ((0 ≤ (py (ix3 b s y)).toInt ∧ (py (ix3 b s y)).toInt < (H + 1 : Nat)) ∧ (0 ≤ (px (ix3 b s k)).toInt ∧ (px (ix3 b s k)).toInt < (W + 1 : Nat)))) :
    codesR (F := F) H W N hc wf x px py (ix4 b s y k) = FloatOps.ofBits .f32 0x00000000#32 := by
  unfold codesR
  show Scalar.select (IntOp.andi _ _) _ _ = _
  rw [perRow_at, perCol_at, inR_at, inR_at, onMap_eq _ (by omega), onMap_eq _ (by omega), and_ofBool, ← Bool.decide_and, decide_eq_false h]
  rfl

/-- The blend at a cell. -/
def blendS (fx fy q00 q01 q10 q11 : F .f32) : F .f32 :=
  let one : F .f32 := FloatOps.ofBits .f32 0x3F800000#32
  FloatOps.addf (FloatOps.addf (FloatOps.addf
    (FloatOps.mulf (FloatOps.mulf (FloatOps.subf one fy) (FloatOps.subf one fx)) q00)
    (FloatOps.mulf (FloatOps.mulf (FloatOps.subf one fy) fx) q01))
    (FloatOps.mulf (FloatOps.mulf fy (FloatOps.subf one fx)) q10))
    (FloatOps.mulf (FloatOps.mulf fy fx) q11)

theorem lookR_at (st : BitVec 32) (sc : FVec F S18x4352x1 .f32) (x5 : FVec F S18x4352x2 .f32) (k j : Fin 9) :
    lookR H W N hc wf x st sc x5 (ix3 b s (⟨k.val * 9 + j.val, by omega⟩ : Fin 81))
      = FloatOps.mulf (sc (ix3 b s (0 : Fin 1)))
          (let q := fun (y z : Fin 10) => codesR (F := F) H W N hc wf x (posR (cxR st x5)) (posR (cyR st x5)) (ix4 b s y z)
           blendS (FloatOps.subf (cxR st x5 (ix2 b s)) (Host.floor (cxR st x5) (ix2 b s))) (FloatOps.subf (cyR st x5 (ix2 b s)) (Host.floor (cyR st x5) (ix2 b s)))
            (q j.castSucc k.castSucc) (q j.castSucc k.succ) (q j.succ k.castSucc) (q j.succ k.succ)) := by
  unfold lookR levelR
  show FloatOps.mulf _ _ = _
  rw [bc_c, bc_a, sc_e, sc_d, tr_a]
  unfold blendR
  show FloatOps.mulf _ (FloatOps.addf (FloatOps.addf (FloatOps.addf (FloatOps.mulf _ _) (FloatOps.mulf _ _)) (FloatOps.mulf _ _)) (FloatOps.mulf _ _)) = _
  rw [sl_a b s 0 0 _ _ j k j.castSucc k.castSucc (by simp) (by simp), sl_a b s 0 1 _ _ j k j.castSucc k.succ (by simp) (by simp; omega),
    sl_a b s 1 0 _ _ j k j.succ k.castSucc (by simp; omega) (by simp), sl_a b s 1 1 _ _ j k j.succ k.succ (by simp; omega) (by simp; omega),
    all9_at, all9_at, all9_at, all9_at]
  unfold restR fracR
  show FloatOps.mulf _ (FloatOps.addf (FloatOps.addf (FloatOps.addf (FloatOps.mulf (FloatOps.mulf (FloatOps.subf _ _) (FloatOps.subf _ _)) _)
    (FloatOps.mulf (FloatOps.mulf (FloatOps.subf _ _) _) _)) (FloatOps.mulf (FloatOps.mulf _ (FloatOps.subf _ _)) _)) (FloatOps.mulf (FloatOps.mulf _ _) _)) = _
  rw [bc_h, bc_h]
  rfl
end Cells

end Cert.ReferenceIdeal.Hand

end
-- ==== Proof.RefValue.lean ====
module

public import proofs.«01_k».proof.Proof.RefCell
public import proofs.«01_k».proof.Proof.Table

@[expose] public section

/-! The reference over extended reals. -/

noncomputable section

namespace Cert.ReferenceIdeal.Hand

open Cert.ReferenceIdeal Cert.ReferenceIdeal.Gen Cert.ReferenceIdeal.Read
open Idealize.ShloMosaic hiding ix1 ix2 ix3 ix4
open Idealize.ShloMosaic.TcCoe
open Idealize.SL.Sem
open Idealize.ShloMosaic.StableHlo
open Idealize.ShloMosaic.ValueIdx

open Cert.Axis

/-- The query's column and row in the grid. -/
theorem col_at (s : Fin 4352) : val_main_v1 (F := Ideal) (ix1 s) = BitVec.ofNat 32 (s.val % 96) := by
  have h : ∀ s : Fin 4352, val_main_v1 (F := Ideal) (ix1 s) = BitVec.ofNat 32 (s.val % 96) := by decide +kernel
  exact h s
theorem row_at (s : Fin 4352) : val_main_v4 (F := Ideal) (ix1 s) = BitVec.ofNat 32 (s.val / 96) := by
  have h : ∀ s : Fin 4352, val_main_v4 (F := Ideal) (ix1 s) = BitVec.ofNat 32 (s.val / 96) := by decide +kernel
  exact h s

section
variable (b : Fin 18) (s : Fin 4352) (x5 : FVec Ideal S18x4352x2 .f32)

theorem flow_last (o : Fin 2) (h : S18x4352x2.Slices ![0, 0, o.val] S18x4352x1) (h' : S18x4352x1.ShapeCasts S18x4352) :
    shapeCast S18x4352 (extractStridedSlice S18x4352x1 ![0, 0, o.val] x5 h) h' (ix2 b s) = x5 (ix3 b s o) := by
  rw [shapeCast_apply _ _ _ (ix3 b s (0 : Fin 1)) (by
    rw [Shape.rowMajor_val_two, Shape.rowMajor_val_three]
    show (b.val * 4352 + s.val) * 1 + 0 = b.val * 4352 + s.val; omega)]
  exact extractStridedSlice_apply _ _ _ _ _ (fun a => match a with
    | ⟨0, _⟩ => by show b.val = 0 + b.val; omega
    | ⟨1, _⟩ => by show s.val = 0 + s.val; omega
    | ⟨2, _⟩ => by show o.val = o.val + 0; omega)

theorem cx_at (lev : Fin 4) : cxR (stepBits lev) x5 (ix2 b s) = centre (s.val % 96) (x5 (ix3 b s (0 : Fin 2))) lev := by
  show (val_main_v11 (F := Ideal) (ix2 b s) + val_main_v9 (F := Ideal) x5 (ix2 b s)) * Ideal.ofBits .f32 (stepBits lev) = _
  rw [show val_main_v9 (F := Ideal) x5 (ix2 b s) = x5 (ix3 b s (0 : Fin 2)) from flow_last b s x5 0 _ _, val_main_v11_apply, val_main_v10_apply]
  show ((((val_main_v1 (F := Ideal) (ix1 s)).toInt : ℝ) : EReal) + _) * _ = _
  rw [col_at, toInt_ofNat_lt _ (by omega), Int.cast_natCast]
  rfl
theorem cy_at (lev : Fin 4) : cyR (stepBits lev) x5 (ix2 b s) = centre (s.val / 96) (x5 (ix3 b s (1 : Fin 2))) lev := by
  show (val_main_v18 (F := Ideal) (ix2 b s) + val_main_v16 (F := Ideal) x5 (ix2 b s)) * Ideal.ofBits .f32 (stepBits lev) = _
  rw [show val_main_v16 (F := Ideal) x5 (ix2 b s) = x5 (ix3 b s (1 : Fin 2)) from flow_last b s x5 1 _ _, val_main_v18_apply, val_main_v17_apply]
  show ((((val_main_v4 (F := Ideal) (ix1 s)).toInt : ℝ) : EReal) + _) * _ = _
  rw [row_at, toInt_ofNat_lt _ (by omega), Int.cast_natCast]
  rfl

theorem sext_toInt (e : BitVec 8) : (BitVec.signExtend 32 e).toInt = e.toInt := by revert e; decide

variable (H W N : Nat) (hc : (⟨4, ![18, 4352, H + 1, W + 1]⟩ : Shape).ShapeCasts ⟨3, ![18, 4352, N + 1]⟩)
    (wf : GatherDims.WF ⟨3, ![18, 4352, N + 1]⟩ S18x4352x100x1 S18x4352x100 [] [2] [0, 1] [2] [0, 1] 3 ![1, 1, 1])
    (x : IVec ⟨4, ![18, 4352, H + 1, W + 1]⟩ 8)

theorem codes_at (hN : (H + 1) * (W + 1) = N + 1) (hH : H < 100) (hW : W < 100) (hN' : N < 10000) (lev : Fin 4) (y z : Fin 10) :
    codesR (F := Ideal) H W N hc wf x (posR (cxR (stepBits lev) x5)) (posR (cyR (stepBits lev) x5)) (ix4 b s y z)
      = corner (centre (s.val % 96) (x5 (ix3 b s (0 : Fin 2))) lev) (centre (s.val / 96) (x5 (ix3 b s (1 : Fin 2))) lev) (H + 1) (W + 1) (mapAt x b s) y.val z.val := by
  have px : posR (cxR (F := Ideal) (stepBits lev) x5) (ix3 b s z) = refPos (centre (s.val % 96) (x5 (ix3 b s (0 : Fin 2))) lev) z.val := by
    rw [posR_at]; unfold Host.floor; rw [cx_at]; rfl
  have py : posR (cyR (F := Ideal) (stepBits lev) x5) (ix3 b s y) = refPos (centre (s.val / 96) (x5 (ix3 b s (1 : Fin 2))) lev) y.val := by
    rw [posR_at]; unfold Host.floor; rw [cy_at]; rfl
  unfold corner
  rw [← Bool.decide_and]
  by_cases h : (0 ≤ (refPos (centre (s.val / 96) (x5 (ix3 b s (1 : Fin 2))) lev) y.val).toInt ∧ (refPos (centre (s.val / 96) (x5 (ix3 b s (1 : Fin 2))) lev) y.val).toInt < (H + 1 : Nat))
      ∧ (0 ≤ (refPos (centre (s.val % 96) (x5 (ix3 b s (0 : Fin 2))) lev) z.val).toInt ∧ (refPos (centre (s.val % 96) (x5 (ix3 b s (0 : Fin 2))) lev) z.val).toInt < (W + 1 : Nat))
  · rw [decide_eq_true h]
    have nat (p : BitVec 32) (M : Nat) (h : 0 ≤ p.toInt ∧ p.toInt < (M : Nat)) : p.toNat < M := by
      have hc := BitVec.toInt_eq_toNat_cond p; have hl := p.isLt; split at hc <;> omega
    have hy := nat _ _ h.1
    have hz := nat _ _ h.2
    rw [codesR_on b s H W N hc wf x _ _ hN hH hW hN' y z ⟨_, hy⟩ ⟨_, hz⟩ (by rw [py]; exact (BitVec.eq_of_toNat_eq (by simp))) (by rw [px]; exact (BitVec.eq_of_toNat_eq (by simp)))]
    unfold mapAt
    rw [dif_pos ⟨hy, hz⟩]
    show (((BitVec.signExtend 32 _).toInt : ℝ) : EReal) = _
    rw [sext_toInt]
    rfl
  · rw [decide_eq_false h, codesR_off b s H W N hc wf x _ _ hH hW y z (by rw [px, py]; exact h)]
    exact Ideal.ofBits_zero_f32

theorem look_at (hN : (H + 1) * (W + 1) = N + 1) (hH : H < 100) (hW : W < 100) (hN' : N < 10000) (lev : Fin 4)
    (sc : FVec Ideal S18x4352x1 .f32) (k j : Fin 9) :
    lookR H W N hc wf x (stepBits lev) sc x5 (ix3 b s (⟨k.val * 9 + j.val, by omega⟩ : Fin 81))
      = cell (centre (s.val % 96) (x5 (ix3 b s (0 : Fin 2))) lev) (centre (s.val / 96) (x5 (ix3 b s (1 : Fin 2))) lev) (H + 1) (W + 1) (mapAt x b s)
          (sc (ix3 b s (0 : Fin 1))) k.val j.val := by
  rw [lookR_at]
  dsimp only
  rw [codes_at b s x5 H W N hc wf x hN hH hW hN' lev, codes_at b s x5 H W N hc wf x hN hH hW hN' lev,
    codes_at b s x5 H W N hc wf x hN hH hW hN' lev, codes_at b s x5 H W N hc wf x hN hH hW hN' lev]
  unfold Host.floor blendS
  rw [cx_at, cy_at]
  dsimp only
  rw [show (FloatOps.ofBits .f32 0x3F800000#32 : Ideal .f32) = (1 : EReal) from Ideal.ofBits_one_f32]
  rfl
end

end Cert.ReferenceIdeal.Hand

end
-- ==== Proof.RefTop.lean ====
module

public import proofs.«01_k».proof.Proof.RefValue

@[expose] public section

/-! The reference is the table. -/

noncomputable section

namespace Cert.ReferenceIdeal.Hand

open Cert.ReferenceIdeal Cert.ReferenceIdeal.Gen Cert.ReferenceIdeal.Read
open Idealize.ShloMosaic hiding ix1 ix2 ix3 ix4
open Idealize.ShloMosaic.TcCoe
open Idealize.SL.Sem
open Idealize.ShloMosaic.StableHlo
open Idealize.ShloMosaic.ValueIdx

open Cert.Axis

section
variable (x0 : IVec S18x4352x46x96 8) (x1 : IVec S18x4352x23x48 8) (x2 : IVec S18x4352x11x24 8) (x3 : IVec S18x4352x5x12 8)
  (x4 : FVec Ideal S18x4352x4 .f32) (x5 : FVec Ideal S18x4352x2 .f32) (b : Fin 18) (s : Fin 4352)

theorem scale_last (o : Fin 4) (h : S18x4352x4.Slices ![0, 0, o.val] S18x4352x1) :
    extractStridedSlice S18x4352x1 ![0, 0, o.val] x4 h (ix3 b s (0 : Fin 1)) = x4 (ix3 b s o) :=
  extractStridedSlice_apply _ _ _ _ _ (fun a => match a with
    | ⟨0, _⟩ => by show b.val = 0 + b.val; omega
    | ⟨1, _⟩ => by show s.val = 0 + s.val; omega
    | ⟨2, _⟩ => by show o.val = o.val + 0; omega)

theorem piece_at (y0 y1 y2 y3 : S18x4352x81.Idx → EReal)
    (h : Shape.Concatenates [S18x4352x81, S18x4352x81, S18x4352x81, S18x4352x81] S18x4352x324 2) (lev : Fin 4) (n : Fin 81) :
    concatenate S18x4352x324 2 [⟨S18x4352x81, y0⟩, ⟨S18x4352x81, y1⟩, ⟨S18x4352x81, y2⟩, ⟨S18x4352x81, y3⟩] h
        (ix3 b s (⟨81 * lev.val + n.val, by omega⟩ : Fin 324))
      = (![y0, y1, y2, y3] : Fin 4 → S18x4352x81.Idx → EReal) lev (ix3 b s n) := by
  have off : ∀ a : Fin S18x4352x81.rank, a.cast (rfl : S18x4352x81.rank = S18x4352x324.rank) ≠ (2 : Fin S18x4352x324.rank) →
      ((ix3 b s n : S18x4352x81.Idx) a).val = ((ix3 b s (⟨81 * lev.val + n.val, by omega⟩ : Fin 324) : S18x4352x324.Idx) (a.cast rfl)).val := fun a ha =>
    match a, ha with
    | ⟨0, _⟩, _ => rfl
    | ⟨1, _⟩, _ => rfl
    | ⟨2, _⟩, ha => absurd rfl ha
  have c4 : ∀ lev : Fin 4, lev = 0 ∨ lev = 1 ∨ lev = 2 ∨ lev = 3 := by decide
  rcases c4 lev with rfl | rfl | rfl | rfl
  · exact concatenate_apply_piece (t := S18x4352x324) (2 : Fin 3) [⟨S18x4352x81, y0⟩, ⟨S18x4352x81, y1⟩, ⟨S18x4352x81, y2⟩, ⟨S18x4352x81, y3⟩] h _ 0 (by show 0 < 4; decide) S18x4352x81 y0 rfl rfl 0 rfl (ix3 b s n) off (by show 0 + n.val = 81 * 0 + n.val; omega)
  · exact concatenate_apply_piece (t := S18x4352x324) (2 : Fin 3) [⟨S18x4352x81, y0⟩, ⟨S18x4352x81, y1⟩, ⟨S18x4352x81, y2⟩, ⟨S18x4352x81, y3⟩] h _ 1 (by show 1 < 4; decide) S18x4352x81 y1 rfl rfl 81 rfl (ix3 b s n) off (by show 81 + n.val = 81 * 1 + n.val; omega)
  · exact concatenate_apply_piece (t := S18x4352x324) (2 : Fin 3) [⟨S18x4352x81, y0⟩, ⟨S18x4352x81, y1⟩, ⟨S18x4352x81, y2⟩, ⟨S18x4352x81, y3⟩] h _ 2 (by show 2 < 4; decide) S18x4352x81 y2 rfl rfl 162 rfl (ix3 b s n) off (by show 162 + n.val = 81 * 2 + n.val; omega)
  · exact concatenate_apply_piece (t := S18x4352x324) (2 : Fin 3) [⟨S18x4352x81, y0⟩, ⟨S18x4352x81, y1⟩, ⟨S18x4352x81, y2⟩, ⟨S18x4352x81, y3⟩] h _ 3 (by show 3 < 4; decide) S18x4352x81 y3 rfl rfl 243 rfl (ix3 b s n) off (by show 243 + n.val = 81 * 3 + n.val; omega)

theorem ref_at (lev : Fin 4) (k j : Fin 9) :
    val_main_v406 (F := Ideal) x0 x1 x2 x3 x4 x5 (ix3 b s (⟨81 * lev.val + (k.val * 9 + j.val), by omega⟩ : Fin 324))
      = tableAt x0 x1 x2 x3 x4 x5 b s lev k j := by
  unfold val_main_v406
  refine (piece_at b s _ _ _ _ _ lev (⟨k.val * 9 + j.val, by omega⟩ : Fin 81)).trans ?_
  have c4 : ∀ lev : Fin 4, lev = 0 ∨ lev = 1 ∨ lev = 2 ∨ lev = 3 := by decide
  rcases c4 lev with rfl | rfl | rfl | rfl
  · show val_main_v105 (F := Ideal) x0 x4 x5 _ = _
    rw [level0_eq]
    exact (look_at b s x5 45 95 4415 _ _ x0 (by decide) (by decide) (by decide) (by decide) 0 _ k j).trans
      (congrArg (fun σ => cell _ _ _ _ _ σ _ _) (scale_last x4 b s 0 _))
  · show val_main_v205 (F := Ideal) x1 x4 x5 _ = _
    rw [level1_eq]
    exact (look_at b s x5 22 47 1103 _ _ x1 (by decide) (by decide) (by decide) (by decide) 1 _ k j).trans
      (congrArg (fun σ => cell _ _ _ _ _ σ _ _) (scale_last x4 b s 1 _))
  · show val_main_v305 (F := Ideal) x2 x4 x5 _ = _
    rw [level2_eq]
    exact (look_at b s x5 10 23 263 _ _ x2 (by decide) (by decide) (by decide) (by decide) 2 _ k j).trans
      (congrArg (fun σ => cell _ _ _ _ _ σ _ _) (scale_last x4 b s 2 _))
  · show val_main_v405 (F := Ideal) x3 x4 x5 _ = _
    rw [level3_eq]
    exact (look_at b s x5 4 11 59 _ _ x3 (by decide) (by decide) (by decide) (by decide) 3 _ k j).trans
      (congrArg (fun σ => cell _ _ _ _ _ σ _ _) (scale_last x4 b s 3 _))
end

theorem ref_eq (x0 : IVec S18x4352x46x96 8) (x1 : IVec S18x4352x23x48 8) (x2 : IVec S18x4352x11x24 8) (x3 : IVec S18x4352x5x12 8)
    (x4 : FVec Ideal S18x4352x4 .f32) (x5 : FVec Ideal S18x4352x2 .f32) :
    val_main_v407 (F := Ideal) x0 x1 x2 x3 x4 x5 = table x0 x1 x2 x3 x4 x5 := by
  funext q
  obtain ⟨b, s, ch, rfl⟩ : ∃ (b : Fin 18) (s : Fin 4352) (ch : Fin 324), q = ix3 b s ch := ⟨q 0, q 1, q 2, ValueIdx.eq_ix3 q⟩
  have e : ch = (⟨81 * (chLev ch).val + ((chK ch).val * 9 + (chJ ch).val), by omega⟩ : Fin 324) :=
    Fin.ext (by show ch.val = 81 * (ch.val / 81) + (ch.val % 81 / 9 * 9 + ch.val % 9); omega)
  show val_main_v406 (F := Ideal) x0 x1 x2 x3 x4 x5 (ix3 b s ch) = tableAt x0 x1 x2 x3 x4 x5 b s (chLev ch) (chK ch) (chJ ch)
  conv_lhs => rw [e]
  exact ref_at x0 x1 x2 x3 x4 x5 b s (chLev ch) (chK ch) (chJ ch)

end Cert.ReferenceIdeal.Hand

end
-- ==== Proof.RunBits.lean ====
module

public import proofs.«01_k».proof.Proof.Gen.Kernel
public import proofs.«01_k».proof.Proof.Gen.Kernel.Skeleton
public import proofs.«01_k».proof.Proof.Gen.Kernel.Frame
public import Idealize.ShloMosaic.Lib.Tactic

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A memref's buffer on core `c`: its contents, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig Unit (Elt F) ℕ (UR sig nD τ) ℕ) :=
  M.view.loc (c : Thread nD τ) ↦{fullShare} f

set_option maxRecDepth 16384 in
set_option sl_exec.stridedRows true in

noncomputable def kernelRun (c : Dev nD) (i : grid0.Coords)
    (M2 : Memref sig .tc .vmem S1x46x96x256 .i8) (h2 : M2.IsWhole) (M3 : Memref sig .tc .vmem S1x23x48x256 .i8) (h3 : M3.IsWhole)
    (M4 : Memref sig .tc .vmem S1x11x24x256 .i8) (h4 : M4.IsWhole) (M5 : Memref sig .tc .vmem S1x5x12x256 .i8) (h5 : M5.IsWhole)
    (M6 : Memref sig .tc .vmem S1x4x256 .f32) (h6 : M6.IsWhole) (M7 : Memref sig .tc .vmem S1x2x256 .f32) (h7 : M7.IsWhole)
    (M8 : Memref sig .tc .vmem S1x324x256 .bf16) (h8 : M8.IsWhole)
    (M9 : Memref sig .tc .vmem S728x128 .i32) (h9 : M9.IsWhole) (M10 : Memref sig .tc .vmem S648x128 .f32) (h10 : M10.IsWhole)
    (f2 : Bf (F := F) c M2) (f3 : Bf (F := F) c M3) (f4 : Bf (F := F) c M4) (f5 : Bf (F := F) c M5)
    (f6 : Bf (F := F) c M6) (f7 : Bf (F := F) c M7) (f9 : Bf (F := F) c M9) :
    { W : Bf (F := F) c M8 //
      ∀ (f8 : Bf (F := F) c M8) (f10 : Bf (F := F) c M10) (Q : PUnit → sProp (MT nD τ sig Unit (Elt F) ℕ (UR sig nD τ) ℕ)),
      iprop(pt c M2 f2 ∗ pt c M3 f3 ∗ pt c M4 f4 ∗ pt c M5 f5 ∗ pt c M6 f6 ∗ pt c M7 f7 ∗ pt c M8 f8 ∗ pt c M9 f9 ∗ pt c M10 f10
        ∗ (iprop(pt c M2 f2 ∗ pt c M3 f3 ∗ pt c M4 f4 ∗ pt c M5 f5 ∗ pt c M6 f6 ∗ pt c M7 f7 ∗ pt c M8 W
            ∗ (∃ f, pt c M9 f) ∗ (∃ f, pt c M10 f)) -∗ Q ⟨⟩))
      ⊢ wp frame (wpE (defs₀ (F := F)) Variants.none c none) Set.univ
        (cc0_corr_lookup i M2 h2 M3 h3 M4 h4 M5 h5 M6 h6 M7 h7 M8 h8 M9 h9 M10 h10) Q } := by
  refine ⟨?_, fun f8 f10 Q => ?run⟩
  case run =>
    iintro ⟨H2, H3, H4, H5, H6, H7, H8, H9, H10, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

end Cert.Kernel.Hand

end
-- ==== Proof.FrameBits.lean ====
module

public import proofs.«01_k».proof.Proof.RunBits
public import Idealize.ShloMosaic.Lib.Pipeline.FrameSuffix

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

omit [FloatOps F] in
/-- The seven windows, one by one. -/
theorem bigSep_W (Φ : Fin cfg0.W → sProp (MT nD τ sig Unit (Elt F) ℕ (UR sig nD τ) ℕ)) :
    bigSep Finset.univ Φ = iprop(Φ 0 ∗ Φ 1 ∗ Φ 2 ∗ Φ 3 ∗ Φ 4 ∗ Φ 5 ∗ Φ 6) := by
  rw [show (Finset.univ : Finset (Fin cfg0.W)) = insert 0 (insert 1 (insert 2 (insert 3 (insert 4 (insert 5 {6}))))) from by decide,
    bigSep_insert (by decide), bigSep_insert (by decide), bigSep_insert (by decide), bigSep_insert (by decide), bigSep_insert (by decide),
    bigSep_insert (by decide), bigSep_singleton]
  rfl

omit [FloatOps F] in
/-- The buffers the region owns beside the staging buffers: the two scratch buffers. -/
theorem scopedRest_eq (c : Dev nD) : (Pipeline.scopedRest (Ix := Unit) (Name := ℕ) (U := UR sig nD τ) (Lvl := ℕ) (Val := Elt F) spec0 c : sProp (MT nD τ sig Unit (Elt F) ℕ (UR sig nD τ) ℕ))
    = iprop((∃ f, pt c (Memref.whole cc0_scratch0) f) ∗ (∃ f, pt c (Memref.whole cc0_scratch1) f)) := by
  unfold Pipeline.scopedRest
  rw [show (Finset.univ.filter fun b : Ref sig .tc => b.isScoped) \ Finset.univ.image (Pipeline.stageRef spec0)
      = {cc0_scratch0, cc0_scratch1} from by decide,
    bigSep_insert (by decide), bigSep_singleton]
  rfl

/-- The pipeline's data: each array as the region finds it; after the body every input block in place and the
    result's block at `G`. -/
def dats (G : (c : Dev nD) → Fin cfg0.N → S1x324x256.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => G c t
  Φ _ := Pipeline.ΦA spec0 c
  q _ := fullShare
  owed _ := 0

variable (G : (c : Dev nD) → Fin cfg0.N → S1x324x256.Idx → Elt F .bf16)

theorem A_eq (c : Dev nD) (w : Fin cfg0.W) : (dats m G 0 c).A w = V m c (Pipeline.arrRef spec0 w) := by
  dsimp only [dats]

/-- The one window whose contents the frame forgets: the result's. -/
def fgt (w : Fin cfg0.W) : Bool := w == 6

/-- What the body is handed at point `t`, the windows one by one. -/
def bodyPre (c : Dev nD) (t : Fin cfg0.N) : sProp (MT nD τ sig Unit (Elt F) ℕ (UR sig nD τ) ℕ) :=
  iprop(Pipeline.ΦA spec0 c ∗ (dats m G 0 c).owesAt () t.castSucc
    ∗ (∃ d, owns (c : Thread nD τ) ((cfg0.win 0).stage (cfg0.slots t 0)) fullShare ((dats m G 0 c).before 0 t d))
    ∗ (∃ d, owns (c : Thread nD τ) ((cfg0.win 1).stage (cfg0.slots t 1)) fullShare ((dats m G 0 c).before 1 t d))
    ∗ (∃ d, owns (c : Thread nD τ) ((cfg0.win 2).stage (cfg0.slots t 2)) fullShare ((dats m G 0 c).before 2 t d))
    ∗ (∃ d, owns (c : Thread nD τ) ((cfg0.win 3).stage (cfg0.slots t 3)) fullShare ((dats m G 0 c).before 3 t d))
    ∗ (∃ d, owns (c : Thread nD τ) ((cfg0.win 4).stage (cfg0.slots t 4)) fullShare ((dats m G 0 c).before 4 t d))
    ∗ (∃ d, owns (c : Thread nD τ) ((cfg0.win 5).stage (cfg0.slots t 5)) fullShare ((dats m G 0 c).before 5 t d))
    ∗ (∃ X, owns (c : Thread nD τ) ((cfg0.win 6).stage (cfg0.slots t 6)) fullShare X))

/-- What the body leaves: the input blocks in place, the result's block at something `P` holds of. -/
def bodyPost (P : (S1x324x256.Idx → Elt F .bf16) → Prop) (c : Dev nD) (t : Fin cfg0.N) : sProp (MT nD τ sig Unit (Elt F) ℕ (UR sig nD τ) ℕ) :=
  iprop(Pipeline.ΦA spec0 c ∗ (dats m G 0 c).owesAt () t.castSucc
    ∗ owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ (∃ X, ⌜P X⌝ ∗ owns (c : Thread nD τ) ((cfg0.win 6).stage (cfg0.slots t 6)) fullShare X))

/-- What the body leaves in the result's staging buffer at point `t`, from the input buffers `f2 … f7` and the word
    scratch `f9`. -/
abbrev outAt (c : Dev nD) (t : Fin cfg0.N)
    (f2 : Bf (F := F) c ((cfg0.win 0).stage (cfg0.slots t 0))) (f3 : Bf (F := F) c ((cfg0.win 1).stage (cfg0.slots t 1)))
    (f4 : Bf (F := F) c ((cfg0.win 2).stage (cfg0.slots t 2))) (f5 : Bf (F := F) c ((cfg0.win 3).stage (cfg0.slots t 3)))
    (f6 : Bf (F := F) c ((cfg0.win 4).stage (cfg0.slots t 4))) (f7 : Bf (F := F) c ((cfg0.win 5).stage (cfg0.slots t 5)))
    (f9 : Bf (F := F) c (Memref.whole cc0_scratch0)) : Bf (F := F) c ((cfg0.win 6).stage (cfg0.slots t 6)) :=
  (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    f2 f3 f4 f5 f6 f7 f9).1

set_option maxHeartbeats 2000000 in
/-- The body at point `t`: from the input blocks to the same blocks and a result block `P` holds of, if `P` holds of
    whatever the run leaves whenever the input buffers hold their blocks. -/
theorem sound_body (P : (S1x324x256.Idx → Elt F .bf16) → Prop) (c : Dev nD) (t : Fin cfg0.N)
    (hP : ∀ f2 f3 f4 f5 f6 f7 f9,
      ((cfg0.win 0).stage (cfg0.slots t 0)).view.read (Elt F) f2 = iblk m c 0 t →
      ((cfg0.win 1).stage (cfg0.slots t 1)).view.read (Elt F) f3 = iblk m c 1 t →
      ((cfg0.win 2).stage (cfg0.slots t 2)).view.read (Elt F) f4 = iblk m c 2 t →
      ((cfg0.win 3).stage (cfg0.slots t 3)).view.read (Elt F) f5 = iblk m c 3 t →
      ((cfg0.win 4).stage (cfg0.slots t 4)).view.read (Elt F) f6 = iblk m c 4 t →
      ((cfg0.win 5).stage (cfg0.slots t 5)).view.read (Elt F) f7 = iblk m c 5 t →
      P (((cfg0.win 6).stage (cfg0.slots t 6)).view.read (Elt F) (outAt c t f2 f3 f4 f5 f6 f7 f9))) :
    bodyPre m G c t ⊢ wp frame (wpE (defs₀ (F := F)) Variants.none c none) Set.univ
      (defs₀ .tc cfg0.body (cfg0.bodyArgs t (cfg0.slots t))) (fun _ => bodyPost m G P c t) := by
  unfold bodyPre bodyPost Pipeline.ΦA
  rw [scopedRest_eq]
  unfold owns
  iintro ⟨⟨⟨⟨%f9, H9⟩, ⟨%f10, H10⟩⟩, ⟨%g, Hg⟩⟩, Howes,
    ⟨%d0, %f2, %hf2, H2⟩, ⟨%d1, %f3, %hf3, H3⟩, ⟨%d2, %f4, %hf4, H4⟩, ⟨%d3, %f5, %hf5, H5⟩, ⟨%d4, %f6, %hf6, H6⟩,
    ⟨%d5, %f7, %hf7, H7⟩, ⟨%X, %f8, -, H8⟩⟩
  rw [before0_0_of m (dats m G 0 c) (A_eq m G c 0) (fun _ => by dsimp only [dats])] at hf2
  rw [before0_1_of m (dats m G 0 c) (A_eq m G c 1) (fun _ => by dsimp only [dats])] at hf3
  rw [before0_2_of m (dats m G 0 c) (A_eq m G c 2) (fun _ => by dsimp only [dats])] at hf4
  rw [before0_3_of m (dats m G 0 c) (A_eq m G c 3) (fun _ => by dsimp only [dats])] at hf5
  rw [before0_4_of m (dats m G 0 c) (A_eq m G c 4) (fun _ => by dsimp only [dats])] at hf6
  rw [before0_5_of m (dats m G 0 c) (A_eq m G c 5) (fun _ => by dsimp only [dats])] at hf7
  have hs0 := (hstage0_0 ((cfg0.slots t 0).cast nbuf0_0)).set_eq_univ
  have hs1 := (hstage0_1 ((cfg0.slots t 1).cast nbuf0_1)).set_eq_univ
  have hs2 := (hstage0_2 ((cfg0.slots t 2).cast nbuf0_2)).set_eq_univ
  have hs3 := (hstage0_3 ((cfg0.slots t 3).cast nbuf0_3)).set_eq_univ
  have hs4 := (hstage0_4 ((cfg0.slots t 4).cast nbuf0_4)).set_eq_univ
  have hs5 := (hstage0_5 ((cfg0.slots t 5).cast nbuf0_5)).set_eq_univ
  have hs6 := (hstage0_6 ((cfg0.slots t 6).cast nbuf0_6)).set_eq_univ
  change (win0_0.stage (cfg0.slots t 0)).view.set = _ at hs0
  rw [show ((cfg0.win 0).stage (cfg0.slots t 0)).view.set = Finset.univ from hs0,
    show ((cfg0.win 1).stage (cfg0.slots t 1)).view.set = Finset.univ from hs1,
    show ((cfg0.win 2).stage (cfg0.slots t 2)).view.set = Finset.univ from hs2,
    show ((cfg0.win 3).stage (cfg0.slots t 3)).view.set = Finset.univ from hs3,
    show ((cfg0.win 4).stage (cfg0.slots t 4)).view.set = Finset.univ from hs4,
    show ((cfg0.win 5).stage (cfg0.slots t 5)).view.set = Finset.univ from hs5,
    show ((cfg0.win 6).stage (cfg0.slots t 6)).view.set = Finset.univ from hs6]
  iapply ((kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    f2 f3 f4 f5 f6 f7 f9).2 f8 f10 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, ⟨%e9, H9⟩, ⟨%e10, H10⟩⟩
  isplitl [H9 H10 Hg]
  · isplitr [Hg]
    · isplitl [H9]
      · iexists e9; iexact H9
      · iexists e10; iexact H10
    · iexists g; iexact Hg
  isplitl [Howes]; · iexact Howes
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  iexists _
  isplitr
  swap
  · iexists _; isplitr; swap; (· iexact H8); ipureintro; rfl
  · ipureintro; exact hP f2 f3 f4 f5 f6 f7 f9 hf2 hf3 hf4 hf5 hf6 hf7

/-- What the body leaves with the result's contents forgotten. -/
def bodyPostForget (c : Dev nD) (t : Fin cfg0.N) : sProp (MT nD τ sig Unit (Elt F) ℕ (UR sig nD τ) ℕ) :=
  iprop(Pipeline.ΦA spec0 c ∗ (dats m G 0 c).owesAt () t.castSucc
    ∗ owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ (∃ X, owns (c : Thread nD τ) ((cfg0.win 6).stage (cfg0.slots t 6)) fullShare X))

theorem bodyPost_forget (P : (S1x324x256.Idx → Elt F .bf16) → Prop) (c : Dev nD) (t : Fin cfg0.N) :
    bodyPost m G P c t ⊢ bodyPostForget m G c t := by
  unfold bodyPost bodyPostForget
  iintro ⟨HΦ, Ho, H2, H3, H4, H5, H6, H7, ⟨%X, -, H8⟩⟩
  isplitl [HΦ]; · iexact HΦ
  isplitl [Ho]; · iexact Ho
  isplitl [H2]; · iexact H2
  isplitl [H3]; · iexact H3
  isplitl [H4]; · iexact H4
  isplitl [H5]; · iexact H5
  isplitl [H6]; · iexact H6
  isplitl [H7]; · iexact H7
  iexists X; iexact H8

/-- The body obligation with the result's contents forgotten. -/
theorem body_forget (c : Dev nD) : BodyObligationLoose (dats m G 0 c) (defs₀ (F := F)) Variants.none () Set.univ fgt := fun t => by
  rw [bigSep_W, bigSep_W]
  exact (show _ ⊢ bodyPre m G c t from .rfl).trans ((sound_body m G (fun _ => True) c t (fun _ _ _ _ _ _ _ _ _ _ _ _ _ => trivial)).trans
    (wp_mono _ _ _ fun _ => (bodyPost_forget m G _ c t).trans (show bodyPostForget m G c t ⊢ _ from .rfl)))

/-- An argument array, staged by no window and written by no host line, ends as the launch found it. -/
theorem keptArg (c : Dev nD) (r : PUnit × MemSt nD τ sig (Elt F))
    (h : Pipeline.RDat.FramePostR cfg0 (fun c => (dats m G 0 c).toRForget fgt) {main_v7} (fun c b => V0 m c (Proc.devRef .tc b)) r)
    (b : Ref sig .tc) (hs : b.isScoped = false) (hw : ∀ w, (spec0 w).arr.view.ref ≠ b) (hT : b ∉ ({main_v7} : Finset (Ref sig .tc)))
    (hV : V m c b = m ((c : Thread nD τ).loc b)) :
    r.2.mem ((c.tc : Thread nD τ).loc b) = m ((c.tc : Thread nD τ).loc b) :=
  ((h c).2 b (Finset.mem_sdiff.mpr ⟨Pipeline.mem_restRefs_of b hs hw, hT⟩)).trans hV

/-- The frame: the run terminates without a fault, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_around_T_forget cfgs (dats m fun _ _ _ => FloatOps.ofBits .bf16 0#16) 0 launch0 defs₀ Variants.none fgt {main_v7} m ρ main
    (hbody := body_forget m _) (hshare := fun c => (dats m _ 0 c).share_full fun _ => rfl) (howed := fun _ _ => rfl)
    (V₀ := V0 m) (opss := [hostOps1]) (hsub := sfx_sub) (hfresh := sfx_fresh) (hkeep := sfx_keeps)
    (hT := by
      intro ops h op ho b hb
      simp only [List.mem_singleton] at h; subst h
      simp only [hostOps1, List.mem_singleton] at ho; subst ho
      simp only [StableHlo.unary_writes, Finset.mem_singleton] at hb
      rw [Finset.mem_singleton]
      exact Classical.byContradiction fun hne => StableHlo.devRef_ne_of_ne hne hb)
    (hmain := hmain m Variants.none) (hA := A_eq m _) (hΦ := fun _ _ => rfl)
    (Q' := _) (hQ' := fun r h => ⟨fun c => ⟨keptArg m _ c r h.1 main_arg0 (by decide) (by decide) (by decide) (V_main_arg0 m c), keptArg m _ c r h.1 main_arg1 (by decide) (by decide) (by decide) (V_main_arg1 m c), keptArg m _ c r h.1 main_arg2 (by decide) (by decide) (by decide) (V_main_arg2 m c), keptArg m _ c r h.1 main_arg3 (by decide) (by decide) (by decide) (V_main_arg3 m c), keptArg m _ c r h.1 main_arg4 (by decide) (by decide) (by decide) (V_main_arg4 m c), keptArg m _ c r h.1 main_arg5 (by decide) (by decide) (by decide) (V_main_arg5 m c)⟩, h.2⟩)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameI
public import proofs.«01_k».proof.Proof.Value
public import proofs.«01_k».proof.Proof.RefTop
public import proofs.«01_k».proof.Proof.FrameBits
public import Idealize.ShloMosaic.Adequacy
public import Idealize.ShloMosaic.Init

@[expose] public section

noncomputable section

namespace Cert.Proof

open Idealize.ShloMosaic Idealize.SL.Sem

/-- The reference terminates, leaves its arguments as they were, and declares no semaphore. -/
theorem reference_frame : Cert.quiescent_ReferenceIdeal := fun m g _ =>
  (θ_run _ _ _).mono (fun _ h => ⟨fun c => (h c).2, funext fun s => by rcases s with ⟨_, s⟩; exact nomatch s⟩)
    (Cert.ReferenceIdeal.Value.run m g)

/-- The stated precondition's side condition. -/
instance facts_pre : Cert.Pre_scales_finite.Facts := ⟨by decide⟩

/-- A number whose absolute value is below infinity is real. -/
theorem real_of_lt (x : EReal) (h : Ideal.cmp .olt (max x (-x)) (Ideal.ofBits .f32 0x7F800000#32) = 1#1) : ∃ σ : ℝ, x = (σ : EReal) := by
  have top : Ideal.ofBits .f32 0x7F800000#32 = ⊤ := by simp [Ideal.ofBits, Ideal.ieee]
  rw [top] at h
  induction x using EReal.rec with
  | bot => simp [Ideal.cmp] at h
  | coe r => exact ⟨r, rfl⟩
  | top => simp [Ideal.cmp] at h

/-- Under the precondition the kernel's scales are real numbers. -/
theorem real_scales (m : (ℓ : Loc Cert.KernelIdeal.nD Cert.KernelIdeal.τ Cert.KernelIdeal.sig) → Buf (Elt Ideal) ℓ)
    (h : Cert.Pre_KernelIdeal_scales_finite m) (c : Dev Cert.KernelIdeal.nD) : Cert.KernelIdeal.Hand.RealScales m c :=
  fun b s lev => real_of_lt _ (congrFun (h c) (ValueIdx.ix3 b s lev))

/-- Equal arguments have equal tables. -/
theorem table_congr {x0 y0 : IVec ⟨4, ![18, 4352, 46, 96]⟩ 8} {x1 y1 : IVec ⟨4, ![18, 4352, 23, 48]⟩ 8}
    {x2 y2 : IVec ⟨4, ![18, 4352, 11, 24]⟩ 8} {x3 y3 : IVec ⟨4, ![18, 4352, 5, 12]⟩ 8}
    {x4 y4 : FVec Ideal ⟨3, ![18, 4352, 4]⟩ .f32} {x5 y5 : FVec Ideal ⟨3, ![18, 4352, 2]⟩ .f32}
    (h0 : x0 = y0) (h1 : x1 = y1) (h2 : x2 = y2) (h3 : x3 = y3) (h4 : x4 = y4) (h5 : x5 = y5) :
    Cert.Axis.table x0 x1 x2 x3 x4 x5 = Cert.Axis.table y0 y1 y2 y3 y4 y5 := by
  rw [h0, h1, h2, h3, h4, h5]

/-- Kernel and reference end with the same numbers. -/
theorem algebraic : Cert.algebraic_KernelIdeal_ReferenceIdeal_pre_scales_finite := fun m g m' g' hpre hargs =>
  ⟨fun c => Cert.KernelIdeal.Hand.tab m c, Cert.KernelIdeal.Hand.run m g (fun c => real_scales m hpre c),
    (θ_run _ _ _).mono (fun _ h c => ⟨(h c).1.trans ((Cert.ReferenceIdeal.Read.val_main_v407_eq (F := Ideal) (StableHlo.launchContents m' c)).trans
        ((Cert.ReferenceIdeal.Hand.ref_eq _ _ _ _ _ _).trans (table_congr (hargs c).1 (hargs c).2.1 (hargs c).2.2.1
          (hargs c).2.2.2.1 (hargs c).2.2.2.2.1 (hargs c).2.2.2.2.2))), (h c).2⟩) (Cert.ReferenceIdeal.Value.run m' g')⟩

theorem claim : Cert.Claim := ⟨Cert.Kernel.Gen.facts, Cert.KernelIdeal.Gen.facts, Cert.ReferenceIdeal.Gen.facts, facts_pre,
  fun m g _ => Cert.Kernel.Hand.frame m g, fun m g _ => Cert.KernelIdeal.Hand.frame m g, fun m g _ => Cert.KernelIdeal.Hand.frame m g,
  reference_frame, fun m g _ => reference_frame m g trivial, trivial, algebraic⟩

end Cert.Proof

end
